-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_RnnKernel (m : (ℓ : Loc Cert.RnnKernel.nD Cert.RnnKernel.τ Cert.RnnKernel.sig) → Buf (Elt Bits) ℓ) : Prop :=
  True

def Pre_RnnKernelIdeal (m : (ℓ : Loc Cert.RnnKernelIdeal.nD Cert.RnnKernelIdeal.τ Cert.RnnKernelIdeal.sig) → Buf (Elt Ideal) ℓ) : Prop :=
  True

def Pre_RnnReferenceIdeal (m : (ℓ : Loc Cert.RnnReferenceIdeal.nD Cert.RnnReferenceIdeal.τ Cert.RnnReferenceIdeal.sig) → Buf (Elt Ideal) ℓ) : Prop :=
  True

def Pre_GdnKernel (m : (ℓ : Loc Cert.GdnKernel.nD Cert.GdnKernel.τ Cert.GdnKernel.sig) → Buf (Elt Bits) ℓ) : Prop :=
  True

def Pre_GdnKernelIdeal (m : (ℓ : Loc Cert.GdnKernelIdeal.nD Cert.GdnKernelIdeal.τ Cert.GdnKernelIdeal.sig) → Buf (Elt Ideal) ℓ) : Prop :=
  True

def Pre_GdnReferenceIdeal (m : (ℓ : Loc Cert.GdnReferenceIdeal.nD Cert.GdnReferenceIdeal.τ Cert.GdnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def quiescent_RnnKernel [hRnnKernel : Cert.RnnKernel.Facts] : Prop :=
  ∀ (m : (ℓ : Loc Cert.RnnKernel.nD Cert.RnnKernel.τ Cert.RnnKernel.sig) → Buf (Elt Bits) ℓ) (g : Dev Cert.RnnKernel.nD → PrngReg), Pre_RnnKernel m →
    θ_run (Cert.RnnKernel.defs (F := Bits)) (onTc (τ := Cert.RnnKernel.τ) (Cert.RnnKernel.main (F := Bits))) ⟨m, fun _ => 0, g⟩ (fun r => (∀ c : Dev Cert.RnnKernel.nD,
      r.2.mem ((c.tc : Thread Cert.RnnKernel.nD Cert.RnnKernel.τ).loc Cert.RnnKernel.main_arg0) = m ((c.tc : Thread Cert.RnnKernel.nD Cert.RnnKernel.τ).loc Cert.RnnKernel.main_arg0)
      ∧ r.2.mem ((c.tc : Thread Cert.RnnKernel.nD Cert.RnnKernel.τ).loc Cert.RnnKernel.main_arg1) = m ((c.tc : Thread Cert.RnnKernel.nD Cert.RnnKernel.τ).loc Cert.RnnKernel.main_arg1)
      ∧ r.2.mem ((c.tc : Thread Cert.RnnKernel.nD Cert.RnnKernel.τ).loc Cert.RnnKernel.main_arg2) = m ((c.tc : Thread Cert.RnnKernel.nD Cert.RnnKernel.τ).loc Cert.RnnKernel.main_arg2)
      ∧ r.2.mem ((c.tc : Thread Cert.RnnKernel.nD Cert.RnnKernel.τ).loc Cert.RnnKernel.main_arg3) = m ((c.tc : Thread Cert.RnnKernel.nD Cert.RnnKernel.τ).loc Cert.RnnKernel.main_arg3)
      ∧ r.2.mem ((c.tc : Thread Cert.RnnKernel.nD Cert.RnnKernel.τ).loc Cert.RnnKernel.main_arg4) = m ((c.tc : Thread Cert.RnnKernel.nD Cert.RnnKernel.τ).loc Cert.RnnKernel.main_arg4)
      ∧ r.2.mem ((c.tc : Thread Cert.RnnKernel.nD Cert.RnnKernel.τ).loc Cert.RnnKernel.main_arg5) = m ((c.tc : Thread Cert.RnnKernel.nD Cert.RnnKernel.τ).loc Cert.RnnKernel.main_arg5)
      ∧ r.2.mem ((c.tc : Thread Cert.RnnKernel.nD Cert.RnnKernel.τ).loc Cert.RnnKernel.main_arg6) = m ((c.tc : Thread Cert.RnnKernel.nD Cert.RnnKernel.τ).loc Cert.RnnKernel.main_arg6)
      ∧ r.2.mem ((c.tc : Thread Cert.RnnKernel.nD Cert.RnnKernel.τ).loc Cert.RnnKernel.main_arg7) = m ((c.tc : Thread Cert.RnnKernel.nD Cert.RnnKernel.τ).loc Cert.RnnKernel.main_arg7)
      ∧ r.2.mem ((c.tc : Thread Cert.RnnKernel.nD Cert.RnnKernel.τ).loc Cert.RnnKernel.main_arg8) = m ((c.tc : Thread Cert.RnnKernel.nD Cert.RnnKernel.τ).loc Cert.RnnKernel.main_arg8)
      ∧ r.2.mem ((c.tc : Thread Cert.RnnKernel.nD Cert.RnnKernel.τ).loc Cert.RnnKernel.main_arg9) = m ((c.tc : Thread Cert.RnnKernel.nD Cert.RnnKernel.τ).loc Cert.RnnKernel.main_arg9))
      ∧ r.2.sem = fun _ => 0)

def quiescent_RnnKernelIdeal [hRnnKernelIdeal : Cert.RnnKernelIdeal.Facts] : Prop :=
  ∀ (m : (ℓ : Loc Cert.RnnKernelIdeal.nD Cert.RnnKernelIdeal.τ Cert.RnnKernelIdeal.sig) → Buf (Elt Ideal) ℓ) (g : Dev Cert.RnnKernelIdeal.nD → PrngReg), Pre_RnnKernelIdeal m →
    θ_run (Cert.RnnKernelIdeal.defs (F := Ideal)) (onTc (τ := Cert.RnnKernelIdeal.τ) (Cert.RnnKernelIdeal.main (F := Ideal))) ⟨m, fun _ => 0, g⟩ (fun r => (∀ c : Dev Cert.RnnKernelIdeal.nD,
      r.2.mem ((c.tc : Thread Cert.RnnKernelIdeal.nD Cert.RnnKernelIdeal.τ).loc Cert.RnnKernelIdeal.main_arg0) = m ((c.tc : Thread Cert.RnnKernelIdeal.nD Cert.RnnKernelIdeal.τ).loc Cert.RnnKernelIdeal.main_arg0)
      ∧ r.2.mem ((c.tc : Thread Cert.RnnKernelIdeal.nD Cert.RnnKernelIdeal.τ).loc Cert.RnnKernelIdeal.main_arg1) = m ((c.tc : Thread Cert.RnnKernelIdeal.nD Cert.RnnKernelIdeal.τ).loc Cert.RnnKernelIdeal.main_arg1)
      ∧ r.2.mem ((c.tc : Thread Cert.RnnKernelIdeal.nD Cert.RnnKernelIdeal.τ).loc Cert.RnnKernelIdeal.main_arg2) = m ((c.tc : Thread Cert.RnnKernelIdeal.nD Cert.RnnKernelIdeal.τ).loc Cert.RnnKernelIdeal.main_arg2)
      ∧ r.2.mem ((c.tc : Thread Cert.RnnKernelIdeal.nD Cert.RnnKernelIdeal.τ).loc Cert.RnnKernelIdeal.main_arg3) = m ((c.tc : Thread Cert.RnnKernelIdeal.nD Cert.RnnKernelIdeal.τ).loc Cert.RnnKernelIdeal.main_arg3)
      ∧ r.2.mem ((c.tc : Thread Cert.RnnKernelIdeal.nD Cert.RnnKernelIdeal.τ).loc Cert.RnnKernelIdeal.main_arg4) = m ((c.tc : Thread Cert.RnnKernelIdeal.nD Cert.RnnKernelIdeal.τ).loc Cert.RnnKernelIdeal.main_arg4)
      ∧ r.2.mem ((c.tc : Thread Cert.RnnKernelIdeal.nD Cert.RnnKernelIdeal.τ).loc Cert.RnnKernelIdeal.main_arg5) = m ((c.tc : Thread Cert.RnnKernelIdeal.nD Cert.RnnKernelIdeal.τ).loc Cert.RnnKernelIdeal.main_arg5)
      ∧ r.2.mem ((c.tc : Thread Cert.RnnKernelIdeal.nD Cert.RnnKernelIdeal.τ).loc Cert.RnnKernelIdeal.main_arg6) = m ((c.tc : Thread Cert.RnnKernelIdeal.nD Cert.RnnKernelIdeal.τ).loc Cert.RnnKernelIdeal.main_arg6)
      ∧ r.2.mem ((c.tc : Thread Cert.RnnKernelIdeal.nD Cert.RnnKernelIdeal.τ).loc Cert.RnnKernelIdeal.main_arg7) = m ((c.tc : Thread Cert.RnnKernelIdeal.nD Cert.RnnKernelIdeal.τ).loc Cert.RnnKernelIdeal.main_arg7)
      ∧ r.2.mem ((c.tc : Thread Cert.RnnKernelIdeal.nD Cert.RnnKernelIdeal.τ).loc Cert.RnnKernelIdeal.main_arg8) = m ((c.tc : Thread Cert.RnnKernelIdeal.nD Cert.RnnKernelIdeal.τ).loc Cert.RnnKernelIdeal.main_arg8)
      ∧ r.2.mem ((c.tc : Thread Cert.RnnKernelIdeal.nD Cert.RnnKernelIdeal.τ).loc Cert.RnnKernelIdeal.main_arg9) = m ((c.tc : Thread Cert.RnnKernelIdeal.nD Cert.RnnKernelIdeal.τ).loc Cert.RnnKernelIdeal.main_arg9))
      ∧ r.2.sem = fun _ => 0)

def quiescent_RnnReferenceIdeal [hRnnReferenceIdeal : Cert.RnnReferenceIdeal.Facts] : Prop :=
  ∀ (m : (ℓ : Loc Cert.RnnReferenceIdeal.nD Cert.RnnReferenceIdeal.τ Cert.RnnReferenceIdeal.sig) → Buf (Elt Ideal) ℓ) (g : Dev Cert.RnnReferenceIdeal.nD → PrngReg), Pre_RnnReferenceIdeal m →
    θ_run (Cert.RnnReferenceIdeal.defs (F := Ideal)) (onTc (τ := Cert.RnnReferenceIdeal.τ) (Cert.RnnReferenceIdeal.main (F := Ideal))) ⟨m, fun _ => 0, g⟩ (fun r => (∀ c : Dev Cert.RnnReferenceIdeal.nD,
      r.2.mem ((c.tc : Thread Cert.RnnReferenceIdeal.nD Cert.RnnReferenceIdeal.τ).loc Cert.RnnReferenceIdeal.main_arg0) = m ((c.tc : Thread Cert.RnnReferenceIdeal.nD Cert.RnnReferenceIdeal.τ).loc Cert.RnnReferenceIdeal.main_arg0)
      ∧ r.2.mem ((c.tc : Thread Cert.RnnReferenceIdeal.nD Cert.RnnReferenceIdeal.τ).loc Cert.RnnReferenceIdeal.main_arg1) = m ((c.tc : Thread Cert.RnnReferenceIdeal.nD Cert.RnnReferenceIdeal.τ).loc Cert.RnnReferenceIdeal.main_arg1)
      ∧ r.2.mem ((c.tc : Thread Cert.RnnReferenceIdeal.nD Cert.RnnReferenceIdeal.τ).loc Cert.RnnReferenceIdeal.main_arg2) = m ((c.tc : Thread Cert.RnnReferenceIdeal.nD Cert.RnnReferenceIdeal.τ).loc Cert.RnnReferenceIdeal.main_arg2)
      ∧ r.2.mem ((c.tc : Thread Cert.RnnReferenceIdeal.nD Cert.RnnReferenceIdeal.τ).loc Cert.RnnReferenceIdeal.main_arg3) = m ((c.tc : Thread Cert.RnnReferenceIdeal.nD Cert.RnnReferenceIdeal.τ).loc Cert.RnnReferenceIdeal.main_arg3)
      ∧ r.2.mem ((c.tc : Thread Cert.RnnReferenceIdeal.nD Cert.RnnReferenceIdeal.τ).loc Cert.RnnReferenceIdeal.main_arg4) = m ((c.tc : Thread Cert.RnnReferenceIdeal.nD Cert.RnnReferenceIdeal.τ).loc Cert.RnnReferenceIdeal.main_arg4)
      ∧ r.2.mem ((c.tc : Thread Cert.RnnReferenceIdeal.nD Cert.RnnReferenceIdeal.τ).loc Cert.RnnReferenceIdeal.main_arg5) = m ((c.tc : Thread Cert.RnnReferenceIdeal.nD Cert.RnnReferenceIdeal.τ).loc Cert.RnnReferenceIdeal.main_arg5)
      ∧ r.2.mem ((c.tc : Thread Cert.RnnReferenceIdeal.nD Cert.RnnReferenceIdeal.τ).loc Cert.RnnReferenceIdeal.main_arg6) = m ((c.tc : Thread Cert.RnnReferenceIdeal.nD Cert.RnnReferenceIdeal.τ).loc Cert.RnnReferenceIdeal.main_arg6)
      ∧ r.2.mem ((c.tc : Thread Cert.RnnReferenceIdeal.nD Cert.RnnReferenceIdeal.τ).loc Cert.RnnReferenceIdeal.main_arg7) = m ((c.tc : Thread Cert.RnnReferenceIdeal.nD Cert.RnnReferenceIdeal.τ).loc Cert.RnnReferenceIdeal.main_arg7)
      ∧ r.2.mem ((c.tc : Thread Cert.RnnReferenceIdeal.nD Cert.RnnReferenceIdeal.τ).loc Cert.RnnReferenceIdeal.main_arg8) = m ((c.tc : Thread Cert.RnnReferenceIdeal.nD Cert.RnnReferenceIdeal.τ).loc Cert.RnnReferenceIdeal.main_arg8)
      ∧ r.2.mem ((c.tc : Thread Cert.RnnReferenceIdeal.nD Cert.RnnReferenceIdeal.τ).loc Cert.RnnReferenceIdeal.main_arg9) = m ((c.tc : Thread Cert.RnnReferenceIdeal.nD Cert.RnnReferenceIdeal.τ).loc Cert.RnnReferenceIdeal.main_arg9))
      ∧ r.2.sem = fun _ => 0)

def quiescent_GdnKernel [hGdnKernel : Cert.GdnKernel.Facts] : Prop :=
  ∀ (m : (ℓ : Loc Cert.GdnKernel.nD Cert.GdnKernel.τ Cert.GdnKernel.sig) → Buf (Elt Bits) ℓ) (g : Dev Cert.GdnKernel.nD → PrngReg), Pre_GdnKernel m →
    θ_run (Cert.GdnKernel.defs (F := Bits)) (onTc (τ := Cert.GdnKernel.τ) (Cert.GdnKernel.main (F := Bits))) ⟨m, fun _ => 0, g⟩ (fun r => (∀ c : Dev Cert.GdnKernel.nD,
      r.2.mem ((c.tc : Thread Cert.GdnKernel.nD Cert.GdnKernel.τ).loc Cert.GdnKernel.main_arg0) = m ((c.tc : Thread Cert.GdnKernel.nD Cert.GdnKernel.τ).loc Cert.GdnKernel.main_arg0)
      ∧ r.2.mem ((c.tc : Thread Cert.GdnKernel.nD Cert.GdnKernel.τ).loc Cert.GdnKernel.main_arg1) = m ((c.tc : Thread Cert.GdnKernel.nD Cert.GdnKernel.τ).loc Cert.GdnKernel.main_arg1)
      ∧ r.2.mem ((c.tc : Thread Cert.GdnKernel.nD Cert.GdnKernel.τ).loc Cert.GdnKernel.main_arg2) = m ((c.tc : Thread Cert.GdnKernel.nD Cert.GdnKernel.τ).loc Cert.GdnKernel.main_arg2)
      ∧ r.2.mem ((c.tc : Thread Cert.GdnKernel.nD Cert.GdnKernel.τ).loc Cert.GdnKernel.main_arg3) = m ((c.tc : Thread Cert.GdnKernel.nD Cert.GdnKernel.τ).loc Cert.GdnKernel.main_arg3)
      ∧ r.2.mem ((c.tc : Thread Cert.GdnKernel.nD Cert.GdnKernel.τ).loc Cert.GdnKernel.main_arg4) = m ((c.tc : Thread Cert.GdnKernel.nD Cert.GdnKernel.τ).loc Cert.GdnKernel.main_arg4)
      ∧ r.2.mem ((c.tc : Thread Cert.GdnKernel.nD Cert.GdnKernel.τ).loc Cert.GdnKernel.main_arg5) = m ((c.tc : Thread Cert.GdnKernel.nD Cert.GdnKernel.τ).loc Cert.GdnKernel.main_arg5)
      ∧ r.2.mem ((c.tc : Thread Cert.GdnKernel.nD Cert.GdnKernel.τ).loc Cert.GdnKernel.main_arg6) = m ((c.tc : Thread Cert.GdnKernel.nD Cert.GdnKernel.τ).loc Cert.GdnKernel.main_arg6)
      ∧ r.2.mem ((c.tc : Thread Cert.GdnKernel.nD Cert.GdnKernel.τ).loc Cert.GdnKernel.main_arg7) = m ((c.tc : Thread Cert.GdnKernel.nD Cert.GdnKernel.τ).loc Cert.GdnKernel.main_arg7))
      ∧ r.2.sem = fun _ => 0)

def quiescent_GdnKernelIdeal [hGdnKernelIdeal : Cert.GdnKernelIdeal.Facts] : Prop :=
  ∀ (m : (ℓ : Loc Cert.GdnKernelIdeal.nD Cert.GdnKernelIdeal.τ Cert.GdnKernelIdeal.sig) → Buf (Elt Ideal) ℓ) (g : Dev Cert.GdnKernelIdeal.nD → PrngReg), Pre_GdnKernelIdeal m →
    θ_run (Cert.GdnKernelIdeal.defs (F := Ideal)) (onTc (τ := Cert.GdnKernelIdeal.τ) (Cert.GdnKernelIdeal.main (F := Ideal))) ⟨m, fun _ => 0, g⟩ (fun r => (∀ c : Dev Cert.GdnKernelIdeal.nD,
      r.2.mem ((c.tc : Thread Cert.GdnKernelIdeal.nD Cert.GdnKernelIdeal.τ).loc Cert.GdnKernelIdeal.main_arg0) = m ((c.tc : Thread Cert.GdnKernelIdeal.nD Cert.GdnKernelIdeal.τ).loc Cert.GdnKernelIdeal.main_arg0)
      ∧ r.2.mem ((c.tc : Thread Cert.GdnKernelIdeal.nD Cert.GdnKernelIdeal.τ).loc Cert.GdnKernelIdeal.main_arg1) = m ((c.tc : Thread Cert.GdnKernelIdeal.nD Cert.GdnKernelIdeal.τ).loc Cert.GdnKernelIdeal.main_arg1)
      ∧ r.2.mem ((c.tc : Thread Cert.GdnKernelIdeal.nD Cert.GdnKernelIdeal.τ).loc Cert.GdnKernelIdeal.main_arg2) = m ((c.tc : Thread Cert.GdnKernelIdeal.nD Cert.GdnKernelIdeal.τ).loc Cert.GdnKernelIdeal.main_arg2)
      ∧ r.2.mem ((c.tc : Thread Cert.GdnKernelIdeal.nD Cert.GdnKernelIdeal.τ).loc Cert.GdnKernelIdeal.main_arg3) = m ((c.tc : Thread Cert.GdnKernelIdeal.nD Cert.GdnKernelIdeal.τ).loc Cert.GdnKernelIdeal.main_arg3)
      ∧ r.2.mem ((c.tc : Thread Cert.GdnKernelIdeal.nD Cert.GdnKernelIdeal.τ).loc Cert.GdnKernelIdeal.main_arg4) = m ((c.tc : Thread Cert.GdnKernelIdeal.nD Cert.GdnKernelIdeal.τ).loc Cert.GdnKernelIdeal.main_arg4)
      ∧ r.2.mem ((c.tc : Thread Cert.GdnKernelIdeal.nD Cert.GdnKernelIdeal.τ).loc Cert.GdnKernelIdeal.main_arg5) = m ((c.tc : Thread Cert.GdnKernelIdeal.nD Cert.GdnKernelIdeal.τ).loc Cert.GdnKernelIdeal.main_arg5)
      ∧ r.2.mem ((c.tc : Thread Cert.GdnKernelIdeal.nD Cert.GdnKernelIdeal.τ).loc Cert.GdnKernelIdeal.main_arg6) = m ((c.tc : Thread Cert.GdnKernelIdeal.nD Cert.GdnKernelIdeal.τ).loc Cert.GdnKernelIdeal.main_arg6)
      ∧ r.2.mem ((c.tc : Thread Cert.GdnKernelIdeal.nD Cert.GdnKernelIdeal.τ).loc Cert.GdnKernelIdeal.main_arg7) = m ((c.tc : Thread Cert.GdnKernelIdeal.nD Cert.GdnKernelIdeal.τ).loc Cert.GdnKernelIdeal.main_arg7))
      ∧ r.2.sem = fun _ => 0)

def quiescent_GdnReferenceIdeal [hGdnReferenceIdeal : Cert.GdnReferenceIdeal.Facts] : Prop :=
  ∀ (m : (ℓ : Loc Cert.GdnReferenceIdeal.nD Cert.GdnReferenceIdeal.τ Cert.GdnReferenceIdeal.sig) → Buf (Elt Ideal) ℓ) (g : Dev Cert.GdnReferenceIdeal.nD → PrngReg), Pre_GdnReferenceIdeal m →
    θ_run (Cert.GdnReferenceIdeal.defs (F := Ideal)) (onTc (τ := Cert.GdnReferenceIdeal.τ) (Cert.GdnReferenceIdeal.main (F := Ideal))) ⟨m, fun _ => 0, g⟩ (fun r => (∀ c : Dev Cert.GdnReferenceIdeal.nD,
      r.2.mem ((c.tc : Thread Cert.GdnReferenceIdeal.nD Cert.GdnReferenceIdeal.τ).loc Cert.GdnReferenceIdeal.main_arg0) = m ((c.tc : Thread Cert.GdnReferenceIdeal.nD Cert.GdnReferenceIdeal.τ).loc Cert.GdnReferenceIdeal.main_arg0)
      ∧ r.2.mem ((c.tc : Thread Cert.GdnReferenceIdeal.nD Cert.GdnReferenceIdeal.τ).loc Cert.GdnReferenceIdeal.main_arg1) = m ((c.tc : Thread Cert.GdnReferenceIdeal.nD Cert.GdnReferenceIdeal.τ).loc Cert.GdnReferenceIdeal.main_arg1)
      ∧ r.2.mem ((c.tc : Thread Cert.GdnReferenceIdeal.nD Cert.GdnReferenceIdeal.τ).loc Cert.GdnReferenceIdeal.main_arg2) = m ((c.tc : Thread Cert.GdnReferenceIdeal.nD Cert.GdnReferenceIdeal.τ).loc Cert.GdnReferenceIdeal.main_arg2)
      ∧ r.2.mem ((c.tc : Thread Cert.GdnReferenceIdeal.nD Cert.GdnReferenceIdeal.τ).loc Cert.GdnReferenceIdeal.main_arg3) = m ((c.tc : Thread Cert.GdnReferenceIdeal.nD Cert.GdnReferenceIdeal.τ).loc Cert.GdnReferenceIdeal.main_arg3)
      ∧ r.2.mem ((c.tc : Thread Cert.GdnReferenceIdeal.nD Cert.GdnReferenceIdeal.τ).loc Cert.GdnReferenceIdeal.main_arg4) = m ((c.tc : Thread Cert.GdnReferenceIdeal.nD Cert.GdnReferenceIdeal.τ).loc Cert.GdnReferenceIdeal.main_arg4)
      ∧ r.2.mem ((c.tc : Thread Cert.GdnReferenceIdeal.nD Cert.GdnReferenceIdeal.τ).loc Cert.GdnReferenceIdeal.main_arg5) = m ((c.tc : Thread Cert.GdnReferenceIdeal.nD Cert.GdnReferenceIdeal.τ).loc Cert.GdnReferenceIdeal.main_arg5)
      ∧ r.2.mem ((c.tc : Thread Cert.GdnReferenceIdeal.nD Cert.GdnReferenceIdeal.τ).loc Cert.GdnReferenceIdeal.main_arg6) = m ((c.tc : Thread Cert.GdnReferenceIdeal.nD Cert.GdnReferenceIdeal.τ).loc Cert.GdnReferenceIdeal.main_arg6)
      ∧ r.2.mem ((c.tc : Thread Cert.GdnReferenceIdeal.nD Cert.GdnReferenceIdeal.τ).loc Cert.GdnReferenceIdeal.main_arg7) = m ((c.tc : Thread Cert.GdnReferenceIdeal.nD Cert.GdnReferenceIdeal.τ).loc Cert.GdnReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v6)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v6) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v34) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)) →
    ∃ (v0 : (c : Dev Cert.KvKernelIdeal.nD) → Buf (Elt Ideal) ((c.tc : Thread Cert.KvKernelIdeal.nD Cert.KvKernelIdeal.τ).loc Cert.KvKernelIdeal.main_v4_0)) (v1 : (c : Dev Cert.KvKernelIdeal.nD) → Buf (Elt Ideal) ((c.tc : Thread Cert.KvKernelIdeal.nD Cert.KvKernelIdeal.τ).loc Cert.KvKernelIdeal.main_v4_1)) (v2 : (c : Dev Cert.KvKernelIdeal.nD) → Buf (Elt Ideal) ((c.tc : Thread Cert.KvKernelIdeal.nD Cert.KvKernelIdeal.τ).loc Cert.KvKernelIdeal.main_v4_2)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v4_0) = v0 c
          ∧ r.2.mem ((c.tc : Thread Cert.KvKernelIdeal.nD Cert.KvKernelIdeal.τ).loc Cert.KvKernelIdeal.main_v4_1) = v1 c
          ∧ r.2.mem ((c.tc : Thread Cert.KvKernelIdeal.nD Cert.KvKernelIdeal.τ).loc Cert.KvKernelIdeal.main_v4_2) = v2 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v18) = v0 c
          ∧ r.2.mem ((c.tc : Thread Cert.KvReferenceIdeal.nD Cert.KvReferenceIdeal.τ).loc Cert.KvReferenceIdeal.main_v19) = v1 c
          ∧ r.2.mem ((c.tc : Thread Cert.KvReferenceIdeal.nD Cert.KvReferenceIdeal.τ).loc Cert.KvReferenceIdeal.main_v20) = v2 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v3) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)) →
    ∃ (v0 : (c : Dev Cert.MemKernelIdeal.nD) → Buf (Elt Ideal) ((c.tc : Thread Cert.MemKernelIdeal.nD Cert.MemKernelIdeal.τ).loc Cert.MemKernelIdeal.main_v1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v1) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v24) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def preserves_RnnKernel_RnnKernelIdeal : Prop :=
  True

def algebraic_RnnKernelIdeal_RnnReferenceIdeal [hRnnKernelIdeal : Cert.RnnKernelIdeal.Facts] [hRnnReferenceIdeal : Cert.RnnReferenceIdeal.Facts] : Prop :=
  ∀ (m : (ℓ : Loc Cert.RnnKernelIdeal.nD Cert.RnnKernelIdeal.τ Cert.RnnKernelIdeal.sig) → Buf (Elt Ideal) ℓ) (g : Dev Cert.RnnKernelIdeal.nD → PrngReg)
    (m' : (ℓ : Loc Cert.RnnReferenceIdeal.nD Cert.RnnReferenceIdeal.τ Cert.RnnReferenceIdeal.sig) → Buf (Elt Ideal) ℓ) (g' : Dev Cert.RnnReferenceIdeal.nD → PrngReg), Pre_RnnKernelIdeal m →
    (∀ c : Dev Cert.RnnKernelIdeal.nD,
      m' ((c.tc : Thread Cert.RnnReferenceIdeal.nD Cert.RnnReferenceIdeal.τ).loc Cert.RnnReferenceIdeal.main_arg0) = m ((c.tc : Thread Cert.RnnKernelIdeal.nD Cert.RnnKernelIdeal.τ).loc Cert.RnnKernelIdeal.main_arg0)
      ∧ m' ((c.tc : Thread Cert.RnnReferenceIdeal.nD Cert.RnnReferenceIdeal.τ).loc Cert.RnnReferenceIdeal.main_arg1) = m ((c.tc : Thread Cert.RnnKernelIdeal.nD Cert.RnnKernelIdeal.τ).loc Cert.RnnKernelIdeal.main_arg1)
      ∧ m' ((c.tc : Thread Cert.RnnReferenceIdeal.nD Cert.RnnReferenceIdeal.τ).loc Cert.RnnReferenceIdeal.main_arg2) = m ((c.tc : Thread Cert.RnnKernelIdeal.nD Cert.RnnKernelIdeal.τ).loc Cert.RnnKernelIdeal.main_arg2)
      ∧ m' ((c.tc : Thread Cert.RnnReferenceIdeal.nD Cert.RnnReferenceIdeal.τ).loc Cert.RnnReferenceIdeal.main_arg3) = m ((c.tc : Thread Cert.RnnKernelIdeal.nD Cert.RnnKernelIdeal.τ).loc Cert.RnnKernelIdeal.main_arg3)
      ∧ m' ((c.tc : Thread Cert.RnnReferenceIdeal.nD Cert.RnnReferenceIdeal.τ).loc Cert.RnnReferenceIdeal.main_arg4) = m ((c.tc : Thread Cert.RnnKernelIdeal.nD Cert.RnnKernelIdeal.τ).loc Cert.RnnKernelIdeal.main_arg4)
      ∧ m' ((c.tc : Thread Cert.RnnReferenceIdeal.nD Cert.RnnReferenceIdeal.τ).loc Cert.RnnReferenceIdeal.main_arg5) = m ((c.tc : Thread Cert.RnnKernelIdeal.nD Cert.RnnKernelIdeal.τ).loc Cert.RnnKernelIdeal.main_arg5)
      ∧ m' ((c.tc : Thread Cert.RnnReferenceIdeal.nD Cert.RnnReferenceIdeal.τ).loc Cert.RnnReferenceIdeal.main_arg6) = m ((c.tc : Thread Cert.RnnKernelIdeal.nD Cert.RnnKernelIdeal.τ).loc Cert.RnnKernelIdeal.main_arg6)
      ∧ m' ((c.tc : Thread Cert.RnnReferenceIdeal.nD Cert.RnnReferenceIdeal.τ).loc Cert.RnnReferenceIdeal.main_arg7) = m ((c.tc : Thread Cert.RnnKernelIdeal.nD Cert.RnnKernelIdeal.τ).loc Cert.RnnKernelIdeal.main_arg7)
      ∧ m' ((c.tc : Thread Cert.RnnReferenceIdeal.nD Cert.RnnReferenceIdeal.τ).loc Cert.RnnReferenceIdeal.main_arg8) = m ((c.tc : Thread Cert.RnnKernelIdeal.nD Cert.RnnKernelIdeal.τ).loc Cert.RnnKernelIdeal.main_arg8)
      ∧ m' ((c.tc : Thread Cert.RnnReferenceIdeal.nD Cert.RnnReferenceIdeal.τ).loc Cert.RnnReferenceIdeal.main_arg9) = m ((c.tc : Thread Cert.RnnKernelIdeal.nD Cert.RnnKernelIdeal.τ).loc Cert.RnnKernelIdeal.main_arg9)) →
    ∃ (v0 : (c : Dev Cert.RnnKernelIdeal.nD) → Buf (Elt Ideal) ((c.tc : Thread Cert.RnnKernelIdeal.nD Cert.RnnKernelIdeal.τ).loc Cert.RnnKernelIdeal.main_v15_0)) (v1 : (c : Dev Cert.RnnKernelIdeal.nD) → Buf (Elt Ideal) ((c.tc : Thread Cert.RnnKernelIdeal.nD Cert.RnnKernelIdeal.τ).loc Cert.RnnKernelIdeal.main_v15_1)) (v2 : (c : Dev Cert.RnnKernelIdeal.nD) → Buf (Elt Ideal) ((c.tc : Thread Cert.RnnKernelIdeal.nD Cert.RnnKernelIdeal.τ).loc Cert.RnnKernelIdeal.main_v15_2)),
      θ_run (Cert.RnnKernelIdeal.defs (F := Ideal)) (onTc (τ := Cert.RnnKernelIdeal.τ) (Cert.RnnKernelIdeal.main (F := Ideal))) ⟨m, fun _ => 0, g⟩ (fun r => ∀ c : Dev Cert.RnnKernelIdeal.nD,
          r.2.mem ((c.tc : Thread Cert.RnnKernelIdeal.nD Cert.RnnKernelIdeal.τ).loc Cert.RnnKernelIdeal.main_v15_0) = v0 c
          ∧ r.2.mem ((c.tc : Thread Cert.RnnKernelIdeal.nD Cert.RnnKernelIdeal.τ).loc Cert.RnnKernelIdeal.main_v15_1) = v1 c
          ∧ r.2.mem ((c.tc : Thread Cert.RnnKernelIdeal.nD Cert.RnnKernelIdeal.τ).loc Cert.RnnKernelIdeal.main_v15_2) = v2 c
          ∧ r.2.mem ((c.tc : Thread Cert.RnnKernelIdeal.nD Cert.RnnKernelIdeal.τ).loc Cert.RnnKernelIdeal.main_arg0) = m ((c.tc : Thread Cert.RnnKernelIdeal.nD Cert.RnnKernelIdeal.τ).loc Cert.RnnKernelIdeal.main_arg0)
          ∧ r.2.mem ((c.tc : Thread Cert.RnnKernelIdeal.nD Cert.RnnKernelIdeal.τ).loc Cert.RnnKernelIdeal.main_arg1) = m ((c.tc : Thread Cert.RnnKernelIdeal.nD Cert.RnnKernelIdeal.τ).loc Cert.RnnKernelIdeal.main_arg1)
          ∧ r.2.mem ((c.tc : Thread Cert.RnnKernelIdeal.nD Cert.RnnKernelIdeal.τ).loc Cert.RnnKernelIdeal.main_arg2) = m ((c.tc : Thread Cert.RnnKernelIdeal.nD Cert.RnnKernelIdeal.τ).loc Cert.RnnKernelIdeal.main_arg2)
          ∧ r.2.mem ((c.tc : Thread Cert.RnnKernelIdeal.nD Cert.RnnKernelIdeal.τ).loc Cert.RnnKernelIdeal.main_arg3) = m ((c.tc : Thread Cert.RnnKernelIdeal.nD Cert.RnnKernelIdeal.τ).loc Cert.RnnKernelIdeal.main_arg3)
          ∧ r.2.mem ((c.tc : Thread Cert.RnnKernelIdeal.nD Cert.RnnKernelIdeal.τ).loc Cert.RnnKernelIdeal.main_arg4) = m ((c.tc : Thread Cert.RnnKernelIdeal.nD Cert.RnnKernelIdeal.τ).loc Cert.RnnKernelIdeal.main_arg4)
          ∧ r.2.mem ((c.tc : Thread Cert.RnnKernelIdeal.nD Cert.RnnKernelIdeal.τ).loc Cert.RnnKernelIdeal.main_arg5) = m ((c.tc : Thread Cert.RnnKernelIdeal.nD Cert.RnnKernelIdeal.τ).loc Cert.RnnKernelIdeal.main_arg5)
          ∧ r.2.mem ((c.tc : Thread Cert.RnnKernelIdeal.nD Cert.RnnKernelIdeal.τ).loc Cert.RnnKernelIdeal.main_arg6) = m ((c.tc : Thread Cert.RnnKernelIdeal.nD Cert.RnnKernelIdeal.τ).loc Cert.RnnKernelIdeal.main_arg6)
          ∧ r.2.mem ((c.tc : Thread Cert.RnnKernelIdeal.nD Cert.RnnKernelIdeal.τ).loc Cert.RnnKernelIdeal.main_arg7) = m ((c.tc : Thread Cert.RnnKernelIdeal.nD Cert.RnnKernelIdeal.τ).loc Cert.RnnKernelIdeal.main_arg7)
          ∧ r.2.mem ((c.tc : Thread Cert.RnnKernelIdeal.nD Cert.RnnKernelIdeal.τ).loc Cert.RnnKernelIdeal.main_arg8) = m ((c.tc : Thread Cert.RnnKernelIdeal.nD Cert.RnnKernelIdeal.τ).loc Cert.RnnKernelIdeal.main_arg8)
          ∧ r.2.mem ((c.tc : Thread Cert.RnnKernelIdeal.nD Cert.RnnKernelIdeal.τ).loc Cert.RnnKernelIdeal.main_arg9) = m ((c.tc : Thread Cert.RnnKernelIdeal.nD Cert.RnnKernelIdeal.τ).loc Cert.RnnKernelIdeal.main_arg9))
      ∧ θ_run (Cert.RnnReferenceIdeal.defs (F := Ideal)) (onTc (τ := Cert.RnnReferenceIdeal.τ) (Cert.RnnReferenceIdeal.main (F := Ideal))) ⟨m', fun _ => 0, g'⟩ (fun r => ∀ c : Dev Cert.RnnReferenceIdeal.nD,
          r.2.mem ((c.tc : Thread Cert.RnnReferenceIdeal.nD Cert.RnnReferenceIdeal.τ).loc Cert.RnnReferenceIdeal.main_v178) = v0 c
          ∧ r.2.mem ((c.tc : Thread Cert.RnnReferenceIdeal.nD Cert.RnnReferenceIdeal.τ).loc Cert.RnnReferenceIdeal.main_v180) = v1 c
          ∧ r.2.mem ((c.tc : Thread Cert.RnnReferenceIdeal.nD Cert.RnnReferenceIdeal.τ).loc Cert.RnnReferenceIdeal.main_v183) = v2 c
          ∧ r.2.mem ((c.tc : Thread Cert.RnnReferenceIdeal.nD Cert.RnnReferenceIdeal.τ).loc Cert.RnnReferenceIdeal.main_arg0) = m' ((c.tc : Thread Cert.RnnReferenceIdeal.nD Cert.RnnReferenceIdeal.τ).loc Cert.RnnReferenceIdeal.main_arg0)
          ∧ r.2.mem ((c.tc : Thread Cert.RnnReferenceIdeal.nD Cert.RnnReferenceIdeal.τ).loc Cert.RnnReferenceIdeal.main_arg1) = m' ((c.tc : Thread Cert.RnnReferenceIdeal.nD Cert.RnnReferenceIdeal.τ).loc Cert.RnnReferenceIdeal.main_arg1)
          ∧ r.2.mem ((c.tc : Thread Cert.RnnReferenceIdeal.nD Cert.RnnReferenceIdeal.τ).loc Cert.RnnReferenceIdeal.main_arg2) = m' ((c.tc : Thread Cert.RnnReferenceIdeal.nD Cert.RnnReferenceIdeal.τ).loc Cert.RnnReferenceIdeal.main_arg2)
          ∧ r.2.mem ((c.tc : Thread Cert.RnnReferenceIdeal.nD Cert.RnnReferenceIdeal.τ).loc Cert.RnnReferenceIdeal.main_arg3) = m' ((c.tc : Thread Cert.RnnReferenceIdeal.nD Cert.RnnReferenceIdeal.τ).loc Cert.RnnReferenceIdeal.main_arg3)
          ∧ r.2.mem ((c.tc : Thread Cert.RnnReferenceIdeal.nD Cert.RnnReferenceIdeal.τ).loc Cert.RnnReferenceIdeal.main_arg4) = m' ((c.tc : Thread Cert.RnnReferenceIdeal.nD Cert.RnnReferenceIdeal.τ).loc Cert.RnnReferenceIdeal.main_arg4)
          ∧ r.2.mem ((c.tc : Thread Cert.RnnReferenceIdeal.nD Cert.RnnReferenceIdeal.τ).loc Cert.RnnReferenceIdeal.main_arg5) = m' ((c.tc : Thread Cert.RnnReferenceIdeal.nD Cert.RnnReferenceIdeal.τ).loc Cert.RnnReferenceIdeal.main_arg5)
          ∧ r.2.mem ((c.tc : Thread Cert.RnnReferenceIdeal.nD Cert.RnnReferenceIdeal.τ).loc Cert.RnnReferenceIdeal.main_arg6) = m' ((c.tc : Thread Cert.RnnReferenceIdeal.nD Cert.RnnReferenceIdeal.τ).loc Cert.RnnReferenceIdeal.main_arg6)
          ∧ r.2.mem ((c.tc : Thread Cert.RnnReferenceIdeal.nD Cert.RnnReferenceIdeal.τ).loc Cert.RnnReferenceIdeal.main_arg7) = m' ((c.tc : Thread Cert.RnnReferenceIdeal.nD Cert.RnnReferenceIdeal.τ).loc Cert.RnnReferenceIdeal.main_arg7)
          ∧ r.2.mem ((c.tc : Thread Cert.RnnReferenceIdeal.nD Cert.RnnReferenceIdeal.τ).loc Cert.RnnReferenceIdeal.main_arg8) = m' ((c.tc : Thread Cert.RnnReferenceIdeal.nD Cert.RnnReferenceIdeal.τ).loc Cert.RnnReferenceIdeal.main_arg8)
          ∧ r.2.mem ((c.tc : Thread Cert.RnnReferenceIdeal.nD Cert.RnnReferenceIdeal.τ).loc Cert.RnnReferenceIdeal.main_arg9) = m' ((c.tc : Thread Cert.RnnReferenceIdeal.nD Cert.RnnReferenceIdeal.τ).loc Cert.RnnReferenceIdeal.main_arg9))

def preserves_GdnKernel_GdnKernelIdeal : Prop :=
  True

def algebraic_GdnKernelIdeal_GdnReferenceIdeal [hGdnKernelIdeal : Cert.GdnKernelIdeal.Facts] [hGdnReferenceIdeal : Cert.GdnReferenceIdeal.Facts] : Prop :=
  ∀ (m : (ℓ : Loc Cert.GdnKernelIdeal.nD Cert.GdnKernelIdeal.τ Cert.GdnKernelIdeal.sig) → Buf (Elt Ideal) ℓ) (g : Dev Cert.GdnKernelIdeal.nD → PrngReg)
    (m' : (ℓ : Loc Cert.GdnReferenceIdeal.nD Cert.GdnReferenceIdeal.τ Cert.GdnReferenceIdeal.sig) → Buf (Elt Ideal) ℓ) (g' : Dev Cert.GdnReferenceIdeal.nD → PrngReg), Pre_GdnKernelIdeal m →
    (∀ c : Dev Cert.GdnKernelIdeal.nD,
      m' ((c.tc : Thread Cert.GdnReferenceIdeal.nD Cert.GdnReferenceIdeal.τ).loc Cert.GdnReferenceIdeal.main_arg0) = m ((c.tc : Thread Cert.GdnKernelIdeal.nD Cert.GdnKernelIdeal.τ).loc Cert.GdnKernelIdeal.main_arg0)
      ∧ m' ((c.tc : Thread Cert.GdnReferenceIdeal.nD Cert.GdnReferenceIdeal.τ).loc Cert.GdnReferenceIdeal.main_arg1) = m ((c.tc : Thread Cert.GdnKernelIdeal.nD Cert.GdnKernelIdeal.τ).loc Cert.GdnKernelIdeal.main_arg1)
      ∧ m' ((c.tc : Thread Cert.GdnReferenceIdeal.nD Cert.GdnReferenceIdeal.τ).loc Cert.GdnReferenceIdeal.main_arg2) = m ((c.tc : Thread Cert.GdnKernelIdeal.nD Cert.GdnKernelIdeal.τ).loc Cert.GdnKernelIdeal.main_arg2)
      ∧ m' ((c.tc : Thread Cert.GdnReferenceIdeal.nD Cert.GdnReferenceIdeal.τ).loc Cert.GdnReferenceIdeal.main_arg3) = m ((c.tc : Thread Cert.GdnKernelIdeal.nD Cert.GdnKernelIdeal.τ).loc Cert.GdnKernelIdeal.main_arg3)
      ∧ m' ((c.tc : Thread Cert.GdnReferenceIdeal.nD Cert.GdnReferenceIdeal.τ).loc Cert.GdnReferenceIdeal.main_arg4) = m ((c.tc : Thread Cert.GdnKernelIdeal.nD Cert.GdnKernelIdeal.τ).loc Cert.GdnKernelIdeal.main_arg4)
      ∧ m' ((c.tc : Thread Cert.GdnReferenceIdeal.nD Cert.GdnReferenceIdeal.τ).loc Cert.GdnReferenceIdeal.main_arg5) = m ((c.tc : Thread Cert.GdnKernelIdeal.nD Cert.GdnKernelIdeal.τ).loc Cert.GdnKernelIdeal.main_arg5)
      ∧ m' ((c.tc : Thread Cert.GdnReferenceIdeal.nD Cert.GdnReferenceIdeal.τ).loc Cert.GdnReferenceIdeal.main_arg6) = m ((c.tc : Thread Cert.GdnKernelIdeal.nD Cert.GdnKernelIdeal.τ).loc Cert.GdnKernelIdeal.main_arg6)
      ∧ m' ((c.tc : Thread Cert.GdnReferenceIdeal.nD Cert.GdnReferenceIdeal.τ).loc Cert.GdnReferenceIdeal.main_arg7) = m ((c.tc : Thread Cert.GdnKernelIdeal.nD Cert.GdnKernelIdeal.τ).loc Cert.GdnKernelIdeal.main_arg7)) →
    ∃ (v0 : (c : Dev Cert.GdnKernelIdeal.nD) → Buf (Elt Ideal) ((c.tc : Thread Cert.GdnKernelIdeal.nD Cert.GdnKernelIdeal.τ).loc Cert.GdnKernelIdeal.main_v6_2)),
      θ_run (Cert.GdnKernelIdeal.defs (F := Ideal)) (onTc (τ := Cert.GdnKernelIdeal.τ) (Cert.GdnKernelIdeal.main (F := Ideal))) ⟨m, fun _ => 0, g⟩ (fun r => ∀ c : Dev Cert.GdnKernelIdeal.nD,
          r.2.mem ((c.tc : Thread Cert.GdnKernelIdeal.nD Cert.GdnKernelIdeal.τ).loc Cert.GdnKernelIdeal.main_v6_2) = v0 c
          ∧ r.2.mem ((c.tc : Thread Cert.GdnKernelIdeal.nD Cert.GdnKernelIdeal.τ).loc Cert.GdnKernelIdeal.main_arg0) = m ((c.tc : Thread Cert.GdnKernelIdeal.nD Cert.GdnKernelIdeal.τ).loc Cert.GdnKernelIdeal.main_arg0)
          ∧ r.2.mem ((c.tc : Thread Cert.GdnKernelIdeal.nD Cert.GdnKernelIdeal.τ).loc Cert.GdnKernelIdeal.main_arg1) = m ((c.tc : Thread Cert.GdnKernelIdeal.nD Cert.GdnKernelIdeal.τ).loc Cert.GdnKernelIdeal.main_arg1)
          ∧ r.2.mem ((c.tc : Thread Cert.GdnKernelIdeal.nD Cert.GdnKernelIdeal.τ).loc Cert.GdnKernelIdeal.main_arg2) = m ((c.tc : Thread Cert.GdnKernelIdeal.nD Cert.GdnKernelIdeal.τ).loc Cert.GdnKernelIdeal.main_arg2)
          ∧ r.2.mem ((c.tc : Thread Cert.GdnKernelIdeal.nD Cert.GdnKernelIdeal.τ).loc Cert.GdnKernelIdeal.main_arg3) = m ((c.tc : Thread Cert.GdnKernelIdeal.nD Cert.GdnKernelIdeal.τ).loc Cert.GdnKernelIdeal.main_arg3)
          ∧ r.2.mem ((c.tc : Thread Cert.GdnKernelIdeal.nD Cert.GdnKernelIdeal.τ).loc Cert.GdnKernelIdeal.main_arg4) = m ((c.tc : Thread Cert.GdnKernelIdeal.nD Cert.GdnKernelIdeal.τ).loc Cert.GdnKernelIdeal.main_arg4)
          ∧ r.2.mem ((c.tc : Thread Cert.GdnKernelIdeal.nD Cert.GdnKernelIdeal.τ).loc Cert.GdnKernelIdeal.main_arg5) = m ((c.tc : Thread Cert.GdnKernelIdeal.nD Cert.GdnKernelIdeal.τ).loc Cert.GdnKernelIdeal.main_arg5)
          ∧ r.2.mem ((c.tc : Thread Cert.GdnKernelIdeal.nD Cert.GdnKernelIdeal.τ).loc Cert.GdnKernelIdeal.main_arg6) = m ((c.tc : Thread Cert.GdnKernelIdeal.nD Cert.GdnKernelIdeal.τ).loc Cert.GdnKernelIdeal.main_arg6)
          ∧ r.2.mem ((c.tc : Thread Cert.GdnKernelIdeal.nD Cert.GdnKernelIdeal.τ).loc Cert.GdnKernelIdeal.main_arg7) = m ((c.tc : Thread Cert.GdnKernelIdeal.nD Cert.GdnKernelIdeal.τ).loc Cert.GdnKernelIdeal.main_arg7))
      ∧ θ_run (Cert.GdnReferenceIdeal.defs (F := Ideal)) (onTc (τ := Cert.GdnReferenceIdeal.τ) (Cert.GdnReferenceIdeal.main (F := Ideal))) ⟨m', fun _ => 0, g'⟩ (fun r => ∀ c : Dev Cert.GdnReferenceIdeal.nD,
          r.2.mem ((c.tc : Thread Cert.GdnReferenceIdeal.nD Cert.GdnReferenceIdeal.τ).loc Cert.GdnReferenceIdeal.main_v4) = v0 c
          ∧ r.2.mem ((c.tc : Thread Cert.GdnReferenceIdeal.nD Cert.GdnReferenceIdeal.τ).loc Cert.GdnReferenceIdeal.main_arg0) = m' ((c.tc : Thread Cert.GdnReferenceIdeal.nD Cert.GdnReferenceIdeal.τ).loc Cert.GdnReferenceIdeal.main_arg0)
          ∧ r.2.mem ((c.tc : Thread Cert.GdnReferenceIdeal.nD Cert.GdnReferenceIdeal.τ).loc Cert.GdnReferenceIdeal.main_arg1) = m' ((c.tc : Thread Cert.GdnReferenceIdeal.nD Cert.GdnReferenceIdeal.τ).loc Cert.GdnReferenceIdeal.main_arg1)
          ∧ r.2.mem ((c.tc : Thread Cert.GdnReferenceIdeal.nD Cert.GdnReferenceIdeal.τ).loc Cert.GdnReferenceIdeal.main_arg2) = m' ((c.tc : Thread Cert.GdnReferenceIdeal.nD Cert.GdnReferenceIdeal.τ).loc Cert.GdnReferenceIdeal.main_arg2)
          ∧ r.2.mem ((c.tc : Thread Cert.GdnReferenceIdeal.nD Cert.GdnReferenceIdeal.τ).loc Cert.GdnReferenceIdeal.main_arg3) = m' ((c.tc : Thread Cert.GdnReferenceIdeal.nD Cert.GdnReferenceIdeal.τ).loc Cert.GdnReferenceIdeal.main_arg3)
          ∧ r.2.mem ((c.tc : Thread Cert.GdnReferenceIdeal.nD Cert.GdnReferenceIdeal.τ).loc Cert.GdnReferenceIdeal.main_arg4) = m' ((c.tc : Thread Cert.GdnReferenceIdeal.nD Cert.GdnReferenceIdeal.τ).loc Cert.GdnReferenceIdeal.main_arg4)
          ∧ r.2.mem ((c.tc : Thread Cert.GdnReferenceIdeal.nD Cert.GdnReferenceIdeal.τ).loc Cert.GdnReferenceIdeal.main_arg5) = m' ((c.tc : Thread Cert.GdnReferenceIdeal.nD Cert.GdnReferenceIdeal.τ).loc Cert.GdnReferenceIdeal.main_arg5)
          ∧ r.2.mem ((c.tc : Thread Cert.GdnReferenceIdeal.nD Cert.GdnReferenceIdeal.τ).loc Cert.GdnReferenceIdeal.main_arg6) = m' ((c.tc : Thread Cert.GdnReferenceIdeal.nD Cert.GdnReferenceIdeal.τ).loc Cert.GdnReferenceIdeal.main_arg6)
          ∧ r.2.mem ((c.tc : Thread Cert.GdnReferenceIdeal.nD Cert.GdnReferenceIdeal.τ).loc Cert.GdnReferenceIdeal.main_arg7) = m' ((c.tc : Thread Cert.GdnReferenceIdeal.nD Cert.GdnReferenceIdeal.τ).loc Cert.GdnReferenceIdeal.main_arg7))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hKvKernel : Cert.KvKernel.Facts) (hKvKernelIdeal : Cert.KvKernelIdeal.Facts) (hKvReferenceIdeal : Cert.KvReferenceIdeal.Facts) (hOutKernel : Cert.OutKernel.Facts) (hOutKernelIdeal : Cert.OutKernelIdeal.Facts) (hOutReferenceIdeal : Cert.OutReferenceIdeal.Facts) (hMergeKernel : Cert.MergeKernel.Facts) (hMergeKernelIdeal : Cert.MergeKernelIdeal.Facts) (hMergeReferenceIdeal : Cert.MergeReferenceIdeal.Facts) (hMemKernel : Cert.MemKernel.Facts) (hMemKernelIdeal : Cert.MemKernelIdeal.Facts) (hMemReferenceIdeal : Cert.MemReferenceIdeal.Facts) (hRnnKernel : Cert.RnnKernel.Facts) (hRnnKernelIdeal : Cert.RnnKernelIdeal.Facts) (hRnnReferenceIdeal : Cert.RnnReferenceIdeal.Facts) (hGdnKernel : Cert.GdnKernel.Facts) (hGdnKernelIdeal : Cert.GdnKernelIdeal.Facts) (hGdnReferenceIdeal : Cert.GdnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_RnnKernel (hRnnKernel := hRnnKernel)
    ∧ quiescent_RnnKernelIdeal (hRnnKernelIdeal := hRnnKernelIdeal)
    ∧ quiescent_RnnReferenceIdeal (hRnnReferenceIdeal := hRnnReferenceIdeal)
    ∧ quiescent_GdnKernel (hGdnKernel := hGdnKernel)
    ∧ quiescent_GdnKernelIdeal (hGdnKernelIdeal := hGdnKernelIdeal)
    ∧ quiescent_GdnReferenceIdeal (hGdnReferenceIdeal := hGdnReferenceIdeal)
    ∧ preserves_Kernel_KernelIdeal
    ∧ algebraic_KernelIdeal_ReferenceIdeal (hKernelIdeal := hKernelIdeal) (hReferenceIdeal := hReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_KvKernel_KvKernelIdeal
    ∧ algebraic_KvKernelIdeal_KvReferenceIdeal (hKvKernelIdeal := hKvKernelIdeal) (hKvReferenceIdeal := hKvReferenceIdeal)
    ∧ preserves_OutKernel_OutKernelIdeal
    ∧ algebraic_OutKernelIdeal_OutReferenceIdeal (hOutKernelIdeal := hOutKernelIdeal) (hOutReferenceIdeal := hOutReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_MemKernel_MemKernelIdeal
    ∧ algebraic_MemKernelIdeal_MemReferenceIdeal (hMemKernelIdeal := hMemKernelIdeal) (hMemReferenceIdeal := hMemReferenceIdeal)
    ∧ preserves_RnnKernel_RnnKernelIdeal
    ∧ algebraic_RnnKernelIdeal_RnnReferenceIdeal (hRnnKernelIdeal := hRnnKernelIdeal) (hRnnReferenceIdeal := hRnnReferenceIdeal)
    ∧ preserves_GdnKernel_GdnKernelIdeal
    ∧ algebraic_GdnKernelIdeal_GdnReferenceIdeal (hGdnKernelIdeal := hGdnKernelIdeal) (hGdnReferenceIdeal := hGdnReferenceIdeal)
-- ==== Kernel.lean ====
abbrev S4x2048x2048 : Shape := ⟨3, ![4, 2048, 2048]⟩
abbrev S1x2048 : Shape := ⟨2, ![1, 2048]⟩
abbrev S1x2048x13328 : Shape := ⟨3, ![1, 2048, 13328]⟩
abbrev S8192x2048 : Shape := ⟨2, ![8192, 2048]⟩
abbrev S2048 : Shape := ⟨1, ![2048]⟩
abbrev S2048x13328 : Shape := ⟨2, ![2048, 13328]⟩
abbrev S13328x2048 : Shape := ⟨2, ![13328, 2048]⟩
abbrev S8192x13312 : Shape := ⟨2, ![8192, 13312]⟩
abbrev S8192x128 : Shape := ⟨2, ![8192, 128]⟩
abbrev S512x2048 : Shape := ⟨2, ![512, 2048]⟩
abbrev S128x2048 : Shape := ⟨2, ![128, 2048]⟩
abbrev S2048x512 : Shape := ⟨2, ![2048, 512]⟩
abbrev S2048x128 : Shape := ⟨2, ![2048, 128]⟩
abbrev S2048x2048 : Shape := ⟨2, ![2048, 2048]⟩
abbrev S_ : Shape := ⟨0, ![]⟩
abbrev S2048x1 : Shape := ⟨2, ![2048, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x13328, .f32⟩
  | .hbm, ⟨3, _⟩ => ⟨S8192x2048, .f32⟩
  | .hbm, ⟨4, _⟩ => ⟨S2048, .f32⟩
  | .hbm, ⟨5, _⟩ => ⟨S2048x13328, .f32⟩
  | .hbm, ⟨6, _⟩ => ⟨S13328x2048, .f32⟩
  | .hbm, ⟨7, _⟩ => ⟨S1x2048, .f32⟩
  | .hbm, ⟨8, _⟩ => ⟨S8192x13312, .f32⟩
  | .hbm, ⟨9, _⟩ => ⟨S8192x128, .f32⟩
  | .local _ .vmem, ⟨0, _⟩ => ⟨S1x2048, .f32⟩
  | .local _ .vmem, ⟨1, _⟩ => ⟨S512x2048, .f32⟩
  | .local _ .vmem, ⟨2, _⟩ => ⟨S512x2048, .f32⟩
  | .local _ .vmem, ⟨3, _⟩ => ⟨S128x2048, .f32⟩
  | .local _ .vmem, ⟨4, _⟩ => ⟨S2048x512, .f32⟩
  | .local _ .vmem, ⟨5, _⟩ => ⟨S2048x512, .f32⟩
  | .local _ .vmem, ⟨6, _⟩ => ⟨S2048x128, .f32⟩
  | .local _ .vmem, ⟨7, _⟩ => ⟨S2048x128, .f32⟩
  | .local _ .vmem, ⟨8, _⟩ => ⟨S2048x2048, .bf16⟩
  | .local _ .vmem, ⟨9, _⟩ => ⟨S2048x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 26], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_11 : BitVec 32 := 0#32
  c0_i32_11
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c2048_i32 : BitVec 32 := 2048#32
  let v20 : BitVec 32 := Scalar.muli arg0 c2048_i32
  v20
def k0_off1 (i : grid0.Coords) : Fin 2 → Nat :=
  let arg0 : BitVec 32 := BitVec.ofNat 32 (i 0).val
  let c2048_i32 : BitVec 32 := 2048#32
  let v20 : BitVec 32 := Scalar.muli arg0 c2048_i32
  let v21 : BitVec 32 := v20
  let c0_i32_11 : BitVec 32 := 0#32
  ![v21.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c4_i32 : BitVec 32 := 4#32
  let v10 : BitVec 1 := Scalar.cmpi .slt v9 c4_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_11 : BitVec 32 := 1#32
  let v20 : BitVec 32 := Scalar.addi arg0 c1_i32_11
  let c2048_i32 : BitVec 32 := 2048#32
  let v21 : BitVec 32 := Scalar.muli v20 c2048_i32
  v21
def k0_off2 (i : grid0.Coords) : Fin 2 → Nat :=
  let arg0 : BitVec 32 := BitVec.ofNat 32 (i 0).val
  let c1_i32_11 : BitVec 32 := 1#32
  let v20 : BitVec 32 := Scalar.addi arg0 c1_i32_11
  let c2048_i32 : BitVec 32 := 2048#32
  let v21 : BitVec 32 := Scalar.muli v20 c2048_i32
  let v22 : BitVec 32 := v21
  let c0_i32_12 : BitVec 32 := 0#32
  ![v22.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c64_i32 : BitVec 32 := 64#32
  let v1 : BitVec 32 := Scalar.muli c64_i32 v0
  let c898_i32 : BitVec 32 := 898#32
  let v2 : BitVec 32 := Scalar.addi c898_i32 v1
  let c12_i32 : BitVec 32 := 12#32
  let v3 : BitVec 32 := Scalar.subi arg1 c12_i32
  let c64_i32_0 : BitVec 32 := 64#32
  let v4 : BitVec 32 := Scalar.muli c64_i32_0 v3
  let c0_i32_1 : BitVec 32 := 0#32
  let v5 : BitVec 32 := Scalar.addi c0_i32_1 v4
  let c12_i32_2 : BitVec 32 := 12#32
  let v6 : BitVec 1 := Scalar.cmpi .sge arg1 c12_i32_2
  let v7 : BitVec 32 := Scalar.select v6 v5 v2
  let c24_i32 : BitVec 32 := 24#32
  let v8 : BitVec 32 := Scalar.subi arg1 c24_i32
  let c64_i32_3 : BitVec 32 := 64#32
  let v9 : BitVec 32 := Scalar.muli c64_i32_3 v8
  let c770_i32 : BitVec 32 := 770#32
  let v10 : BitVec 32 := Scalar.addi c770_i32 v9
  let c24_i32_4 : BitVec 32 := 24#32
  let v11 : BitVec 1 := Scalar.cmpi .sge arg1 c24_i32_4
  let v12 : BitVec 32 := Scalar.select v11 v10 v7
  let c8_i32 : BitVec 32 := 8#32
  let v13 : BitVec 32 := Scalar.muli v12 c8_i32
  let c0_i32_5 : BitVec 32 := 0#32
  let c0_i32_6 : BitVec 32 := 0#32
  ![v13.toNat, c0_i32_5.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let c0_i32 : BitVec 32 := 0#32
  let c0_i32_0 : BitVec 32 := 0#32
  ![c48_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x2048x2048 : Shape := ⟨3, ![4, 2048, 2048]⟩
abbrev S1x2048 : Shape := ⟨2, ![1, 2048]⟩
abbrev S1x2048x13328 : Shape := ⟨3, ![1, 2048, 13328]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x13328 : Shape := ⟨2, ![2048, 13328]⟩
abbrev S4x2048x13328 : Shape := ⟨3, ![4, 2048, 13328]⟩
abbrev S4x2048x1024 : Shape := ⟨3, ![4, 2048, 1024]⟩
abbrev S4x2048x8 : Shape := ⟨3, ![4, 2048, 8]⟩
abbrev S4x2048x6144 : Shape := ⟨3, ![4, 2048, 6144]⟩
abbrev S4x2048x13312 : Shape := ⟨3, ![4, 2048, 13312]⟩
abbrev S4x2048x112 : Shape := ⟨3, ![4, 2048, 112]⟩
abbrev S4x2048x128 : Shape := ⟨3, ![4, 2048, 128]⟩
abbrev S8192x13312 : Shape := ⟨2, ![8192, 13312]⟩
abbrev S8192x128 : Shape := ⟨2, ![8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x13328, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x13328, .f32⟩
  | .hbm, ⟨21, _⟩ => ⟨S4x2048x13328, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x8, .f32⟩
  | .hbm, ⟨29, _⟩ => ⟨S4x2048x8, .f32⟩
  | .hbm, ⟨30, _⟩ => ⟨S4x2048x1024, .f32⟩
  | .hbm, ⟨31, _⟩ => ⟨S4x2048x6144, .f32⟩
  | .hbm, ⟨32, _⟩ => ⟨S4x2048x13312, .f32⟩
  | .hbm, ⟨33, _⟩ => ⟨S4x2048x112, .f32⟩
  | .hbm, ⟨34, _⟩ => ⟨S4x2048x128, .f32⟩
  | .hbm, ⟨35, _⟩ => ⟨S8192x13312, .f32⟩
  | .hbm, ⟨36, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== MlpKernel.lean ====
abbrev S4x2048x2048 : Shape := ⟨3, ![4, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S8192x2048 : Shape := ⟨2, ![8192, 2048]⟩
abbrev S2048x8192 : Shape := ⟨2, ![2048, 8192]⟩
abbrev S2048x512 : Shape := ⟨2, ![2048, 512]⟩
abbrev S512x2048 : Shape := ⟨2, ![512, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1024x512 : Shape := ⟨2, ![1024, 512]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S8192x2048, .f32⟩
  | .hbm, ⟨6, _⟩ => ⟨S2048, .f32⟩
  | .hbm, ⟨7, _⟩ => ⟨S2048x8192, .f32⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S1x2048, .f32⟩
  | .local _ .vmem, ⟨1, _⟩ => ⟨S2048x512, .f32⟩
  | .local _ .vmem, ⟨2, _⟩ => ⟨S2048x512, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | .local _ .vmem, ⟨9, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_18 : BitVec 32 := 0#32
  c0_i32_18
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v34 : BitVec 32 := Scalar.muli arg0 c1024_i32
  v34
def k0_off1 (i : grid0.Coords) : Fin 2 → Nat :=
  let arg0 : BitVec 32 := BitVec.ofNat 32 (i 0).val
  let c1024_i32 : BitVec 32 := 1024#32
  let v34 : BitVec 32 := Scalar.muli arg0 c1024_i32
  let v35 : BitVec 32 := v34
  let c0_i32_18 : BitVec 32 := 0#32
  ![v35.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c8_i32 : BitVec 32 := 8#32
  let v10 : BitVec 1 := Scalar.cmpi .slt v9 c8_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg0 : BitVec 32 := BitVec.ofNat 32 (i 0).val
  let c1_i32_18 : BitVec 32 := 1#32
  let v34 : BitVec 32 := Scalar.addi arg0 c1_i32_18
  let c1024_i32 : BitVec 32 := 1024#32
  let v35 : BitVec 32 := Scalar.muli v34 c1024_i32
  v35
def k0_off2 (i : grid0.Coords) : Fin 2 → Nat :=
  let arg0 : BitVec 32 := BitVec.ofNat 32 (i 0).val
  let c1_i32_18 : BitVec 32 := 1#32
  let v34 : BitVec 32 := Scalar.addi arg0 c1_i32_18
  let c1024_i32 : BitVec 32 := 1024#32
  let v35 : BitVec 32 := Scalar.muli v34 c1024_i32
  let v36 : BitVec 32 := v35
  let c0_i32_19 : BitVec 32 := 0#32
  ![v36.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S4x2048x2048 : Shape := ⟨3, ![4, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x8192 : Shape := ⟨2, ![2048, 8192]⟩
abbrev S4x2048x8192 : Shape := ⟨3, ![4, 2048, 8192]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S2048x8192, .f32⟩
  | .hbm, ⟨23, _⟩ => ⟨S4x2048x8192, .f32⟩
  | .hbm, ⟨24, _⟩ => ⟨S_, .f32⟩
  | .hbm, ⟨25, _⟩ => ⟨S4x2048x8192, .f32⟩
  | .hbm, ⟨26, _⟩ => ⟨S4x2048x8192, .f32⟩
  | .hbm, ⟨27, _⟩ => ⟨S4x2048x8192, .f32⟩
  | .hbm, ⟨28, _⟩ => ⟨S8192x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S1x1x2048, .f32⟩
  | .hbm, ⟨45, _⟩ => ⟨S4x2048x2048, .f32⟩
  | .hbm, ⟨46, _⟩ => ⟨S4x2048x2048, .f32⟩
  | .hbm, ⟨47, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== KvKernel.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S2048x2048 : Shape := ⟨2, ![2048, 2048]⟩
abbrev S1024x4x256 : Shape := ⟨3, ![1024, 4, 256]⟩
abbrev S512x2048 : Shape := ⟨2, ![512, 2048]⟩
abbrev S2048x1024 : Shape := ⟨2, ![2048, 1024]⟩
abbrev S512x1024 : Shape := ⟨2, ![512, 1024]⟩
abbrev S512x4x256 : Shape := ⟨3, ![512, 4, 256]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1024x2048, .f32⟩
  | .hbm, ⟨4, _⟩ => ⟨S2048, .f32⟩
  | .hbm, ⟨5, _⟩ => ⟨S2048x2048, .f32⟩
  | .hbm, ⟨6, _⟩ => ⟨S1x2048, .f32⟩
  | .hbm, ⟨7, _⟩ => ⟨S1024x2048, .f32⟩
  | .hbm, ⟨8, _⟩ => ⟨S1024x4x256, .f32⟩
  | .hbm, ⟨9, _⟩ => ⟨S1024x4x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S512x1024, .f32⟩
  | .local _ .vmem, ⟨6, _⟩ => ⟨S512x1024, .f32⟩
  | .local _ .vmem, ⟨7, _⟩ => ⟨S512x4x256, .f32⟩
  | .local _ .vmem, ⟨8, _⟩ => ⟨S512x4x256, .f32⟩
  | .local _ .vmem, ⟨9, _⟩ => ⟨S512x4x256, .f32⟩
  | .local _ .vmem, ⟨10, _⟩ => ⟨S512x4x256, .f32⟩
  | .local _ .vmem, ⟨11, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KvReferenceIdeal.lean ====
abbrev S4x256x2048 : Shape := ⟨3, ![4, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x2048 : Shape := ⟨2, ![2048, 2048]⟩
abbrev S4x256x1024 : Shape := ⟨3, ![4, 256, 1024]⟩
abbrev S1024x2048 : Shape := ⟨2, ![1024, 2048]⟩
abbrev S1024x4x256 : Shape := ⟨3, ![1024, 4, 256]⟩

abbrev nBuf : Space → Nat
  | .hbm => 27
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x2048, .f32⟩
  | .hbm, ⟨21, _⟩ => ⟨S4x256x2048, .f32⟩
  | .hbm, ⟨22, _⟩ => ⟨S4x256x1024, .f32⟩
  | .hbm, ⟨23, _⟩ => ⟨S4x256x1024, .f32⟩
  | .hbm, ⟨24, _⟩ => ⟨S1024x2048, .f32⟩
  | .hbm, ⟨25, _⟩ => ⟨S1024x4x256, .f32⟩
  | .hbm, ⟨26, _⟩ => ⟨S1024x4x256, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OutKernel.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S2048x2048 : Shape := ⟨2, ![2048, 2048]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S4x2048x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S4x2048x2048, .f32⟩
  | .hbm, ⟨3, _⟩ => ⟨S4x2048x2048, .bf16⟩
  | .hbm, ⟨4, _⟩ => ⟨S4x2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeKernel.lean ====
abbrev S8192x1024 : Shape := ⟨2, ![8192, 1024]⟩
abbrev S8192x13312 : Shape := ⟨2, ![8192, 13312]⟩
abbrev S1x1024x2048 : Shape := ⟨3, ![1, 1024, 2048]⟩
abbrev S1024x2048 : Shape := ⟨2, ![1024, 2048]⟩
abbrev S8192x2048 : Shape := ⟨2, ![8192, 2048]⟩
abbrev S2048x1024 : Shape := ⟨2, ![2048, 1024]⟩
abbrev S2048x256 : Shape := ⟨2, ![2048, 256]⟩
abbrev S1024x256 : Shape := ⟨2, ![1024, 256]⟩
abbrev S256x256 : Shape := ⟨2, ![256, 256]⟩
abbrev S256x1024 : Shape := ⟨2, ![256, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x13312, .f32⟩
  | .hbm, ⟨4, _⟩ => ⟨S1x1024x2048, .f32⟩
  | .hbm, ⟨5, _⟩ => ⟨S1x1024x2048, .f32⟩
  | .hbm, ⟨6, _⟩ => ⟨S1x1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S2048x256, .bf16⟩
  | .local _ .vmem, ⟨19, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S8192x1024 : Shape := ⟨2, ![8192, 1024]⟩
abbrev S8192x13312 : Shape := ⟨2, ![8192, 13312]⟩
abbrev S1x1024x2048 : Shape := ⟨3, ![1, 1024, 2048]⟩
abbrev S8192x6144 : Shape := ⟨2, ![8192, 6144]⟩
abbrev S8192x3x2048 : Shape := ⟨3, ![8192, 3, 2048]⟩
abbrev S_ : Shape := ⟨0, ![]⟩
abbrev S8192x1x2048 : Shape := ⟨3, ![8192, 1, 2048]⟩
abbrev S8192x2048 : Shape := ⟨2, ![8192, 2048]⟩
abbrev S1024x2048 : Shape := ⟨2, ![1024, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x13312, .f32⟩
  | .hbm, ⟨4, _⟩ => ⟨S1x1024x2048, .f32⟩
  | .hbm, ⟨5, _⟩ => ⟨S1x1024x2048, .f32⟩
  | .hbm, ⟨6, _⟩ => ⟨S1x1024x2048, .f32⟩
  | .hbm, ⟨7, _⟩ => ⟨S8192x6144, .f32⟩
  | .hbm, ⟨8, _⟩ => ⟨S8192x3x2048, .f32⟩
  | .hbm, ⟨9, _⟩ => ⟨S8192x3x2048, .f32⟩
  | .hbm, ⟨10, _⟩ => ⟨S8192x3x2048, .f32⟩
  | .hbm, ⟨11, _⟩ => ⟨S_, .f32⟩
  | .hbm, ⟨12, _⟩ => ⟨S8192x3x2048, .f32⟩
  | .hbm, ⟨13, _⟩ => ⟨S8192x3x2048, .f32⟩
  | .hbm, ⟨14, _⟩ => ⟨S_, .f32⟩
  | .hbm, ⟨15, _⟩ => ⟨S8192x3x2048, .f32⟩
  | .hbm, ⟨16, _⟩ => ⟨S8192x3x2048, .f32⟩
  | .hbm, ⟨17, _⟩ => ⟨S8192x1x2048, .f32⟩
  | .hbm, ⟨18, _⟩ => ⟨S8192x2048, .f32⟩
  | .hbm, ⟨19, _⟩ => ⟨S8192x1024, .f32⟩
  | .hbm, ⟨20, _⟩ => ⟨S1024x2048, .f32⟩
  | .hbm, ⟨21, _⟩ => ⟨S8192x2048, .f32⟩
  | .hbm, ⟨22, _⟩ => ⟨S8192x2048, .f32⟩
  | .hbm, ⟨23, _⟩ => ⟨S8192x1x2048, .f32⟩
  | .hbm, ⟨24, _⟩ => ⟨S8192x2048, .f32⟩
  | .hbm, ⟨25, _⟩ => ⟨S8192x1024, .f32⟩
  | .hbm, ⟨26, _⟩ => ⟨S1024x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x1x2048, .f32⟩
  | .hbm, ⟨31, _⟩ => ⟨S8192x2048, .f32⟩
  | .hbm, ⟨32, _⟩ => ⟨S8192x1024, .f32⟩
  | .hbm, ⟨33, _⟩ => ⟨S1024x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MemKernel.lean ====
abbrev S8192x13312 : Shape := ⟨2, ![8192, 13312]⟩
abbrev S1024x2048 : Shape := ⟨2, ![1024, 2048]⟩
abbrev S4x256x2048 : Shape := ⟨3, ![4, 256, 2048]⟩
abbrev S8192x1024 : Shape := ⟨2, ![8192, 1024]⟩
abbrev S1024x1024 : Shape := ⟨2, ![1024, 1024]⟩
abbrev S1x256x1024 : Shape := ⟨3, ![1, 256, 1024]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x13312, .f32⟩
  | .hbm, ⟨1, _⟩ => ⟨S1024x2048, .f32⟩
  | .hbm, ⟨2, _⟩ => ⟨S4x256x2048, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S1024x1024, .bf16⟩
  | _, _ => ⟨S8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c12_i32 : BitVec 32 := 12#32
  let c0_i32 : BitVec 32 := 0#32
  ![v1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemReferenceIdeal.lean ====
abbrev S8192x13312 : Shape := ⟨2, ![8192, 13312]⟩
abbrev S1024x2048 : Shape := ⟨2, ![1024, 2048]⟩
abbrev S8192x1024 : Shape := ⟨2, ![8192, 1024]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x13312, .f32⟩
  | .hbm, ⟨1, _⟩ => ⟨S1024x2048, .f32⟩
  | .hbm, ⟨2, _⟩ => ⟨S8192x1024, .f32⟩
  | .hbm, ⟨3, _⟩ => ⟨S4x2048x4x256, .f32⟩
  | .hbm, ⟨4, _⟩ => ⟨S4x256x2048, .f32⟩
  | .hbm, ⟨5, _⟩ => ⟨S4x256x1024, .f32⟩
  | .hbm, ⟨6, _⟩ => ⟨S4x256x1024, .f32⟩
  | .hbm, ⟨7, _⟩ => ⟨S4x256x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x256x2048, .f32⟩
  | .hbm, ⟨28, _⟩ => ⟨S4x2048x4x256, .f32⟩
  | .hbm, ⟨29, _⟩ => ⟨S8192x1024, .f32⟩
  | .hbm, ⟨30, _⟩ => ⟨S8192x1024, .bf16⟩
  | _, _ => ⟨S8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== RnnKernel.lean ====
abbrev S1024x13312 : Shape := ⟨2, ![1024, 13312]⟩
abbrev S128x3x1024 : Shape := ⟨3, ![128, 3, 1024]⟩
abbrev S128x1024 : Shape := ⟨2, ![128, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S8x128x128 : Shape := ⟨3, ![8, 128, 128]⟩
abbrev S8x128x256 : Shape := ⟨3, ![8, 128, 256]⟩
abbrev S3x128x1024 : Shape := ⟨3, ![3, 128, 1024]⟩
abbrev S128x1x1024 : Shape := ⟨3, ![128, 1, 1024]⟩
abbrev S4x1024 : Shape := ⟨2, ![4, 1024]⟩
abbrev S1024 : Shape := ⟨1, ![1024]⟩
abbrev S1024x1024 : Shape := ⟨2, ![1024, 1024]⟩
abbrev S3x16x1024 : Shape := ⟨3, ![3, 16, 1024]⟩
abbrev S16x1x1024 : Shape := ⟨3, ![16, 1, 1024]⟩
abbrev S16x8x1024 : Shape := ⟨3, ![16, 8, 1024]⟩
abbrev S1x16x1024 : Shape := ⟨3, ![1, 16, 1024]⟩
abbrev S16x1024 : Shape := ⟨2, ![16, 1024]⟩
abbrev S1x1x1024 : Shape := ⟨3, ![1, 1, 1024]⟩
abbrev S128x128 : Shape := ⟨2, ![128, 128]⟩
abbrev S1x128x256 : Shape := ⟨3, ![1, 128, 256]⟩
abbrev S128x256 : Shape := ⟨2, ![128, 256]⟩

abbrev nBuf : Space → Nat
  | .hbm => 28
  | .vmem => 20
  | .smem => 0
  | _ => 0

abbrev bufTy : (tb : Table) → Fin (tcTables nBuf tb) → BufTy
  | .hbm, ⟨0, _⟩ => ⟨S1024x13312, .f32⟩
  | .hbm, ⟨1, _⟩ => ⟨S128x3x1024, .f32⟩
  | .hbm, ⟨2, _⟩ => ⟨S128x1024, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x1024, .f32⟩
  | .hbm, ⟨10, _⟩ => ⟨S8x128x128, .f32⟩
  | .hbm, ⟨11, _⟩ => ⟨S8x128x128, .f32⟩
  | .hbm, ⟨12, _⟩ => ⟨S8x128x256, .f32⟩
  | .hbm, ⟨13, _⟩ => ⟨S8x128x256, .bf16⟩
  | .hbm, ⟨14, _⟩ => ⟨S3x128x1024, .f32⟩
  | .hbm, ⟨15, _⟩ => ⟨S128x1x1024, .f32⟩
  | .hbm, ⟨16, _⟩ => ⟨S4x1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1024x1024, .bf16⟩
  | .hbm, ⟨26, _⟩ => ⟨S3x128x1024, .f32⟩
  | .hbm, ⟨27, _⟩ => ⟨S128x1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S3x16x1024, .f32⟩
  | .local _ .vmem, ⟨5, _⟩ => ⟨S3x16x1024, .f32⟩
  | .local _ .vmem, ⟨6, _⟩ => ⟨S16x1x1024, .f32⟩
  | .local _ .vmem, ⟨7, _⟩ => ⟨S16x1x1024, .f32⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S128x1024, .bf16⟩
  | .local _ .vmem, ⟨15, _⟩ => ⟨S128x1024, .bf16⟩
  | .local _ .vmem, ⟨16, _⟩ => ⟨S3x16x1024, .f32⟩
  | .local _ .vmem, ⟨17, _⟩ => ⟨S3x16x1024, .f32⟩
  | .local _ .vmem, ⟨18, _⟩ => ⟨S16x1x1024, .f32⟩
  | .local _ .vmem, ⟨19, _⟩ => ⟨S16x1x1024, .f32⟩
  | _, _ => ⟨S1024x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RnnReferenceIdeal.lean ====
abbrev S1024x13312 : Shape := ⟨2, ![1024, 13312]⟩
abbrev S128x3x1024 : Shape := ⟨3, ![128, 3, 1024]⟩
abbrev S128x1024 : Shape := ⟨2, ![128, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S1024x1024 : Shape := ⟨2, ![1024, 1024]⟩
abbrev S128x8x1024 : Shape := ⟨3, ![128, 8, 1024]⟩
abbrev S128x11x1024 : Shape := ⟨3, ![128, 11, 1024]⟩
abbrev S4x1024 : Shape := ⟨2, ![4, 1024]⟩
abbrev S1024 : Shape := ⟨1, ![1024]⟩
abbrev S1x1x1024 : Shape := ⟨3, ![1, 1, 1024]⟩
abbrev S_ : Shape := ⟨0, ![]⟩
abbrev S128x8x8x128 : Shape := ⟨4, ![128, 8, 8, 128]⟩
abbrev S8x128x128 : Shape := ⟨3, ![8, 128, 128]⟩
abbrev S8x128x128x8 : Shape := ⟨4, ![8, 128, 128, 8]⟩
abbrev S128x1x1024 : Shape := ⟨3, ![128, 1, 1024]⟩
abbrev S1 : Shape := ⟨1, ![1]⟩
abbrev S128x4x1024 : Shape := ⟨3, ![128, 4, 1024]⟩
abbrev S128x2x1024 : Shape := ⟨3, ![128, 2, 1024]⟩
abbrev S128x0x1024 : Shape := ⟨3, ![128, 0, 1024]⟩
abbrev S3x128x1024 : Shape := ⟨3, ![3, 128, 1024]⟩

abbrev nBuf : Space → Nat
  | .hbm => 233
  | .vmem => 0
  | .smem => 0
  | _ => 0

abbrev hbmTy0_0 (i : Nat) : BufTy := match i % 128 with
  | 0 => ⟨S1024x13312, .f32⟩
  | 1 => ⟨S128x3x1024, .f32⟩
  | 2 => ⟨S128x1024, .f32⟩
  | 3 => ⟨S1x4x1024, .f32⟩
  | 4 => ⟨S1x1024, .f32⟩
  | 5 => ⟨S1x8x128x128, .f32⟩
  | 6 => ⟨S1x1024, .f32⟩
  | 7 => ⟨S1x8x128x128, .f32⟩
  | 8 => ⟨S1x1024, .f32⟩
  | 9 => ⟨S1x1024, .f32⟩
  | 10 => ⟨S1024x1024, .f32⟩
  | 11 => ⟨S128x8x1024, .f32⟩
  | 12 => ⟨S1024x1024, .f32⟩
  | 13 => ⟨S128x8x1024, .f32⟩
  | 14 => ⟨S128x11x1024, .f32⟩
  | 15 => ⟨S128x8x1024, .f32⟩
  | 16 => ⟨S4x1024, .f32⟩
  | 17 => ⟨S1x1024, .f32⟩
  | 18 => ⟨S1024, .f32⟩
  | 19 => ⟨S1x1x1024, .f32⟩
  | 20 => ⟨S128x8x1024, .f32⟩
  | 21 => ⟨S128x8x1024, .f32⟩
  | 22 => ⟨S_, .f32⟩
  | 23 => ⟨S128x8x1024, .f32⟩
  | 24 => ⟨S128x8x1024, .f32⟩
  | 25 => ⟨S128x8x1024, .f32⟩
  | 26 => ⟨S4x1024, .f32⟩
  | 27 => ⟨S1x1024, .f32⟩
  | 28 => ⟨S1024, .f32⟩
  | 29 => ⟨S1x1x1024, .f32⟩
  | 30 => ⟨S128x8x1024, .f32⟩
  | 31 => ⟨S128x8x1024, .f32⟩
  | 32 => ⟨S128x8x1024, .f32⟩
  | 33 => ⟨S128x8x1024, .f32⟩
  | 34 => ⟨S4x1024, .f32⟩
  | 35 => ⟨S1x1024, .f32⟩
  | 36 => ⟨S1024, .f32⟩
  | 37 => ⟨S1x1x1024, .f32⟩
  | 38 => ⟨S128x8x1024, .f32⟩
  | 39 => ⟨S128x8x1024, .f32⟩
  | 40 => ⟨S128x8x1024, .f32⟩
  | 41 => ⟨S128x8x1024, .f32⟩
  | 42 => ⟨S4x1024, .f32⟩
  | 43 => ⟨S1x1024, .f32⟩
  | 44 => ⟨S1024, .f32⟩
  | 45 => ⟨S1x1x1024, .f32⟩
  | 46 => ⟨S128x8x1024, .f32⟩
  | 47 => ⟨S128x8x1024, .f32⟩
  | 48 => ⟨S128x8x1024, .f32⟩
  | 49 => ⟨S1024, .f32⟩
  | 50 => ⟨S1x1x1024, .f32⟩
  | 51 => ⟨S128x8x1024, .f32⟩
  | 52 => ⟨S128x8x1024, .f32⟩
  | 53 => ⟨S128x8x8x128, .f32⟩
  | 54 => ⟨S8x128x128, .f32⟩
  | 55 => ⟨S8x128x128x8, .f32⟩
  | 56 => ⟨S128x8x8x128, .f32⟩
  | 57 => ⟨S128x8x1024, .f32⟩
  | 58 => ⟨S1024, .f32⟩
  | 59 => ⟨S1x1x1024, .f32⟩
  | 60 => ⟨S128x8x1024, .f32⟩
  | 61 => ⟨S128x8x1024, .f32⟩
  | 62 => ⟨S128x8x1024, .f32⟩
  | 63 => ⟨S128x8x1024, .f32⟩
  | 64 => ⟨S_, .f32⟩
  | 65 => ⟨S128x8x1024, .f32⟩
  | 66 => ⟨S128x8x1024, .f32⟩
  | 67 => ⟨S_, .f32⟩
  | 68 => ⟨S128x8x1024, .f32⟩
  | 69 => ⟨S128x8x1024, .f32⟩
  | 70 => ⟨S8x128x128, .f32⟩
  | 71 => ⟨S8x128x128x8, .f32⟩
  | 72 => ⟨S128x8x8x128, .f32⟩
  | 73 => ⟨S128x8x1024, .f32⟩
  | 74 => ⟨S1024, .f32⟩
  | 75 => ⟨S1x1x1024, .f32⟩
  | 76 => ⟨S128x8x1024, .f32⟩
  | 77 => ⟨S128x8x1024, .f32⟩
  | 78 => ⟨S128x8x1024, .f32⟩
  | 79 => ⟨S128x8x1024, .f32⟩
  | 80 => ⟨S_, .f32⟩
  | 81 => ⟨S128x8x1024, .f32⟩
  | 82 => ⟨S128x8x1024, .f32⟩
  | 83 => ⟨S_, .f32⟩
  | 84 => ⟨S128x8x1024, .f32⟩
  | 85 => ⟨S128x8x1024, .f32⟩
  | 86 => ⟨S_, .f32⟩
  | 87 => ⟨S128x8x1024, .f32⟩
  | 88 => ⟨S128x8x1024, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S1024, .f32⟩
  | 96 => ⟨S1024, .i1⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1x1x1024, .f32⟩
  | 107 => ⟨S128x8x1024, .f32⟩
  | 108 => ⟨S128x8x1024, .f32⟩
  | 109 => ⟨S128x8x1024, .f32⟩
  | 110 => ⟨S_, .f32⟩
  | 111 => ⟨S128x8x1024, .f32⟩
  | 112 => ⟨S128x8x1024, .f32⟩
  | 113 => ⟨S128x8x1024, .f32⟩
  | 114 => ⟨S128x8x1024, .f32⟩
  | 115 => ⟨S128x8x1024, .f32⟩
  | 116 => ⟨S128x8x1024, .f32⟩
  | 117 => ⟨S128x8x1024, .f32⟩
  | 118 => ⟨S128x1x1024, .f32⟩
  | 119 => ⟨S128x1024, .f32⟩
  | 120 => ⟨S128x1024, .f32⟩
  | 121 => ⟨S_, .i32⟩
  | 122 => ⟨S1, .i32⟩
  | 123 => ⟨S128x8x1024, .f32⟩
  | 124 => ⟨S128x4x1024, .f32⟩
  | 125 => ⟨S128x4x1024, .f32⟩
  | 126 => ⟨S128x4x1024, .f32⟩
  | 127 => ⟨S128x4x1024, .f32⟩
  | _ => ⟨S1024x13312, .f32⟩

abbrev hbmTy0_1 (i : Nat) : BufTy := match i % 128 with
  | 0 => ⟨S128x4x1024, .f32⟩
  | 1 => ⟨S128x4x1024, .f32⟩
  | 2 => ⟨S128x4x1024, .f32⟩
  | 3 => ⟨S128x2x1024, .f32⟩
  | 4 => ⟨S128x2x1024, .f32⟩
  | 5 => ⟨S128x2x1024, .f32⟩
  | 6 => ⟨S128x2x1024, .f32⟩
  | 7 => ⟨S128x2x1024, .f32⟩
  | 8 => ⟨S128x2x1024, .f32⟩
  | 9 => ⟨S128x2x1024, .f32⟩
  | 10 => ⟨S128x1x1024, .f32⟩
  | 11 => ⟨S128x1x1024, .f32⟩
  | 12 => ⟨S128x1x1024, .f32⟩
  | 13 => ⟨S128x1x1024, .f32⟩
  | 14 => ⟨S128x1x1024, .f32⟩
  | 15 => ⟨S128x1x1024, .f32⟩
  | 16 => ⟨S128x1x1024, .f32⟩
  | 17 => ⟨S128x0x1024, .f32⟩
  | 18 => ⟨S128x0x1024, .f32⟩
  | 19 => ⟨S128x0x1024, .f32⟩
  | 20 => ⟨S128x0x1024, .f32⟩
  | 21 => ⟨S128x0x1024, .f32⟩
  | 22 => ⟨S128x0x1024, .f32⟩
  | 23 => ⟨S128x0x1024, .f32⟩
  | 24 => ⟨S128x1x1024, .f32⟩
  | 25 => ⟨S128x1x1024, .f32⟩
  | 26 => ⟨S128x1x1024, .f32⟩
  | 27 => ⟨S128x1x1024, .f32⟩
  | 28 => ⟨S_, .f32⟩
  | 29 => ⟨S128x2x1024, .f32⟩
  | 30 => ⟨S_, .f32⟩
  | 31 => ⟨S128x2x1024, .f32⟩
  | 32 => ⟨S128x2x1024, .f32⟩
  | 33 => ⟨S_, .f32⟩
  | 34 => ⟨S128x2x1024, .f32⟩
  | 35 => ⟨S_, .f32⟩
  | 36 => ⟨S128x2x1024, .f32⟩
  | 37 => ⟨S128x2x1024, .f32⟩
  | 38 => ⟨S128x1x1024, .f32⟩
  | 39 => ⟨S128x1x1024, .f32⟩
  | 40 => ⟨S128x1x1024, .f32⟩
  | 41 => ⟨S128x1x1024, .f32⟩
  | 42 => ⟨S128x1x1024, .f32⟩
  | 43 => ⟨S128x1x1024, .f32⟩
  | 44 => ⟨S128x1x1024, .f32⟩
  | 45 => ⟨S128x1x1024, .f32⟩
  | 46 => ⟨S128x2x1024, .f32⟩
  | 47 => ⟨S128x1x1024, .f32⟩
  | 48 => ⟨S128x2x1024, .f32⟩
  | 49 => ⟨S_, .f32⟩
  | 50 => ⟨S128x4x1024, .f32⟩
  | 51 => ⟨S_, .f32⟩
  | 52 => ⟨S128x4x1024, .f32⟩
  | 53 => ⟨S128x4x1024, .f32⟩
  | 54 => ⟨S_, .f32⟩
  | 55 => ⟨S128x4x1024, .f32⟩
  | 56 => ⟨S_, .f32⟩
  | 57 => ⟨S128x4x1024, .f32⟩
  | 58 => ⟨S128x4x1024, .f32⟩
  | 59 => ⟨S128x3x1024, .f32⟩
  | 60 => ⟨S128x3x1024, .f32⟩
  | 61 => ⟨S128x3x1024, .f32⟩
  | 62 => ⟨S128x3x1024, .f32⟩
  | 63 => ⟨S128x3x1024, .f32⟩
  | 64 => ⟨S128x3x1024, .f32⟩
  | 65 => ⟨S128x3x1024, .f32⟩
  | 66 => ⟨S128x1x1024, .f32⟩
  | 67 => ⟨S128x4x1024, .f32⟩
  | 68 => ⟨S128x1x1024, .f32⟩
  | 69 => ⟨S128x4x1024, .f32⟩
  | 70 => ⟨S_, .f32⟩
  | 71 => ⟨S128x8x1024, .f32⟩
  | 72 => ⟨S_, .f32⟩
  | 73 => ⟨S128x8x1024, .f32⟩
  | 74 => ⟨S128x8x1024, .f32⟩
  | 75 => ⟨S_, .f32⟩
  | 76 => ⟨S128x8x1024, .f32⟩
  | 77 => ⟨S_, .f32⟩
  | 78 => ⟨S128x8x1024, .f32⟩
  | 79 => ⟨S128x8x1024, .f32⟩
  | 80 => ⟨S128x8x1024, .f32⟩
  | 81 => ⟨S128x8x1024, .f32⟩
  | 82 => ⟨S_, .f32⟩
  | 83 => ⟨S128x8x1024, .f32⟩
  | 84 => ⟨S128x8x1024, .f32⟩
  | 85 => ⟨S128x8x1024, .f32⟩
  | 86 => ⟨S_, .f32⟩
  | 87 => ⟨S128x8x1024, .f32⟩
  | 88 => ⟨S128x8x1024, .f32⟩
  | 89 => ⟨S128x8x1024, .f32⟩
  | 90 => ⟨S_, .f32⟩
  | 91 => ⟨S128x8x1024, .f32⟩
  | 92 => ⟨S128x8x1024, .f32⟩
  | 93 => ⟨S_, .f32⟩
  | 94 => ⟨S128x8x1024, .f32⟩
  | 95 => ⟨S128x8x1024, .f32⟩
  | 96 => ⟨S128x8x1024, .f32⟩
  | 97 => ⟨S128x8x1024, .f32⟩
  | 98 => ⟨S1024x1024, .f32⟩
  | 99 => ⟨S1024x1024, .bf16⟩
  | 100 => ⟨S128x3x1024, .f32⟩
  | 101 => ⟨S3x128x1024, .f32⟩
  | 102 => ⟨S128x1x1024, .f32⟩
  | 103 => ⟨S128x1024, .f32⟩
  | 104 => ⟨S128x1x1024, .f32⟩
  | _ => ⟨S1024x13312, .f32⟩

abbrev hbmTy (i : Nat) : BufTy := match i / 128 with
  | 0 => hbmTy0_0 i
  | 1 => hbmTy0_1 i
  | _ => ⟨S1024x13312, .f32⟩

abbrev bufTy : (tb : Table) → Fin (tcTables nBuf tb) → BufTy
  | .hbm, ⟨i, _⟩ => hbmTy i
  | _, _ => ⟨S1024x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_0 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_2 : Ref sig .tc := ⟨.hbm, 80, rfl⟩
abbrev main_v67 : Ref sig .tc := ⟨.hbm, 81, rfl⟩
abbrev main_v68 : Ref sig .tc := ⟨.hbm, 82, rfl⟩
abbrev main_cst_3 : Ref sig .tc := ⟨.hbm, 83, rfl⟩
abbrev main_v69 : Ref sig .tc := ⟨.hbm, 84, rfl⟩
abbrev main_v70 : Ref sig .tc := ⟨.hbm, 85, rfl⟩
abbrev main_cst_4 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_v0 : Ref sig .tc := ⟨.hbm, 90, rfl⟩
abbrev main_call0_call0_cst : Ref sig .tc := ⟨.hbm, 91, rfl⟩
abbrev main_call0_call0_v0 : Ref sig .tc := ⟨.hbm, 92, rfl⟩
abbrev main_call0_call0_v1 : Ref sig .tc := ⟨.hbm, 93, rfl⟩
abbrev main_call0_call0_v2 : Ref sig .tc := ⟨.hbm, 94, rfl⟩
abbrev main_call0_call0_v3 : Ref sig .tc := ⟨.hbm, 95, rfl⟩
abbrev main_call0_call0_v4 : Ref sig .tc := ⟨.hbm, 96, rfl⟩
abbrev main_call0_call0_v5 : Ref sig .tc := ⟨.hbm, 97, rfl⟩
abbrev main_call0_call0_v6 : Ref sig .tc := ⟨.hbm, 98, rfl⟩
abbrev main_call0_call0_v7 : Ref sig .tc := ⟨.hbm, 99, rfl⟩
abbrev main_call0_call0_v8 : Ref sig .tc := ⟨.hbm, 100, rfl⟩
abbrev main_call0_call0_v9 : Ref sig .tc := ⟨.hbm, 101, rfl⟩
abbrev main_call0_call0_v10 : Ref sig .tc := ⟨.hbm, 102, rfl⟩
abbrev main_call0_call0_v11 : Ref sig .tc := ⟨.hbm, 103, rfl⟩
abbrev main_call0_v1 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_5 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_6 : Ref sig .tc := ⟨.hbm, 156, rfl⟩
abbrev main_v123 : Ref sig .tc := ⟨.hbm, 157, rfl⟩
abbrev main_cst_7 : Ref sig .tc := ⟨.hbm, 158, rfl⟩
abbrev main_v124 : Ref sig .tc := ⟨.hbm, 159, rfl⟩
abbrev main_v125 : Ref sig .tc := ⟨.hbm, 160, rfl⟩
abbrev main_cst_8 : Ref sig .tc := ⟨.hbm, 161, rfl⟩
abbrev main_v126 : Ref sig .tc := ⟨.hbm, 162, rfl⟩
abbrev main_cst_9 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_10 : Ref sig .tc := ⟨.hbm, 177, rfl⟩
abbrev main_v140 : Ref sig .tc := ⟨.hbm, 178, rfl⟩
abbrev main_cst_11 : Ref sig .tc := ⟨.hbm, 179, rfl⟩
abbrev main_v141 : Ref sig .tc := ⟨.hbm, 180, rfl⟩
abbrev main_v142 : Ref sig .tc := ⟨.hbm, 181, rfl⟩
abbrev main_cst_12 : Ref sig .tc := ⟨.hbm, 182, rfl⟩
abbrev main_v143 : Ref sig .tc := ⟨.hbm, 183, rfl⟩
abbrev main_cst_13 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_14 : Ref sig .tc := ⟨.hbm, 198, rfl⟩
abbrev main_v157 : Ref sig .tc := ⟨.hbm, 199, rfl⟩
abbrev main_cst_15 : Ref sig .tc := ⟨.hbm, 200, rfl⟩
abbrev main_v158 : Ref sig .tc := ⟨.hbm, 201, rfl⟩
abbrev main_v159 : Ref sig .tc := ⟨.hbm, 202, rfl⟩
abbrev main_cst_16 : Ref sig .tc := ⟨.hbm, 203, rfl⟩
abbrev main_v160 : Ref sig .tc := ⟨.hbm, 204, rfl⟩
abbrev main_cst_17 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_18 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_19 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_20 : Ref sig .tc := ⟨.hbm, 218, rfl⟩
abbrev main_v171 : Ref sig .tc := ⟨.hbm, 219, rfl⟩
abbrev main_v172 : Ref sig .tc := ⟨.hbm, 220, rfl⟩
abbrev main_cst_21 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩

abbrev nD : Nat := 1
abbrev τ : Topo := Topo.v7x

variable {F : FTy → Type} [FloatOps F]
-- ==== GdnKernel.lean ====
abbrev S1024x13312 : Shape := ⟨2, ![1024, 13312]⟩
abbrev S1024x128 : Shape := ⟨2, ![1024, 128]⟩
abbrev S128x3x3072 : Shape := ⟨3, ![128, 3, 3072]⟩
abbrev S1x4x3072 : Shape := ⟨3, ![1, 4, 3072]⟩
abbrev S1x8 : Shape := ⟨2, ![1, 8]⟩
abbrev S1x128 : Shape := ⟨2, ![1, 128]⟩
abbrev S128x8x128x128 : Shape := ⟨4, ![128, 8, 128, 128]⟩
abbrev S_ : Shape := ⟨0, ![]⟩
abbrev S3x128x3072 : Shape := ⟨3, ![3, 128, 3072]⟩
abbrev S4x3072 : Shape := ⟨2, ![4, 3072]⟩
abbrev S128 : Shape := ⟨1, ![128]⟩
abbrev S1024x1024 : Shape := ⟨2, ![1024, 1024]⟩
abbrev S128x1024 : Shape := ⟨2, ![128, 1024]⟩
abbrev S128x128 : Shape := ⟨2, ![128, 128]⟩
abbrev S3x16x3072 : Shape := ⟨3, ![3, 16, 3072]⟩
abbrev S16x8x128x128 : Shape := ⟨4, ![16, 8, 128, 128]⟩
abbrev S64x64 : Shape := ⟨2, ![64, 64]⟩
abbrev S16x8x1024 : Shape := ⟨3, ![16, 8, 1024]⟩
abbrev S1x16x1024 : Shape := ⟨3, ![1, 16, 1024]⟩
abbrev S16x1024 : Shape := ⟨2, ![16, 1024]⟩
abbrev S16x1x1024 : Shape := ⟨3, ![16, 1, 1024]⟩
abbrev S4x1024 : Shape := ⟨2, ![4, 1024]⟩
abbrev S1x1024 : Shape := ⟨2, ![1, 1024]⟩
abbrev S1x1x1024 : Shape := ⟨3, ![1, 1, 1024]⟩
abbrev S128x1 : Shape := ⟨2, ![128, 1]⟩
abbrev S64x128 : Shape := ⟨2, ![64, 128]⟩
abbrev S64x1 : Shape := ⟨2, ![64, 1]⟩
abbrev S64 : Shape := ⟨1, ![64]⟩
abbrev S1x64 : Shape := ⟨2, ![1, 64]⟩
abbrev S128x64 : Shape := ⟨2, ![128, 64]⟩
abbrev S64x256 : Shape := ⟨2, ![64, 256]⟩
abbrev S1x1x128x128 : Shape := ⟨4, ![1, 1, 128, 128]⟩
abbrev S8x128 : Shape := ⟨2, ![8, 128]⟩
abbrev S16x128 : Shape := ⟨2, ![16, 128]⟩
abbrev S1x1 : Shape := ⟨2, ![1, 1]⟩

abbrev nBuf : Space → Nat
  | .hbm => 21
  | .vmem => 27
  | .smem => 0
  | _ => 0

abbrev bufTy : (tb : Table) → Fin (tcTables nBuf tb) → BufTy
  | .hbm, ⟨0, _⟩ => ⟨S1024x13312, .f32⟩
  | .hbm, ⟨1, _⟩ => ⟨S1024x128, .f32⟩
  | .hbm, ⟨2, _⟩ => ⟨S128x3x3072, .f32⟩
  | .hbm, ⟨3, _⟩ => ⟨S1x4x3072, .f32⟩
  | .hbm, ⟨4, _⟩ => ⟨S1x8, .f32⟩
  | .hbm, ⟨5, _⟩ => ⟨S1x8, .f32⟩
  | .hbm, ⟨6, _⟩ => ⟨S1x128, .f32⟩
  | .hbm, ⟨7, _⟩ => ⟨S128x8x128x128, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S3x128x3072, .f32⟩
  | .hbm, ⟨15, _⟩ => ⟨S4x3072, .f32⟩
  | .hbm, ⟨16, _⟩ => ⟨S128, .f32⟩
  | .hbm, ⟨17, _⟩ => ⟨S1x128, .f32⟩
  | .hbm, ⟨18, _⟩ => ⟨S1024x1024, .bf16⟩
  | .hbm, ⟨19, _⟩ => ⟨S128x8x128x128, .f32⟩
  | .hbm, ⟨20, _⟩ => ⟨S3x128x3072, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S3x16x3072, .f32⟩
  | .local _ .vmem, ⟨11, _⟩ => ⟨S3x16x3072, .f32⟩
  | .local _ .vmem, ⟨12, _⟩ => ⟨S4x3072, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S16x8x128x128, .f32⟩
  | .local _ .vmem, ⟨17, _⟩ => ⟨S16x8x128x128, .f32⟩
  | .local _ .vmem, ⟨18, _⟩ => ⟨S128x1024, .bf16⟩
  | .local _ .vmem, ⟨19, _⟩ => ⟨S128x1024, .bf16⟩
  | .local _ .vmem, ⟨20, _⟩ => ⟨S16x8x128x128, .f32⟩
  | .local _ .vmem, ⟨21, _⟩ => ⟨S16x8x128x128, .f32⟩
  | .local _ .vmem, ⟨22, _⟩ => ⟨S3x16x3072, .f32⟩
  | .local _ .vmem, ⟨23, _⟩ => ⟨S3x16x3072, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | _, _ => ⟨S1024x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c9_i32 : BitVec 32 := 9#32
  let c0_i32 : BitVec 32 := 0#32
  ![v1.toNat, c9_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c10_i32 : BitVec 32 := 10#32
  let c0_i32 : BitVec 32 := 0#32
  ![v1.toNat, c10_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c11_i32 : BitVec 32 := 11#32
  let c0_i32 : BitVec 32 := 0#32
  ![v1.toNat, c11_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x16x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S16x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x16x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== GdnReferenceIdeal.lean ====
abbrev S1024x13312 : Shape := ⟨2, ![1024, 13312]⟩
abbrev S1024x128 : Shape := ⟨2, ![1024, 128]⟩
abbrev S128x3x3072 : Shape := ⟨3, ![128, 3, 3072]⟩
abbrev S1x4x3072 : Shape := ⟨3, ![1, 4, 3072]⟩
abbrev S1x8 : Shape := ⟨2, ![1, 8]⟩
abbrev S1x128 : Shape := ⟨2, ![1, 128]⟩
abbrev S128x8x128x128 : Shape := ⟨4, ![128, 8, 128, 128]⟩
abbrev S1024x3072 : Shape := ⟨2, ![1024, 3072]⟩
abbrev S128x8x3072 : Shape := ⟨3, ![128, 8, 3072]⟩
abbrev S128x11x3072 : Shape := ⟨3, ![128, 11, 3072]⟩
abbrev S3x128x3072 : Shape := ⟨3, ![3, 128, 3072]⟩

abbrev nBuf : Space → Nat
  | .hbm => 13
  | .vmem => 0
  | .smem => 0
  | _ => 0

abbrev bufTy : (tb : Table) → Fin (tcTables nBuf tb) → BufTy
  | .hbm, ⟨0, _⟩ => ⟨S1024x13312, .f32⟩
  | .hbm, ⟨1, _⟩ => ⟨S1024x128, .f32⟩
  | .hbm, ⟨2, _⟩ => ⟨S128x3x3072, .f32⟩
  | .hbm, ⟨3, _⟩ => ⟨S1x4x3072, .f32⟩
  | .hbm, ⟨4, _⟩ => ⟨S1x8, .f32⟩
  | .hbm, ⟨5, _⟩ => ⟨S1x8, .f32⟩
  | .hbm, ⟨6, _⟩ => ⟨S1x128, .f32⟩
  | .hbm, ⟨7, _⟩ => ⟨S128x8x128x128, .f32⟩
  | .hbm, ⟨8, _⟩ => ⟨S1024x3072, .f32⟩
  | .hbm, ⟨9, _⟩ => ⟨S128x8x3072, .f32⟩
  | .hbm, ⟨10, _⟩ => ⟨S128x11x3072, .f32⟩
  | .hbm, ⟨11, _⟩ => ⟨S128x3x3072, .f32⟩
  | .hbm, ⟨12, _⟩ => ⟨S3x128x3072, .f32⟩
  | _, _ => ⟨S1024x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== Proof.Tiles.lean ====
/-
  Hand-written. The names the kernel's body is proved through: the row tiles of the flattened input the body copies
  into its staging scratch, the two scratch buffers, the copy's cell, and one copy in flight.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The flattened input, left in HBM. -/
abbrev aM : Memref sig .tc .hbm S8192x2048 .f32 := Memref.whole main_v0
/-- The normalized row tile's scratch. -/
abbrev nM : Memref sig .tc .vmem S2048x2048 .bf16 := Memref.whole cc0_scratch0
/-- The copied row tile's scratch. -/
abbrev xM : Memref sig .tc .vmem S2048x2048 .f32 := Memref.whole cc0_scratch1

/-- Row tile `k` starts at row `2048 k`. -/
abbrev tOff (k : Fin 4) : Fin 2 → Nat := ![2048 * k.val, 0]
theorem tOff_inb (k : Fin 4) : ∀ a, tOff k a + S2048x2048.size a ≤ S8192x2048.size a := by
  have := k.isLt; intro a; fin_cases a
  · show 2048 * k.val + 2048 ≤ 8192; omega
  · show 0 + 2048 ≤ 2048; omega
instance (k : Fin 4) : ClosedOff (tOff k) := ⟨tOff k, rfl⟩

/-- Row tile `k` of the flattened input, as the body slices it. -/
def tile (k : Fin 4) : Memref sig .tc .hbm S2048x2048 .f32 :=
  aM.slice (Rect.unit (s := S8192x2048) (tOff k) S2048x2048.size (tOff_inb k)) (fun _ => rfl)

theorem tile_congr {off : Fin 2 → Nat} {k : Fin 4} (e : off = tOff k) (hh hs) :
    aM.slice (Rect.unit (s := S8192x2048) off S2048x2048.size hh) hs = tile k :=
  Memref.slice_unit_congr aM e hh (tOff_inb k) hs (fun _ => rfl)

/-- The first point's copy is of tile 0; -/
@[sl_canon] theorem tile_first (hh hs) :
    aM.slice (Rect.unit (s := S8192x2048) ![0, 0] S2048x2048.size hh) hs = tile 0 := tile_congr (by decide) _ _
/-- the wait names its row's tile; -/
@[sl_canon] theorem tile_wait (i : grid0.Coords) (k : Fin 4) (hk : (i 0).val = k.val) (hh hs) :
    aM.slice (Rect.unit (s := S8192x2048) (k0_off1 i) S2048x2048.size hh) hs = tile k :=
  tile_congr ((k0_off1_eq i).trans (by rw [hk])) _ _
/-- the copy ahead is of the next row's tile. -/
@[sl_canon] theorem tile_ahead (i : grid0.Coords) (k : Fin 4) (hk : (i 0).val + 1 = k.val) (hh hs) :
    aM.slice (Rect.unit (s := S8192x2048) (k0_off2 i) S2048x2048.size hh) hs = tile k :=
  tile_congr ((k0_off2_eq i).trans (by
    show (![2048 * (i 0).val + 2048, 0] : Fin 2 → Nat) = ![2048 * k.val, 0]
    rw [← hk]; congr 1)) _ _

section Pieces
variable (c : Dev nD) (XA : Buf (Elt F) (aM.view.loc (c : Thread nD τ)))

/-- Tile `k` held on its own elements. -/
abbrev tileP (k : Fin 4) : sProp 𝕄 := (tile k).view.loc (c : Thread nD τ) ↦[(tile k).view.set]{fullShare} XA
/-- Tile `k`'s words. -/
abbrev rows (k : Fin 4) : S2048x2048.Idx → Elt F .f32 := ReadAs.same.apply ((tile k).view.read (Elt F) XA)
/-- The copy's scratch, and the normalized tile's, held whole. -/
abbrev xP (f : Buf (Elt F) (xM.view.loc (c : Thread nD τ))) : sProp 𝕄 := xM.view.loc (c : Thread nD τ) ↦{fullShare} f
abbrev nP (f : Buf (Elt F) (nM.view.loc (c : Thread nD τ))) : sProp 𝕄 := nM.view.loc (c : Thread nD τ) ↦{fullShare} f
/-- The copy's cell at zero. -/
abbrev cellP : sProp 𝕄 := semVal ((c : Thread nD τ), SemLoc.dma cc0_scratch2.sem) 0
/-- The copy of tile `k` in flight, issued over `f`. -/
abbrev flightP (k : Fin 4) (f : Buf (Elt F) (xM.view.loc (c : Thread nD τ))) : sProp 𝕄 :=
  Transfers.Flight countersEmb (c : Thread nD τ) (SemLoc.dma cc0_scratch2.sem) () 524288
    iprop(xP c (xM.view.writes (Elt F) f [⟨Rect.whole S2048x2048, rows c XA k⟩]) ∗ tileP c XA k)
/-- The copy as issued, its landed words written over the scratch. -/
theorem flightP_issued (k : Fin 4) (f : Buf (Elt F) (xM.view.loc (c : Thread nD τ))) :
    (Transfers.Flight countersEmb (c : Thread nD τ) (SemLoc.dma cc0_scratch2.sem) () 524288
        iprop(xP c (xM.view.write (Elt F) f (rows c XA k) Finset.univ) ∗ tileP c XA k) : sProp 𝕄) ⊢ flightP c XA k f := by
  have e : xM.view.write (Elt F) f (rows c XA k) Finset.univ = xM.view.writes (Elt F) f [⟨Rect.whole S2048x2048, rows c XA k⟩] :=
    View.write_univ_eq_writes_whole xM.view f [] _
  rw [e]
/-- The normalized tile's scratch holding `X`. -/
def nHolds (X : FVec F S2048x2048 .bf16) : sProp 𝕄 := iprop(∃ f, ⌜nM.view.read (Elt F) f = X⌝ ∗ nP c f)

end Pieces

end Cert.KernelIdeal.Hand

end
-- ==== Proof.Loads.lean ====
/-
  Hand-written. Loads and stores of a whole buffer, of any call of the layer.
-/
module

public import Idealize.ShloMosaic.Lib.Pipeline.ValueKit

@[expose] public section

noncomputable section

namespace Cert.Hand

open Idealize.ShloMosaic

variable {Val : EltTy → Type} {sig : RefSig} {κ : Kind} {sp : Space} {S : Shape} {e : EltTy}

theorem hz2 : (![0, 0] : Fin 2 → Nat) = fun _ => 0 := funext fun a => by fin_cases a <;> rfl

/-- A store of the whole buffer leaves its payload, whatever was there and whatever was stored before; -/
theorem read_store [∀ e, Nonempty (Val e)] (v : View sig κ sp S e) {off : Fin S.rank → Nat} (h : off = fun _ => 0)
    (inb : ∀ a, off a + S.size a ≤ S.size a) (f : v.ty.Contents Val) (w : S.Idx → Val e) (L : List (View.Piece Val S e)) :
    v.read Val (v.writes Val f (⟨Rect.unit off S.size inb, w⟩ :: L)) = w :=
  (View.read_writes_eq_canon v f _ fun y => ⟨_, List.mem_cons_self, View.mem_set_unit_zero h inb y⟩).trans (View.canon_cons_unit_zero h inb w L)
/-- a load of the whole buffer reads its contents; -/
theorem load_whole (v : View sig κ sp S e) {off : Fin S.rank → Nat} (h : off = fun _ => 0)
    (inb : ∀ a, off a + S.size a ≤ S.size a) (f : v.ty.Contents Val) :
    v.readAt Val (Rect.unit off S.size inb).toLoadRect f = v.read Val f := View.ld_unit_zero h inb _
/-- a load of a buffer a copy landed in reads the words copied. -/
theorem readCov_landed [∀ e, Nonempty (Val e)] (v : View sig κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h; exact View.readCov_unit_zero v rfl inb w

end Cert.Hand

end
-- ==== Proof.Body.lean ====
/-
  Hand-written. The kernel's body, case by case: at a row tile's first point the tile's copy is waited for,
  normalized and multiplied with the narrow group of rows; at its second the next tile's copy is issued; every point
  multiplies the normalized tile with the point's window of rows.
-/
module

public import proofs.«01_k».proof.Proof.Tiles
public import proofs.«01_k».proof.Proof.Loads
public import Idealize.ShloMosaic.Lib.Pipeline.Value

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Cases

variable (c : Dev nD) (XA : Buf (Elt F) (aM.view.loc (c : Thread nD τ))) (i : grid0.Coords)
  (arg3 : Memref sig .tc .vmem S1x2048 .f32) (harg3 : arg3.IsWhole) (arg4 : Memref sig .tc .vmem S512x2048 .f32) (harg4 : arg4.IsWhole)
  (arg5 : Memref sig .tc .vmem S128x2048 .f32) (harg5 : arg5.IsWhole) (arg6 : Memref sig .tc .vmem S2048x512 .f32) (harg6 : arg6.IsWhole)
  (arg7 : Memref sig .tc .vmem S2048x128 .f32) (harg7 : arg7.IsWhole)
  (X3 : FVec F S1x2048 .f32) (X4 : FVec F S512x2048 .f32) (X5 : FVec F S128x2048 .f32)

abbrev bodyG : Prog (TpuEff nD τ sig (Elt F) Λ₀ .tc) PUnit :=
  cc0_in_projection i aM (Memref.isWhole_whole _) arg3 harg3 arg4 harg4 arg5 harg5 arg6 harg6 arg7 harg7 nM (Memref.isWhole_whole _) xM (Memref.isWhole_whole _) cc0_scratch2

/-- A point with no copy and no normalization. -/
theorem run_plain (h1 : ¬k0_cond1 i = 1#1) (h2 : ¬k0_cond2 i = 1#1) (h3 : ¬k0_cond3 i = 1#1) (Xn : FVec F S2048x2048 .bf16) (X6 : FVec F S2048x512 .f32)
    (Q : PUnit → sProp 𝕄) :
    iprop(owns c arg4 fullShare X4 ∗ owns c arg6 fullShare X6 ∗ nHolds c Xn
        ∗ (owns c arg4 fullShare X4 ∗ owns c arg6 fullShare (k0_pay3 Xn X4) ∗ nHolds c Xn -∗ Q ⟨⟩))
      ⊢ wp frame (wpE (defs₀ (F := F)) Variants.none (c : Thread nD τ) none) Set.univ (bodyG i arg3 harg3 arg4 harg4 arg5 harg5 arg6 harg6 arg7 harg7) Q := by
  unfold owns nHolds
  iintro ⟨⟨%g4, %e4, H4⟩, ⟨%g6, %e6, H6⟩, ⟨%fn, %en, Hn⟩, Hk⟩
  simp only [bodyG, cc0_in_projection_eq_skeleton]; unfold cc0_in_projection_skel
  sl_exec
  sl_step
  iapply Hk
  isplitl [H4]
  · iexists _; isplitr; · ipureintro; exact e4
    iexact H4
  isplitl [H6]
  · iexists _; isplitr
    swap; · iexact H6
    ipureintro
    rw [read_store (S := S2048x512) _ hz2, load_whole (S := S512x2048) _ hz2, load_whole (S := S2048x2048) _ hz2, e4, en]
  iexists _; isplitr; · ipureintro; exact en
  iexact Hn

/-- A tile's second point: the next tile's copy is issued. -/
theorem run_issue (h1 : ¬k0_cond1 i = 1#1) (h2 : ¬k0_cond2 i = 1#1) (h3 : k0_cond3 i = 1#1) (k : Fin 4) (hk : (i 0).val + 1 = k.val)
    (Xn : FVec F S2048x2048 .bf16) (X6 : FVec F S2048x512 .f32) (W) (Q : PUnit → sProp 𝕄) :
    iprop(owns c arg4 fullShare X4 ∗ owns c arg6 fullShare X6 ∗ nHolds c Xn ∗ (∃ f, xP c f) ∗ tileP c XA k ∗ cellP c ∗ owes (c : Thread nD τ) 0 W
        ∗ (owns c arg4 fullShare X4 ∗ owns c arg6 fullShare (k0_pay3 Xn X4) ∗ nHolds c Xn ∗ (∃ f, flightP c XA k f) ∗ (∃ W', owes (c : Thread nD τ) 0 W') -∗ Q ⟨⟩))
      ⊢ wp frame (wpE (defs₀ (F := F)) Variants.none (c : Thread nD τ) none) Set.univ (bodyG i arg3 harg3 arg4 harg4 arg5 harg5 arg6 harg6 arg7 harg7) Q := by
  unfold owns nHolds
  iintro ⟨⟨%g4, %e4, H4⟩, ⟨%g6, %e6, H6⟩, ⟨%fn, %en, Hn⟩, ⟨%fx, Hx⟩, Ht, Hc, HW, Hk⟩
  simp only [bodyG, cc0_in_projection_eq_skeleton]; unfold cc0_in_projection_skel
  sl_exec
  sl_step
  iapply Hk
  isplitl [H4]
  · iexists _; isplitr; · ipureintro; exact e4
    iexact H4
  isplitl [H6]
  · iexists _; isplitr
    swap; · iexact H6
    ipureintro
    rw [read_store (S := S2048x512) _ hz2, load_whole (S := S512x2048) _ hz2, load_whole (S := S2048x2048) _ hz2, e4, en]
  isplitl [Hn]
  · iexists _; isplitr; · ipureintro; exact en
    iexact Hn
  isplitl [Hc]
  · iexists fx
    iapply (flightP_issued c XA k fx)
    iexact Hc
  iexists _; iexact HW

/-- A tile's first point, its copy in flight. -/
theorem run_first (h1 : ¬k0_cond1 i = 1#1) (h2 : k0_cond2 i = 1#1) (h3 : ¬k0_cond3 i = 1#1) (k : Fin 4) (hk : (i 0).val = k.val)
    (X6 : FVec F S2048x512 .f32) (X7 : FVec F S2048x128 .f32) (W) (Q : PUnit → sProp 𝕄) :
    iprop(owns c arg3 fullShare X3 ∗ owns c arg4 fullShare X4 ∗ owns c arg5 fullShare X5 ∗ owns c arg6 fullShare X6 ∗ owns c arg7 fullShare X7
        ∗ (∃ f, nP c f) ∗ (∃ f, flightP c XA k f) ∗ owes (c : Thread nD τ) 0 W
        ∗ (owns c arg3 fullShare X3 ∗ owns c arg4 fullShare X4 ∗ owns c arg5 fullShare X5 ∗ owns c arg6 fullShare (k0_pay3 (k0_pay1 (rows c XA k) X3) X4)
            ∗ owns c arg7 fullShare (k0_pay2 (k0_pay1 (rows c XA k) X3) X5)
            ∗ nHolds c (k0_pay1 (rows c XA k) X3) ∗ (∃ f, xP c f) ∗ tileP c XA k ∗ cellP c ∗ (∃ W', owes (c : Thread nD τ) 0 W') -∗ Q ⟨⟩))
      ⊢ wp frame (wpE (defs₀ (F := F)) Variants.none (c : Thread nD τ) none) Set.univ (bodyG i arg3 harg3 arg4 harg4 arg5 harg5 arg6 harg6 arg7 harg7) Q := by
  unfold owns nHolds
  iintro ⟨⟨%g3, %e3, H3⟩, ⟨%g4, %e4, H4⟩, ⟨%g5, %e5, H5⟩, ⟨%g6, %e6, H6⟩, ⟨%g7, %e7, H7⟩, ⟨%fn, Hn⟩, ⟨%fx, HF⟩, HW, Hk⟩
  simp only [bodyG, cc0_in_projection_eq_skeleton]; unfold cc0_in_projection_skel
  sl_exec
  sl_step
  iapply Hk
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr
    swap; · iexact H6
    ipureintro
    sl_unfold_words
    rw [read_store (S := S2048x512) _ hz2, View.readCov_unit_zero (S := S2048x2048) _ hz2, readCov_landed (S := S2048x2048) _ hz2,
      load_whole (S := S1x2048) _ hz2, load_whole (S := S512x2048) _ hz2, e3, e4]
  isplitl [H7]
  · iexists _; isplitr
    swap; · iexact H7
    ipureintro
    sl_unfold_words
    rw [read_store (S := S2048x128) _ hz2, View.readCov_unit_zero (S := S2048x2048) _ hz2, readCov_landed (S := S2048x2048) _ hz2,
      load_whole (S := S1x2048) _ hz2, load_whole (S := S128x2048) _ hz2, e3, e5]
  isplitl [Hn]
  · iexists _; isplitr
    swap; · iexact Hn
    ipureintro
    sl_unfold_words
    rw [read_store (S := S2048x2048) _ hz2, readCov_landed (S := S2048x2048) _ hz2, load_whole (S := S1x2048) _ hz2, e3]
  isplitl [HF_dst]
  · iexists _; iexact HF_dst
  isplitl [HF_src]
  · iexact HF_src
  isplitl [HF]
  · iexact HF
  iexists _; iexact HW

/-- The grid's first point: the first tile's copy is issued and waited for. -/
theorem run_start (h1 : k0_cond1 i = 1#1) (h2 : k0_cond2 i = 1#1) (h3 : ¬k0_cond3 i = 1#1) (hk : (i 0).val = (0 : Fin 4).val)
    (X6 : FVec F S2048x512 .f32) (X7 : FVec F S2048x128 .f32) (W) (Q : PUnit → sProp 𝕄) :
    iprop(owns c arg3 fullShare X3 ∗ owns c arg4 fullShare X4 ∗ owns c arg5 fullShare X5 ∗ owns c arg6 fullShare X6 ∗ owns c arg7 fullShare X7
        ∗ (∃ f, nP c f) ∗ (∃ f, xP c f) ∗ tileP c XA 0 ∗ cellP c ∗ owes (c : Thread nD τ) 0 W
        ∗ (owns c arg3 fullShare X3 ∗ owns c arg4 fullShare X4 ∗ owns c arg5 fullShare X5 ∗ owns c arg6 fullShare (k0_pay3 (k0_pay1 (rows c XA 0) X3) X4)
            ∗ owns c arg7 fullShare (k0_pay2 (k0_pay1 (rows c XA 0) X3) X5)
            ∗ nHolds c (k0_pay1 (rows c XA 0) X3) ∗ (∃ f, xP c f) ∗ tileP c XA 0 ∗ cellP c ∗ (∃ W', owes (c : Thread nD τ) 0 W') -∗ Q ⟨⟩))
      ⊢ wp frame (wpE (defs₀ (F := F)) Variants.none (c : Thread nD τ) none) Set.univ (bodyG i arg3 harg3 arg4 harg4 arg5 harg5 arg6 harg6 arg7 harg7) Q := by
  unfold owns nHolds
  iintro ⟨⟨%g3, %e3, H3⟩, ⟨%g4, %e4, H4⟩, ⟨%g5, %e5, H5⟩, ⟨%g6, %e6, H6⟩, ⟨%g7, %e7, H7⟩, ⟨%fn, Hn⟩, ⟨%fx, Hx⟩, Ht, Hc, HW, Hk⟩
  simp only [bodyG, cc0_in_projection_eq_skeleton]; unfold cc0_in_projection_skel
  sl_exec
  sl_step
  iapply Hk
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr
    swap; · iexact H6
    ipureintro
    sl_unfold_words
    rw [read_store (S := S2048x512) _ hz2, View.readCov_unit_zero (S := S2048x2048) _ hz2, load_whole (S := S2048x2048) _ hz2, View.read_write_univ,
      load_whole (S := S1x2048) _ hz2, load_whole (S := S512x2048) _ hz2, e3, e4]
  isplitl [H7]
  · iexists _; isplitr
    swap; · iexact H7
    ipureintro
    sl_unfold_words
    rw [read_store (S := S2048x128) _ hz2, View.readCov_unit_zero (S := S2048x2048) _ hz2, load_whole (S := S2048x2048) _ hz2, View.read_write_univ,
      load_whole (S := S1x2048) _ hz2, load_whole (S := S128x2048) _ hz2, e3, e5]
  isplitl [Hn]
  · iexists _; isplitr
    swap; · iexact Hn
    ipureintro
    sl_unfold_words
    rw [read_store (S := S2048x2048) _ hz2, load_whole (S := S2048x2048) _ hz2, View.read_write_univ, load_whole (S := S1x2048) _ hz2, e3]
  isplitl [Hx]
  · iexists _; iexact Hx
  isplitl [Ht]
  · iexact Ht
  isplitl [Hc]
  · iexact Hc
  iexists _; iexact HW

end Cases

end Cert.KernelIdeal.Hand

end
-- ==== Proof.Data.lean ====
/-
  Hand-written. What the pipeline's proof holds at each grid point: the windows' buffers, the two scratches, and where
  the row tiles are.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The grid's points: 26 to a row tile -/

theorem row_of : ∀ t : Fin cfg0.N, (cfg0.grid.coords t 0).val = t.val / 26 := by decide +kernel
theorem cond1_iff : ∀ t : Fin cfg0.N, k0_cond1 (cfg0.grid.coords t) = 1#1 ↔ t.val = 0 := by decide +kernel
theorem cond2_iff : ∀ t : Fin cfg0.N, k0_cond2 (cfg0.grid.coords t) = 1#1 ↔ t.val % 26 = 0 := by decide +kernel
theorem cond3_iff : ∀ t : Fin cfg0.N, k0_cond3 (cfg0.grid.coords t) = 1#1 ↔ t.val % 26 = 1 ∧ t.val / 26 < 3 := by decide +kernel
theorem idle4_iff : ∀ t : Fin cfg0.N, cfg0.idle 4 (cfg0.grid.coords t) = true ↔ t.val % 26 ≠ 0 := by decide +kernel

theorem lt_N (t : Fin cfg0.N) : t.val < 104 := Nat.lt_of_lt_of_eq t.isLt N_0

/-- The row tile of point `p`, and the first point of row tile `i`. -/
def til (p : ℕ) : Fin 4 := ⟨p / 26 % 4, Nat.mod_lt _ (by decide)⟩
def pt (i : Fin 4) : Fin cfg0.N := ⟨26 * i.val, Nat.lt_of_lt_of_eq (by have := i.isLt; omega) N_0.symm⟩

theorem til_val {p : ℕ} (h : p < 104) : (til p).val = p / 26 := Nat.mod_eq_of_lt (by omega)
theorem pt_til {t : Fin cfg0.N} (h : t.val % 26 = 0) : pt (til t.val) = t :=
  Fin.ext (by show 26 * (til t.val).val = t.val; rw [til_val (lt_N t)]; omega)
theorem til_succ {p : ℕ} (h : p % 26 ≠ 25) : til (p + 1) = til p :=
  Fin.ext (by show (p + 1) / 26 % 4 = p / 26 % 4; congr 1; omega)
theorem til_pred {p : ℕ} (h : p % 26 ≠ 0) : til (p - 1) = til p :=
  Fin.ext (by show (p - 1) / 26 % 4 = p / 26 % 4; congr 1; omega)

/-! ## The row tiles -/

section Split
variable (c : Dev nD) (XA : Buf (Elt F) (aM.view.loc (c : Thread nD τ)))

abbrev T4 (k : Fin 4) : Finset S8192x2048.Idx := (Rect.unit (s := S8192x2048) (tOff k) S2048x2048.size (tOff_inb k)).set
theorem tile_set (k : Fin 4) : (tile k).view.set = T4 k := View.set_slice_whole _ _
theorem mem_T4 (k : Fin 4) (y : S8192x2048.Idx) : y ∈ T4 k ↔ (y 0).val / 2048 = k.val := by
  rw [Rect.mem_set_unit]
  have h1 : (y 1).val < 2048 := (y 1).isLt
  constructor
  · intro H; have a0 : 2048 * k.val ≤ (y 0).val ∧ (y 0).val < 2048 * k.val + 2048 := H 0; omega
  · intro H i; fin_cases i
    · show 2048 * k.val ≤ (y 0).val ∧ (y 0).val < 2048 * k.val + 2048; omega
    · show 0 ≤ (y 1).val ∧ (y 1).val < 0 + 2048; omega
theorem T4_disjoint : ∀ b b' : Fin 4, b ≠ b' → Disjoint (T4 b) (T4 b') := by
  intro b b' hne; rw [Finset.disjoint_left]; intro y hy hy'; rw [mem_T4] at hy hy'; exact hne (Fin.ext (hy.symm.trans hy'))
theorem T4_cover : (Finset.univ : Finset (Fin 4)).biUnion T4 = Finset.univ := by
  ext y; simp only [Finset.mem_biUnion, Finset.mem_univ, true_and, iff_true]
  have h : (y 0).val < 8192 := (y 0).isLt
  exact ⟨⟨(y 0).val / 2048, by omega⟩, by rw [mem_T4]⟩

/-- The flattened input whole is its four row tiles; -/
theorem a_eq : (((c : Thread nD τ).loc main_v0) ↦{fullShare} XA : sProp 𝕄) = bigSep Finset.univ (tileP c XA) := by
  rw [Ring.pointsTo_blocks (ℓ := (c : Thread nD τ).loc main_v0) T4 T4_disjoint T4_cover]
  exact bigSep_congr fun b _ => by rw [← tile_set]; rfl
/-- one apart from the rest. -/
theorem tiles_take (k : Fin 4) : bigSep Finset.univ (tileP c XA) = iprop(tileP c XA k ∗ bigSep (Finset.univ.erase k) (tileP c XA)) := by
  conv_lhs => rw [← Finset.insert_erase (Finset.mem_univ k)]
  rw [bigSep_insert (Finset.notMem_erase k _)]; rfl

/-- Where the row tiles are before point `p`: one in flight from the second point of the tile before it up to its own
    first point, the others home. -/
def tilesAt (p : ℕ) : sProp 𝕄 :=
  if h : p % 26 ≠ 1 ∧ 1 ≤ (p + 24) / 26 ∧ (p + 24) / 26 < 4 then
    iprop((∃ f, flightP c XA ⟨(p + 24) / 26, h.2.2⟩ f) ∗ bigSep (Finset.univ.erase (⟨(p + 24) / 26, h.2.2⟩ : Fin 4)) (tileP c XA))
  else iprop((∃ f, xP c f) ∗ cellP c ∗ bigSep Finset.univ (tileP c XA))

theorem tilesAt_home {p : ℕ} (h : ¬(p % 26 ≠ 1 ∧ 1 ≤ (p + 24) / 26 ∧ (p + 24) / 26 < 4)) :
    tilesAt c XA p = iprop((∃ f, xP c f) ∗ cellP c ∗ bigSep Finset.univ (tileP c XA)) := by unfold tilesAt; rw [dif_neg h]
theorem tilesAt_flight {p : ℕ} (k : Fin 4) (h : p % 26 ≠ 1) (hk : (p + 24) / 26 = k.val) (h1 : 1 ≤ k.val) :
    tilesAt c XA p = iprop((∃ f, flightP c XA k f) ∗ bigSep (Finset.univ.erase k) (tileP c XA)) := by
  obtain ⟨k, hk4⟩ := k
  dsimp only at hk h1
  subst hk
  unfold tilesAt; rw [dif_pos ⟨h, h1, hk4⟩]
/-- A point that neither issues nor waits leaves them. -/
theorem tilesAt_plain {p : ℕ} (hp : p < 104) (h0 : p % 26 ≠ 0) (h3 : ¬(p % 26 = 1 ∧ p / 26 < 3)) : tilesAt c XA (p + 1) = tilesAt c XA p := by
  by_cases h1 : p % 26 = 1
  · rw [tilesAt_home c XA (p := p) (fun h => h.1 h1), tilesAt_home c XA (p := p + 1) (fun h => by omega)]
  · by_cases hk : p / 26 = 3
    · rw [tilesAt_home c XA (p := p) (fun h => by omega), tilesAt_home c XA (p := p + 1) (fun h => by omega)]
    · rw [tilesAt_flight c XA (p := p) ⟨p / 26 + 1, by omega⟩ h1 (by show _ = p / 26 + 1; omega) (by show 1 ≤ p / 26 + 1; omega),
        tilesAt_flight c XA (p := p + 1) ⟨p / 26 + 1, by omega⟩ (by omega) (by show _ = p / 26 + 1; omega) (by show 1 ≤ p / 26 + 1; omega)]

end Split

/-! ## The proof data -/

section Data
variable (m : (ℓ : Loc nD τ sig) → Buf (Elt F) ℓ)

/-- Row tile `i` normalized; -/
def XN (c : Dev nD) (i : Fin 4) : FVec F S2048x2048 .bf16 := k0_pay1 (rows c (V m c main_v0) i) (iblk m c 0 (pt i))
/-- its product with the narrow group of rows; -/
def SM (c : Dev nD) (i : Fin 4) : FVec F S2048x128 .f32 := k0_pay2 (XN m c i) (X0_2 m c (pt i))
/-- its product with point `t`'s window of rows. -/
def PJ (c : Dev nD) (t : Fin cfg0.N) : FVec F S2048x512 .f32 := k0_pay3 (XN m c (til t.val)) (iblk m c 1 t)

/-- The normalized tile's scratch before point `p`: anything where a new row tile begins. -/
def normAt (c : Dev nD) (p : ℕ) : sProp 𝕄 := if p % 26 = 0 then iprop(∃ f, nP c f) else nHolds c (XN m c (til p))

def PhiAt (c : Dev nD) (p : ℕ) : sProp 𝕄 := iprop((∃ r, prngReg c r) ∗ normAt m c p ∗ tilesAt c (V m c main_v0) p)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => PJ m c t
    | ⟨4, _⟩ => SM m c (til t.val)
  Φ t := PhiAt m c t.val
  q := Pipeline.shareOf spec0
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = X0_2 m c t := by dsimp only [dats]
theorem after_w3 (c : Dev nD) (t : Fin cfg0.N) : (dats m 0 c).after 3 t = PJ m c t := by dsimp only [dats]
theorem after_w4 (c : Dev nD) (t : Fin cfg0.N) : (dats m 0 c).after 4 t = SM m c (til t.val) := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rw [A_eq]; try rfl) t d).trans
    (by unfold Dat.fetched Dat.blockOf iblk; rw [A_eq]; try rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rw [A_eq]; try rfl) t d).trans
    (by unfold Dat.fetched Dat.blockOf iblk; rw [A_eq]; try rfl)
theorem before_w2 (c : Dev nD) (t : Fin cfg0.N) (d) : (dats m 0 c).before 2 t d = X0_2 m c t :=
  ((dats m 0 c).before_in_eq_fetched 2 rfl (fun _ => rfl)
      (fun t t' h => funext fun a => congrArg (fun n => Pipeline.Clip.of n ((cfg0.win 2).size a) (S13328x2048.size a)) (congrFun h a))
      (fun t => by rw [after_w2]; unfold X0_2; rw [Pipeline.Window.cut_fill]; unfold Dat.blockOf iblk; rw [A_eq]; try rfl) t d).trans
    (by unfold Dat.fetched X0_2; rw [fill0_2 t d dflt0_2]; unfold Dat.blockOf iblk; rw [A_eq]; try rfl)

/-- After a row tile's first point the narrow output's buffer holds the tile's product. -/
theorem before_w4 (c : Dev nD) : ∀ (n : ℕ) (t : Fin cfg0.N), t.val = n → n % 26 ≠ 0 → ∀ d, (dats m 0 c).before 4 t d = SM m c (til t.val) := by
  intro n
  induction n with
  | zero => intro t _ h; exact absurd rfl h
  | succ n ih =>
    intro t ht h d
    have hf : (cfg0.win 4).flush ⟨t.val - 1, Nat.lt_of_le_of_lt (Nat.sub_le _ _) t.isLt⟩ = false := by
      rw [Bool.eq_false_iff]; intro hh; have := (flush0_4 _).mp hh; simp only at this; omega
    rw [(dats m 0 c).before_of_pos 4 t (by omega) ((cfg0.win 4).fetch_out rfl t), hf, if_neg Bool.false_ne_true]
    have hti : til (t.val - 1) = til t.val := til_pred (by omega)
    unfold Dat.left
    by_cases h0 : n % 26 = 0
    · have hi : cfg0.idle 4 (cfg0.grid.coords ⟨t.val - 1, Nat.lt_of_le_of_lt (Nat.sub_le _ _) t.isLt⟩) = false := by
        rw [Bool.eq_false_iff]; intro hh; have := (idle4_iff _).mp hh; simp only at this; omega
      rw [hi]; dsimp only
      unfold Dat.kept
      rw [Pipeline.fill_of_clip_none (cfg := cfg0) 4 _ (fun _ => rfl) d ((dats m 0 c).after 4 _), Window.fill_cut, after_w4]
      exact congrArg (SM m c) hti
    · have hi : cfg0.idle 4 (cfg0.grid.coords ⟨t.val - 1, Nat.lt_of_le_of_lt (Nat.sub_le _ _) t.isLt⟩) = true :=
        (idle4_iff _).mpr (by simp only; omega)
      rw [hi]; dsimp only
      rw [ih ⟨t.val - 1, _⟩ (by simp only; omega) h0 d]
      exact congrArg (SM m c) hti

end Data

end Cert.KernelIdeal.Hand

end
-- ==== Proof.Run.lean ====
/-
  Hand-written. The body obligation at every grid point, and the run: every fair execution ends, the arguments
  unchanged and the two outputs at the computed contents.
-/
module

public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Launch
variable (m : (ℓ : Loc nD τ sig) → Buf (Elt F) ℓ) (ρ : Dev nD → PrngReg)

theorem defs_tc : (defs₀ (F := F)) .tc cfg0.body
    = fun a => cc0_in_projection (grid0.coords a.1) aM (Memref.isWhole_whole _) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) nM (Memref.isWhole_whole _) xM (Memref.isWhole_whole _) cc0_scratch2 := by
  unfold defs₀; rw [Defs.onTc_tc]

abbrev bodyT (t : Fin cfg0.N) : Prog (TpuEff nD τ sig (Elt F) Λ₀ .tc) PUnit :=
  bodyG (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))

theorem prog_eq (t : Fin cfg0.N) : (defs₀ (F := F)) .tc cfg0.body (cfg0.bodyArgs t (cfg0.slots t)) = bodyT t := (congrFun defs_tc _).trans rfl

/-- Past a row tile's first point the narrow output's buffer still holds the tile's product. -/
theorem leaves4 (c : Dev nD) (t : Fin cfg0.N) (h0 : t.val % 26 ≠ 0) :
    owns (c : Thread nD τ) (stage0_4 (cfg0.slots t 4)) fullShare (SM m c (til t.val))
      ⊢ (match idle0 4 (grid0.coords t) with
        | true =>
          match (win0 4).flush t with
          | false => iprop(∃ d, owns (c : Thread nD τ) (stage0_4 (cfg0.slots t 4)) fullShare ((dats m 0 c).before 4 t d))
          | true => owns (c : Thread nD τ) (stage0_4 (cfg0.slots t 4)) fullShare (SM m c (til t.val))
        | false => owns (c : Thread nD τ) (stage0_4 (cfg0.slots t 4)) fullShare (SM m c (til t.val)) : sProp 𝕄) := by
  rw [show idle0 4 (grid0.coords t) = true from (idle4_iff t).mpr h0]; dsimp only
  cases (win0 4).flush t
  · iintro H; iexists (SM m c (til t.val)); rw [before_w4 m c t.val t rfl h0]; iexact H
  · exact .rfl

set_option backward.isDefEq.respectTransparency.types false in
theorem body_obligation (c : Dev nD) : BodyObligation (dats (F := F) m 0 c) (defs₀ (F := F)) Variants.none () Set.univ := fun t => by
  have hlt := lt_N t
  rw [bigSep_W0, bigSep_W0]
  dsimp only
  simp only [before_w0, before_w1, before_w2, after_w0, after_w1, after_w2, after_w3, after_w4]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  by_cases h0 : t.val % 26 = 0
  · rw [show idle0 4 (grid0.coords t) = false from by
      rw [Bool.eq_false_iff]; intro hh; exact (idle4_iff t).mp hh h0]
    dsimp only
    have hN : normAt m c (t.val + 1) = nHolds c (XN m c (til t.val)) := by
      unfold normAt; rw [if_neg (by omega), til_succ (by omega)]
    have hN0 : normAt m c t.val = iprop(∃ f, nP c f) := by unfold normAt; rw [if_pos h0]
    have hXN : XN m c (til t.val) = k0_pay1 (rows c (V m c main_v0) (til t.val)) (iblk m c 0 t) := by unfold XN; rw [pt_til h0]
    have hSM : SM m c (til t.val) = k0_pay2 (k0_pay1 (rows c (V m c main_v0) (til t.val)) (iblk m c 0 t)) (X0_2 m c t) := by
      unfold SM; rw [hXN, pt_til h0]
    have hPJ : PJ m c t = k0_pay3 (k0_pay1 (rows c (V m c main_v0) (til t.val)) (iblk m c 0 t)) (iblk m c 1 t) := by unfold PJ; rw [hXN]
    have hn3 : ¬k0_cond3 (cfg0.grid.coords t) = 1#1 := fun h => by have := (cond3_iff t).mp h; omega
    rw [hSM, hPJ]
    unfold PhiAt; rw [hN, hXN, hN0, tilesAt_home c (V m c main_v0) (p := t.val + 1) (fun h => h.1 (by omega)), tiles_take c _ (til t.val)]
    by_cases h1 : t.val = 0
    · have ht0 : til t.val = 0 := Fin.ext (by rw [til_val hlt, h1]; rfl)
      rw [tilesAt_home c (V m c main_v0) (p := t.val) (fun h => by omega), tiles_take c _ (til t.val), ht0]
      iintro ⟨⟨Hp, Hn, Hx, Hc, Ht, Hr⟩, ⟨%W, -, HW⟩, ⟨%d3, H3⟩, ⟨%d4, H4⟩, ⟨%d5, H5⟩, ⟨%d6, H6⟩, ⟨%d7, H7⟩⟩
      sl_rw [prog_eq t]
      iapply (run_start c (V m c main_v0) (cfg0.grid.coords t) _ _ _ _ _ _ _ _ _ _ (iblk m c 0 t) (iblk m c 1 t) (X0_2 m c t)
        ((cond1_iff t).mpr h1) ((cond2_iff t).mpr h0) hn3 ((row_of t).trans (by rw [h1]; rfl)) _ _ W)
      isplitl [H3]; · iexact H3
      isplitl [H4]; · iexact H4
      isplitl [H5]; · iexact H5
      isplitl [H6]; · iexact H6
      isplitl [H7]; · iexact H7
      isplitl [Hn]; · iexact Hn
      isplitl [Hx]; · iexact Hx
      isplitl [Ht]; · iexact Ht
      isplitl [Hc]; · iexact Hc
      isplitl [HW]; · iexact HW
      iintro ⟨H3, H4, H5, H6, H7, Hn, Hx, Ht, Hc, ⟨%W', HW⟩⟩
      isplitl [Hp Hn Hx Hc Ht Hr]
      · isplitl [Hp]; · iexact Hp
        isplitl [Hn]; · iexact Hn
        isplitl [Hx]; · iexact Hx
        isplitl [Hc]; · iexact Hc
        isplitl [Ht]; · iexact Ht
        iexact Hr
      isplitl [HW]
      · iexists W'; isplitr; · ipureintro; exact fun _ _ => Or.inl trivial
        iexact HW
      isplitl [H3]; · iexact H3
      isplitl [H4]; · iexact H4
      isplitl [H5]; · iexact H5
      isplitl [H6]; · iexact H6
      iexact H7
    · have hk := til_val hlt
      rw [tilesAt_flight c (V m c main_v0) (p := t.val) (til t.val) (by omega) (by omega) (by omega)]
      iintro ⟨⟨Hp, Hn, Hf, Hr⟩, ⟨%W, -, HW⟩, ⟨%d3, H3⟩, ⟨%d4, H4⟩, ⟨%d5, H5⟩, ⟨%d6, H6⟩, ⟨%d7, H7⟩⟩
      sl_rw [prog_eq t]
      iapply (run_first c (V m c main_v0) (cfg0.grid.coords t) _ _ _ _ _ _ _ _ _ _ (iblk m c 0 t) (iblk m c 1 t) (X0_2 m c t)
        (fun h => h1 ((cond1_iff t).mp h)) ((cond2_iff t).mpr h0) hn3 (til t.val) ((row_of t).trans hk.symm) _ _ W)
      isplitl [H3]; · iexact H3
      isplitl [H4]; · iexact H4
      isplitl [H5]; · iexact H5
      isplitl [H6]; · iexact H6
      isplitl [H7]; · iexact H7
      isplitl [Hn]; · iexact Hn
      isplitl [Hf]; · iexact Hf
      isplitl [HW]; · iexact HW
      iintro ⟨H3, H4, H5, H6, H7, Hn, Hx, Ht, Hc, ⟨%W', HW⟩⟩
      isplitl [Hp Hn Hx Hc Ht Hr]
      · isplitl [Hp]; · iexact Hp
        isplitl [Hn]; · iexact Hn
        isplitl [Hx]; · iexact Hx
        isplitl [Hc]; · iexact Hc
        isplitl [Ht]; · iexact Ht
        iexact Hr
      isplitl [HW]
      · iexists W'; isplitr; · ipureintro; exact fun _ _ => Or.inl trivial
        iexact HW
      isplitl [H3]; · iexact H3
      isplitl [H4]; · iexact H4
      isplitl [H5]; · iexact H5
      isplitl [H6]; · iexact H6
      iexact H7
  · have hN0 : normAt m c t.val = nHolds c (XN m c (til t.val)) := by unfold normAt; rw [if_neg h0]
    have hNs : nHolds c (XN m c (til t.val)) ⊢ normAt m c (t.val + 1) := by
      unfold normAt
      by_cases hs : (t.val + 1) % 26 = 0
      · rw [if_pos hs]; unfold nHolds; iintro ⟨%f, -, H⟩; iexists f; iexact H
      · rw [if_neg hs, til_succ (by omega)]
    have hn1 : ¬k0_cond1 (cfg0.grid.coords t) = 1#1 := fun h => by have := (cond1_iff t).mp h; omega
    have hn2 : ¬k0_cond2 (cfg0.grid.coords t) = 1#1 := fun h => h0 ((cond2_iff t).mp h)
    have hb4 := before_w4 m c t.val t rfl h0
    have hl4 := leaves4 m c t h0
    unfold PhiAt; rw [hN0]
    by_cases h3 : t.val % 26 = 1 ∧ t.val / 26 < 3
    · rw [tilesAt_home c (V m c main_v0) (p := t.val) (fun h => h.1 h3.1),
        tilesAt_flight c (V m c main_v0) (p := t.val + 1) ⟨t.val / 26 + 1, by omega⟩ (by omega) (by show _ = t.val / 26 + 1; omega) (by show 1 ≤ t.val / 26 + 1; omega),
        tiles_take c _ (⟨t.val / 26 + 1, by omega⟩ : Fin 4)]
      iintro ⟨⟨Hp, Hn, Hx, Hc, Ht, Hr⟩, ⟨%W, -, HW⟩, ⟨%d3, H3⟩, ⟨%d4, H4⟩, ⟨%d5, H5⟩, ⟨%d6, H6⟩, ⟨%d7, H7⟩⟩
      rw [hb4]
      sl_rw [prog_eq t]
      iapply (run_issue c (V m c main_v0) (cfg0.grid.coords t) _ _ _ _ _ _ _ _ _ _ (iblk m c 1 t)
        hn1 hn2 ((cond3_iff t).mpr h3) ⟨t.val / 26 + 1, by omega⟩ (by rw [row_of]) (XN m c (til t.val)) _ W)
      isplitl [H4]; · iexact H4
      isplitl [H6]; · iexact H6
      isplitl [Hn]; · iexact Hn
      isplitl [Hx]; · iexact Hx
      isplitl [Ht]; · iexact Ht
      isplitl [Hc]; · iexact Hc
      isplitl [HW]; · iexact HW
      iintro ⟨H4, H6, Hn, Hf, ⟨%W', HW⟩⟩
      isplitl [Hp Hn Hf Hr]
      · isplitl [Hp]; · iexact Hp
        isplitl [Hn]; · iapply hNs; iexact Hn
        isplitl [Hf]; · iexact Hf
        iexact Hr
      isplitl [HW]
      · iexists W'; isplitr; · ipureintro; exact fun _ _ => Or.inl trivial
        iexact HW
      isplitl [H3]; · iexact H3
      isplitl [H4]; · iexact H4
      isplitl [H5]; · iexact H5
      isplitl [H6]; · iexact H6
      iapply hl4; iexact H7
    · rw [tilesAt_plain c (V m c main_v0) hlt h0 h3]
      iintro ⟨⟨Hp, Hn, Hr⟩, ⟨%W, -, HW⟩, ⟨%d3, H3⟩, ⟨%d4, H4⟩, ⟨%d5, H5⟩, ⟨%d6, H6⟩, ⟨%d7, H7⟩⟩
      rw [hb4]
      sl_rw [prog_eq t]
      iapply (run_plain c (cfg0.grid.coords t) _ _ _ _ _ _ _ _ _ _ (iblk m c 1 t)
        hn1 hn2 (fun h => h3 ((cond3_iff t).mp h)) (XN m c (til t.val)))
      isplitl [H4]; · iexact H4
      isplitl [H6]; · iexact H6
      isplitl [Hn]; · iexact Hn
      iintro ⟨H4, H6, Hn⟩
      isplitl [Hp Hn Hr]
      · isplitl [Hp]; · iexact Hp
        isplitl [Hn]; · iapply hNs; iexact Hn
        iexact Hr
      isplitl [HW]
      · iexists W; isplitr; · ipureintro; exact fun _ _ => Or.inl trivial
        iexact HW
      isplitl [H3]; · iexact H3
      isplitl [H4]; · iexact H4
      isplitl [H5]; · iexact H5
      isplitl [H6]; · iexact H6
      iapply hl4; iexact H7

/-! ## The run -/

abbrev osem : Fin 1 → SemLoc sig := fun _ => SemLoc.dma 8
theorem ownSemFacts : Pipeline.OwnSemFacts spec0 osem := by decide
abbrev H0 : Finset (Ref sig .tc) := {main_v0}
theorem H0_sub : H0 ⊆ Pipeline.restRefs sig spec0 := by decide

set_option maxHeartbeats 800000 in
theorem hmainUD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- What the launch hands the region is the first point's invariant, -/
theorem phiD_eq (c : Dev nD) : (Pipeline.ΦD osem spec0 H0 (V m) c : sProp 𝕄)
    = iprop(((∃ f, nP c f) ∗ (∃ f, xP c f)) ∗ (∃ r, prngReg c r) ∗ cellP c ∗ bigSep Finset.univ (tileP c (V m c main_v0))) := by
  rw [← a_eq]
  unfold Pipeline.ΦD
  rw [scopedRest0_eq, Pipeline.ownSems0_eq_of_list c osem [0] (by decide) (by decide), BI.bigSep_eq_bigSepL_of_eq [main_v0] (by decide) (by decide)]
  rfl
/-- and the last point's. -/
theorem phi_home (c : Dev nD) (p : ℕ) (hp : p = 0 ∨ p = 104) :
    PhiAt m c p = iprop((∃ r, prngReg c r) ∗ (∃ f, nP c f) ∗ (∃ f, xP c f) ∗ cellP c ∗ bigSep Finset.univ (tileP c (V m c main_v0))) := by
  unfold PhiAt normAt; rw [if_pos (by omega), tilesAt_home c _ (fun h => by omega)]

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem defs₀ Variants.none ownSemFacts H0 H0_sub m ρ main
    (hbody := fun c => (body_obligation m c).loose) (hq := fun _ _ _ => rfl)
    (howed := fun _ _ => rfl) (V := V m) (hmain := hmainUD m) (hA := A_eq m)
    (hin := fun c => by
      rw [show (dats m 0 c).Φ 0 = PhiAt m c 0 from rfl, phi_home m c 0 (Or.inl rfl), phiD_eq]
      iintro ⟨⟨Hn, Hx⟩, Hp, Hc, Ht⟩
      isplitl [Hp]; · iexact Hp
      isplitl [Hn]; · iexact Hn
      isplitl [Hx]; · iexact Hx
      isplitl [Hc]; · iexact Hc
      iexact Ht)
    (hout := fun c => by
      rw [show (dats m 0 c).Φ (Fin.last cfg0.N) = PhiAt m c 104 from congrArg (PhiAt m c) N_0, phi_home m c 104 (Or.inr rfl), phiD_eq]
      iintro ⟨Hp, Hn, Hx, Hc, Ht⟩
      isplitl [Hn Hx]
      · isplitl [Hn]; · iexact Hn
        iexact Hx
      isplitl [Hp]; · iexact Hp
      isplitl [Hc]; · iexact Hc
      iexact Ht)
    (hQ' := fun _ h => h)

/-- The arguments after the run. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

/-- The outputs after the run. -/
theorem outs_at (r : PUnit × MemSt nD τ sig (Elt F)) (h : Pipeline.FramePost cfgs (dats m) 0 (V m) r) (c : Dev nD) :
    r.2.mem ((c.tc : Thread nD τ).loc main_v5_0) = (dats m 0 c).arrAt 3 cfg0.N
    ∧ r.2.mem ((c.tc : Thread nD τ).loc main_v5_1) = (dats m 0 c).arrAt 4 cfg0.N :=
  ⟨(h c).1 3, (h c).1 4⟩

end Launch

end Cert.KernelIdeal.Hand

end
-- ==== Proof.Value.lean ====
/-
  Hand-written. The payloads and the reference's terms, read at an index at the ideal values.
-/
module

public import proofs.«01_k».proof.Proof.Run
public import proofs.«01_k».proof.Proof.Gen.ReferenceIdeal.Run
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- One element of a row normalized: the element over the root of the row's mean square, times the gain. -/
def nrm (row : Fin 2048 → EReal) (g : EReal) (k : Fin 2048) : EReal :=
  row k * Ideal.rsqrt (Ideal.div (∑ j : Fin 2048, row j * row j) (Ideal.ofBits .f32 0x45000000#32) + Ideal.ofBits .f32 0x358637BD#32) * g

theorem pay1_apply (X : FVec Ideal S2048x2048 .f32) (g : FVec Ideal S1x2048 .f32) (r k : Fin 2048) :
    k0_pay1 (F := Ideal) X g (ix2 r k) = nrm (fun j => X (ix2 r j)) (g (ix2 0 k)) k := by
  unfold nrm
  pointwise [k0_pay1]

theorem pay2_apply (X : FVec Ideal S2048x2048 .bf16) (w : FVec Ideal S128x2048 .f32) (r : Fin 2048) (n : Fin 128) :
    k0_pay2 (F := Ideal) X w (ix2 r n) = ∑ k : Fin 2048, (X (ix2 r k) : EReal) * w (ix2 n k) := by
  pointwise [k0_pay2]

theorem pay3_apply (X : FVec Ideal S2048x2048 .bf16) (w : FVec Ideal S512x2048 .f32) (r : Fin 2048) (n : Fin 512) :
    k0_pay3 (F := Ideal) X w (ix2 r n) = ∑ k : Fin 2048, (X (ix2 r k) : EReal) * w (ix2 n k) := by
  pointwise [k0_pay3]

/-! ## The reference's terms -/

section Reference
open Cert.ReferenceIdeal Cert.ReferenceIdeal.Value

/-- Row `R` of the normalized input times column `n` of the weight. -/
def prod (x : S4x2048x2048.Idx → EReal) (g : S1x2048.Idx → EReal) (w : S1x2048x13328.Idx → EReal) (R : Fin 8192) (n : Fin 13328) : EReal :=
  ∑ k : Fin 2048, nrm (fun j => x (ix3 ⟨R.val / 2048, by omega⟩ ⟨R.val % 2048, by omega⟩ j)) (g (ix2 0 k)) k * w (ix3 0 k n)

/-- Where column `n` of the projection is among the weight's columns. -/
def colmap (n : ℕ) : ℕ := if n < 6144 then 7184 + n else if n < 12288 then n - 6144 else n - 6128
theorem colmap_lt {n : ℕ} (h : n < 13312) : colmap n < 13328 := by unfold colmap; split_ifs <;> omega

/-- The input normalized and its gain, as the reference has it. -/
abbrev refN (x : FVec Ideal ReferenceIdeal.S4x2048x2048 .f32) (g : FVec Ideal ReferenceIdeal.S2048 .f32) : FVec Ideal ReferenceIdeal.S4x2048x2048 .f32 :=
  mulf (mulf x (broadcastInDim ReferenceIdeal.S4x2048x2048 ![0, 1, 2] ReferenceIdeal.Gen.bcast_S4x2048x1_S4x2048x2048_0_1_2
      (Host.rsqrt (addf (Host.divf (broadcastInDim ReferenceIdeal.S4x2048x1 ![0, 1] ReferenceIdeal.Gen.bcast_S4x2048_S4x2048x1_0_1
          (Host.reduceAdd (mulf x x) (constant ReferenceIdeal.S_ .f32 0x00000000#32) ReferenceIdeal.Gen.reducesTo_S4x2048x2048_S4x2048_d2 ReferenceIdeal.Gen.h_S_))
          (broadcastInDim ReferenceIdeal.S4x2048x1 ![] ReferenceIdeal.Gen.bcast_S_S4x2048x1 (constant ReferenceIdeal.S_ .f32 0x45000000#32)))
        (broadcastInDim ReferenceIdeal.S4x2048x1 ![] ReferenceIdeal.Gen.bcast_S_S4x2048x1 (constant ReferenceIdeal.S_ .f32 0x358637BD#32))))))
    (broadcastInDim ReferenceIdeal.S4x2048x2048 ![0, 1, 2] ReferenceIdeal.Gen.bcast_S1x1x2048_S4x2048x2048_0_1_2
      (broadcastInDim ReferenceIdeal.S1x1x2048 ![2] ReferenceIdeal.Gen.bcast_S2048_S1x1x2048_2 g))

theorem refN_apply (x : FVec Ideal ReferenceIdeal.S4x2048x2048 .f32) (g : FVec Ideal ReferenceIdeal.S2048 .f32) (b : Fin 4) (s k : Fin 2048) :
    refN x g (ix3 b s k) = nrm (fun j => x (ix3 b s j)) (g (ix1 k)) k := by
  unfold refN nrm
  pointwise

theorem refDot_apply (X : FVec Ideal ReferenceIdeal.S4x2048x2048 .f32) (W : FVec Ideal ReferenceIdeal.S2048x13328 .f32) (b : Fin 4) (s : Fin 2048) (n : Fin 13328) :
    Host.dotGeneral (F := Ideal) (φ₁ := .f32) (φ₂ := .f32) ReferenceIdeal.dot_S4x2048x2048_S2048x13328_S4x2048x13328_2_0_01_1_n_n none X W (ix3 b s n)
      = ∑ k : Fin 2048, (X (ix3 b s k) : EReal) * W (ix2 k n) := by
  pointwise

/-- The reference's product at an index. -/
theorem ref_prod (x : FVec Ideal ReferenceIdeal.S4x2048x2048 .f32) (g : FVec Ideal ReferenceIdeal.S1x2048 .f32) (w : FVec Ideal ReferenceIdeal.S1x2048x13328 .f32)
    (R : Fin 8192) (n : Fin 13328) (hb hs) :
    Host.dotGeneral (F := Ideal) (φ₁ := .f32) (φ₂ := .f32) ReferenceIdeal.dot_S4x2048x2048_S2048x13328_S4x2048x13328_2_0_01_1_n_n none
        (refN x (shapeCast ReferenceIdeal.S2048 g ReferenceIdeal.Gen.shapeCasts_S1x2048_S2048))
        (shapeCast ReferenceIdeal.S2048x13328 w ReferenceIdeal.Gen.shapeCasts_S1x2048x13328_S2048x13328)
        (ix3 ⟨R.val / 2048, hb⟩ ⟨R.val % 2048, hs⟩ n)
      = prod x g w R n := by
  rw [refDot_apply]
  unfold prod
  refine Finset.sum_congr rfl fun k _ => ?_
  rw [refN_apply]
  congr 1
  · congr 1
    pointwise
  · exact shapeCast_apply w _ _ _ (by simp [Shape.rowMajor_val_two, Shape.rowMajor_val_three])

variable (m : (ℓ : Loc Cert.ReferenceIdeal.nD Cert.ReferenceIdeal.τ Cert.ReferenceIdeal.sig) → Buf (Elt Ideal) ℓ) (c : Dev Cert.ReferenceIdeal.nD)

theorem ref0_apply (R : Fin 8192) (n : Fin 13312) :
    res_main_v29 (F := Ideal) m c (ix2 R n) = (prod (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2)) R ⟨colmap n.val, colmap_lt n.isLt⟩ : EReal) := by
  rw [← ref_prod _ _ _ R _ (by omega) (by omega)]
  unfold res_main_v29
  generalize hD : Host.dotGeneral (F := Ideal) dot_S4x2048x2048_S2048x13328_S4x2048x13328_2_0_01_1_n_n none _ _ = D
  pointwise
  have hn := n.isLt
  split_ifs
  all_goals
    refine congrArg (fun z => D (ix3 _ _ z)) (Fin.ext ?_)
    show _ = colmap n.val
    unfold colmap
    simp only
    (repeat' split) <;> omega

/-- The reference's narrow result, of its product. -/
abbrev refNarrow (D : FVec Ideal ReferenceIdeal.S4x2048x13328 .f32) : FVec Ideal ReferenceIdeal.S8192x128 .f32 :=
  shapeCast _ ((concatenate ReferenceIdeal.S4x2048x128 2 [⟨ReferenceIdeal.S4x2048x8, (extractStridedSlice ReferenceIdeal.S4x2048x8 ![0, 0, 6144] D ReferenceIdeal.Gen.slices_S4x2048x13328_S4x2048x8_0_0_6144 : FVec Ideal ReferenceIdeal.S4x2048x8 .f32)⟩,
    ⟨ReferenceIdeal.S4x2048x8, (extractStridedSlice ReferenceIdeal.S4x2048x8 ![0, 0, 6152] D ReferenceIdeal.Gen.slices_S4x2048x13328_S4x2048x8_0_0_6152 : FVec Ideal ReferenceIdeal.S4x2048x8 .f32)⟩,
    ⟨ReferenceIdeal.S4x2048x112, (extractStridedSlice ReferenceIdeal.S4x2048x112 ![0, 0, 0] (extractStridedSlice ReferenceIdeal.S4x2048x1024 ![0, 0, 6160] D ReferenceIdeal.Gen.slices_S4x2048x13328_S4x2048x1024_0_0_6160 : FVec Ideal ReferenceIdeal.S4x2048x1024 .f32)
      ReferenceIdeal.Gen.slices_S4x2048x1024_S4x2048x112_0_0_0 : FVec Ideal ReferenceIdeal.S4x2048x112 .f32)⟩]
    ReferenceIdeal.Gen.concatenates_S4x2048x8_S4x2048x8_S4x2048x112_S4x2048x128_d2 : FVec Ideal ReferenceIdeal.S4x2048x128 .f32)) ReferenceIdeal.Gen.shapeCasts_S4x2048x128_S8192x128

theorem refNarrow_apply (D : FVec Ideal ReferenceIdeal.S4x2048x13328 .f32) (R : Fin 8192) (n : Fin 128) :
    refNarrow D (ix2 R n) = D (ix3 ⟨R.val / 2048, by omega⟩ ⟨R.val % 2048, by omega⟩ ⟨6144 + n.val, by omega⟩) := by
  unfold refNarrow
  pointwise
  have hn := n.isLt
  split_ifs
  all_goals
    refine congrArg (fun z => D (ix3 _ _ z)) (Fin.ext ?_)
    first | rfl | (simp only; omega)

end Reference

end Cert.KernelIdeal.Hand

end
-- ==== Proof.Blocks.lean ====
/-
  Hand-written. What the run leaves in the two outputs, at the ideal values: the normalized input times the weight, its
  columns as the windows take them.
-/
module

public import proofs.«01_k».proof.Proof.Value
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (c : Dev nD)

/-! ## The arrays at the region's entry -/

abbrev argX : S4x2048x2048.Idx → EReal := m ((c.tc : Thread nD τ).loc main_arg0)
abbrev argG : S1x2048.Idx → EReal := m ((c.tc : Thread nD τ).loc main_arg1)
abbrev argW : S1x2048x13328.Idx → EReal := m ((c.tc : Thread nD τ).loc main_arg2)

theorem v0_apply (R : Fin 8192) (k : Fin 2048) :
    V (F := Ideal) m c main_v0 (ix2 R k) = (argX m c (ix3 ⟨R.val / 2048, by omega⟩ ⟨R.val % 2048, by omega⟩ k) : EReal) := by
  entry_read
  pointwise
theorem v4_apply (k : Fin 2048) :
    V (F := Ideal) m c main_v4 (ix2 0 k) = (argG m c (ix2 0 k) : EReal) := by
  entry_read
  pointwise
theorem v3_apply (n : Fin 13328) (k : Fin 2048) :
    V (F := Ideal) m c main_v3 (ix2 n k) = (argW m c (ix3 0 k n) : EReal) := by
  entry_read
  exact (transpose_apply _ _ _ _ (ix2 k n) (by intro b; fin_cases b <;> rfl)).trans
    (shapeCast_apply _ _ _ (ix3 0 k n) (by
      refine (Shape.rowMajor_val_three _).trans (Eq.trans ?_ (Shape.rowMajor_val_two _).symm)
      show ((0 : ℕ) * 2048 + k.val) * 13328 + n.val = k.val * 13328 + n.val; omega))

/-! ## The blocks -/

theorem idx1 : ∀ t : Fin cfg0.N, (cfg0.win 1).index t 0 = colmap (512 * (t.val % 26)) := by decide +kernel

theorem rows_apply (XA : Buf (Elt Ideal) (aM.view.loc (c : Thread nD τ))) (i : Fin 4) (r k : Fin 2048) :
    rows c XA i (ix2 r k) = XA (ix2 ⟨2048 * i.val + r.val, by omega⟩ k) := by
  refine congrArg XA (funext fun a => Fin.ext ?_)
  fin_cases a
  · show 2048 * i.val + 1 * r.val = 2048 * i.val + r.val; omega
  · show 0 + 1 * k.val = k.val; omega

theorem iblk0_apply (t : Fin cfg0.N) (k : Fin 2048) : iblk (F := Ideal) m c 0 t (ix2 0 k) = V (F := Ideal) m c main_v4 (ix2 0 k) := by
  refine congrArg (V (F := Ideal) m c main_v4) (funext fun a => Fin.ext ?_)
  fin_cases a
  · rfl
  · show 0 * 2048 + 1 * k.val = k.val; omega

theorem iblk1_apply (t : Fin cfg0.N) (n : Fin 512) (k : Fin 2048) (h) :
    iblk (F := Ideal) m c 1 t (ix2 n k) = V (F := Ideal) m c main_v3 (ix2 ⟨colmap (512 * (t.val % 26)) + n.val, h⟩ k) := by
  refine congrArg (V (F := Ideal) m c main_v3) (funext fun a => Fin.ext ?_)
  fin_cases a
  · show (cfg0.win 1).index t 0 + 1 * n.val = colmap (512 * (t.val % 26)) + n.val
    rw [idx1]; omega
  · show 0 + 1 * k.val = k.val; omega

theorem X02_apply (t : Fin cfg0.N) (n : Fin 128) (k : Fin 2048) :
    X0_2 (F := Ideal) m c t (ix2 n k) = V (F := Ideal) m c main_v3 (ix2 ⟨6144 + n.val, by omega⟩ k) := by
  unfold X0_2 Window.fill
  rw [dif_pos (moved0_2 t _)]
  refine congrArg (V (F := Ideal) m c main_v3) (funext fun a => Fin.ext ?_)
  fin_cases a
  · show 48 * 128 + 1 * n.val = 6144 + n.val; omega
  · show 0 * 2048 + 1 * k.val = k.val; omega

end Cert.KernelIdeal.Hand

end
-- ==== Proof.Final.lean ====
/-
  Hand-written. The two output arrays of the input projection as the run leaves them, and the claims about it.
-/
module

public import proofs.«01_k».proof.Proof.Blocks
public import proofs.«01_k».proof.Defs
public import proofs.«01_k».proof.Proof.Gen.Kernel
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

section Arrays
variable (m : (ℓ : Loc nD τ sig) → Buf (Elt Ideal) ℓ) (c : Dev nD)

/-! ## What the body computes at an index -/

theorem XN_apply (i : Fin 4) (r k : Fin 2048) :
    XN (F := Ideal) m c i (ix2 r k) = nrm (fun j => argX m c (ix3 ⟨(2048 * i.val + r.val) / 2048, by omega⟩ ⟨(2048 * i.val + r.val) % 2048, by omega⟩ j)) (argG m c (ix2 0 k)) k := by
  unfold XN
  rw [pay1_apply, iblk0_apply, v4_apply]
  refine congrArg (fun f => nrm f (argG m c (ix2 0 k)) k) (funext fun j => ?_)
  rw [rows_apply, v0_apply]

theorem colmap_add (j : Fin 26) (n : Fin 512) : colmap (512 * j.val) + n.val = colmap (512 * j.val + n.val) := by
  unfold colmap
  (repeat' split) <;> omega

theorem PJ_apply (t : Fin cfg0.N) (r : Fin 2048) (n : Fin 512) (hR hn) :
    PJ (F := Ideal) m c t (ix2 r n) = prod (argX m c) (argG m c) (argW m c) ⟨2048 * (t.val / 26) + r.val, hR⟩ ⟨colmap (512 * (t.val % 26) + n.val), hn⟩ := by
  have e := colmap_add ⟨t.val % 26, Nat.mod_lt _ (by decide)⟩ n
  have ht := til_val (lt_N t)
  unfold PJ prod
  rw [pay3_apply]
  refine Finset.sum_congr rfl fun k _ => ?_
  rw [XN_apply, iblk1_apply m c t n k (by dsimp only at e; omega), v3_apply]
  simp only [ht]
  dsimp only at e
  simp only [e]

theorem SM_apply (t : Fin cfg0.N) (r : Fin 2048) (n : Fin 128) (hR hn) :
    SM (F := Ideal) m c (til t.val) (ix2 r n) = prod (argX m c) (argG m c) (argW m c) ⟨2048 * (t.val / 26) + r.val, hR⟩ ⟨6144 + n.val, hn⟩ := by
  have ht := til_val (lt_N t)
  unfold SM prod
  rw [pay2_apply]
  refine Finset.sum_congr rfl fun k _ => ?_
  rw [XN_apply, X02_apply, v3_apply]
  simp only [ht]

/-! ## The two arrays after the run -/

abbrev outWide : S8192x13312.Idx → EReal := fun y => prod (argX m c) (argG m c) (argW m c) (y 0) ⟨colmap (y 1).val, colmap_lt (y 1).isLt⟩
abbrev outNarrow : S8192x128.Idx → EReal := fun y => prod (argX m c) (argG m c) (argW m c) (y 0) ⟨6144 + (y 1).val, by have : (y 1).val < 128 := (y 1).isLt; omega⟩

theorem e3 : ∀ t : Fin cfg0.N, (cfg0.win 3).index t 0 = t.val / 26 ∧ (cfg0.win 3).index t 1 = t.val % 26 := by decide +kernel
theorem e4 : ∀ t : Fin cfg0.N, (cfg0.win 4).index t 0 = t.val / 26 ∧ (cfg0.win 4).index t 1 = 0 := by decide +kernel

theorem final_wide : (dats (F := Ideal) m 0 c).arrAt 3 cfg0.N = outWide m c := by
  refine (dats (F := Ideal) m 0 c).arrAt_eq_of_covers 3 _ (by decide +kernel) fun t _ y => ?_
  have h0 : (y 0).val < 2048 := (y 0).isLt
  have h1 : (y 1).val < 512 := (y 1).isLt
  have ht := lt_N t
  have hc := colmap_lt (n := 512 * (t.val % 26) + (y 1).val) (by omega)
  refine (congrFun (after_w3 m c t) _).trans (Eq.trans (congrArg (PJ m c t) (funext fun a => by fin_cases a <;> rfl)) ((PJ_apply m c t ⟨(y 0).val, h0⟩ ⟨(y 1).val, h1⟩ (by dsimp only; omega) hc).trans ?_))
  refine congrArg₂ (prod (argX m c) (argG m c) (argW m c)) (Fin.ext ?_) (Fin.ext ?_)
  · show 2048 * (t.val / 26) + (y 0).val = (cfg0.win 3).index t 0 * 2048 + 1 * (y 0).val
    rw [(e3 t).1]; omega
  · show colmap (512 * (t.val % 26) + (y 1).val) = colmap ((cfg0.win 3).index t 1 * 512 + 1 * (y 1).val)
    rw [(e3 t).2]; congr 1; omega

theorem final_narrow : (dats (F := Ideal) m 0 c).arrAt 4 cfg0.N = outNarrow m c := by
  refine (dats (F := Ideal) m 0 c).arrAt_eq_of_covers 4 _ (by decide +kernel) fun t _ y => ?_
  have h0 : (y 0).val < 2048 := (y 0).isLt
  have h1 : (y 1).val < 128 := (y 1).isLt
  have ht := lt_N t
  refine (congrFun (after_w4 m c t) _).trans (Eq.trans (congrArg (SM m c (til t.val)) (funext fun a => by fin_cases a <;> rfl)) ((SM_apply m c t ⟨(y 0).val, h0⟩ ⟨(y 1).val, h1⟩ (by dsimp only; omega) (by dsimp only; omega)).trans ?_))
  refine congrArg₂ (prod (argX m c) (argG m c) (argW m c)) (Fin.ext ?_) (Fin.ext ?_)
  · show 2048 * (t.val / 26) + (y 0).val = (cfg0.win 4).index t 0 * 2048 + 1 * (y 0).val
    rw [(e4 t).1]; omega
  · show 6144 + (y 1).val = 6144 + ((cfg0.win 4).index t 1 * 128 + 1 * (y 1).val)
    rw [(e4 t).2]; omega

end Arrays

/-! ## The claims -/

theorem frame_run {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run Cert.KernelIdeal.defs _ _).mono (fun r h => ⟨fun c => args_kept m r h.1 c, h.2⟩) (run_main m ρ)

theorem frame_kernelIdeal : Cert.quiescent_KernelIdeal := fun m ρ _ => frame_run (F := Ideal) m ρ

/-- The printed kernel's procedures are those of the ideal one: the two texts are the same. -/
theorem defs₀_eq : (Kernel.defs₀ (F := Bits) : Defs nD τ sig (Elt Bits) Λ₀) = defs₀ (F := Bits) :=
  congrArg Defs.onTc (funext fun l => funext fun a => by
    match l, a with
    | 0, (t, s) => rfl
    | ⟨_ + 1, h⟩, _ => exact absurd h (Nat.not_lt.2 (Nat.le_add_left _ _)))

theorem defs_eq : (Kernel.defs (F := Bits) : Defs nD τ sig (Elt Bits) _) = defs (F := Bits) :=
  congrArg (Pipeline.defs pcfgs) defs₀_eq

theorem frame_kernel : Cert.quiescent_Kernel := fun m ρ _ => by
  have h := frame_run (F := Bits) m ρ
  rw [← defs_eq] at h
  exact h

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := fun m g m' g' _ hm =>
  ⟨fun c => outWide m c, fun c => outNarrow m c,
    (θ_run Cert.KernelIdeal.defs _ _).mono (fun r h c =>
      ⟨(outs_at m r h.1 c).1.trans (final_wide m c), (outs_at m r h.1 c).2.trans (final_narrow m c), args_kept m r h.1 c⟩) (run_main (F := Ideal) m g),
    (θ_run Cert.ReferenceIdeal.defs _ _).mono (fun r h c => by
      refine ⟨(h c).1.trans (funext fun y => ?_), (h c).2.1.trans (funext fun y => ?_), (h c).2.2⟩
      · rw [← ix2_eta y]
        refine (ref0_apply m' c (y 0) (y 1)).trans ?_
        rw [(hm c).1, (hm c).2.1, (hm c).2.2]
        rfl
      · rw [← ix2_eta y]
        refine (refNarrow_apply _ (y 0) (y 1)).trans ((ref_prod _ _ _ (y 0) _ _ _).trans ?_)
        rw [(hm c).1, (hm c).2.1, (hm c).2.2]
        rfl)
      (Cert.ReferenceIdeal.Value.run (F := Ideal) m' g')⟩

end Cert.KernelIdeal.Hand

end
-- ==== Proof.MlpTiles.lean ====
/-
  Hand-written. The names the MLP's body is proved through: the row tiles of the flattened input the body copies
  into its staging scratch, the two scratch buffers, the copy's cell, and one copy in flight.
-/
module

public import proofs.«01_k».proof.Proof.Gen.MlpKernelIdeal.Launch
public import proofs.«01_k».proof.Proof.Gen.MlpKernelIdeal.Skeleton
public import proofs.«01_k».proof.Proof.Gen.MlpKernelIdeal.Points
public import proofs.«01_k».proof.Proof.Gen.MlpKernelIdeal.Frame
public import Idealize.ShloMosaic.Lib.Pipeline.FrameBody
public import Idealize.ShloMosaic.Lib.Ring
public import Idealize.ShloMosaic.Lib.Tactic

@[expose] public section

noncomputable section

namespace Cert.MlpKernelIdeal.Hand

open Cert.MlpKernelIdeal Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The flattened input, left in HBM. -/
abbrev aM : Memref sig .tc .hbm S8192x2048 .f32 := Memref.whole main_v0
/-- The normalized row tile's scratch. -/
abbrev nM : Memref sig .tc .vmem S1024x2048 .bf16 := Memref.whole cc0_scratch0
/-- The copied row tile's scratch. -/
abbrev xM : Memref sig .tc .vmem S1024x2048 .f32 := Memref.whole cc0_scratch1

/-- Row tile `k` starts at row `1024 k`. -/
abbrev tOff (k : Fin 8) : Fin 2 → Nat := ![1024 * k.val, 0]
theorem tOff_inb (k : Fin 8) : ∀ a, tOff k a + S1024x2048.size a ≤ S8192x2048.size a := by
  have := k.isLt; intro a; fin_cases a
  · show 1024 * k.val + 1024 ≤ 8192; omega
  · show 0 + 2048 ≤ 2048; omega
instance (k : Fin 8) : ClosedOff (tOff k) := ⟨tOff k, rfl⟩

/-- Row tile `k` of the flattened input, as the body slices it. -/
def tile (k : Fin 8) : Memref sig .tc .hbm S1024x2048 .f32 :=
  aM.slice (Rect.unit (s := S8192x2048) (tOff k) S1024x2048.size (tOff_inb k)) (fun _ => rfl)

theorem tile_congr {off : Fin 2 → Nat} {k : Fin 8} (e : off = tOff k) (hh hs) :
    aM.slice (Rect.unit (s := S8192x2048) off S1024x2048.size hh) hs = tile k :=
  Memref.slice_unit_congr aM e hh (tOff_inb k) hs (fun _ => rfl)

/-- The first point's copy is of tile 0; -/
@[sl_canon] theorem tile_first (hh hs) :
    aM.slice (Rect.unit (s := S8192x2048) ![0, 0] S1024x2048.size hh) hs = tile 0 := tile_congr (by decide) _ _
/-- the wait names its row's tile; -/
@[sl_canon] theorem tile_wait (i : grid0.Coords) (k : Fin 8) (hk : (i 0).val = k.val) (hh hs) :
    aM.slice (Rect.unit (s := S8192x2048) (k0_off1 i) S1024x2048.size hh) hs = tile k :=
  tile_congr ((k0_off1_eq i).trans (by rw [hk])) _ _
/-- the copy ahead is of the next row's tile. -/
@[sl_canon] theorem tile_ahead (i : grid0.Coords) (k : Fin 8) (hk : (i 0).val + 1 = k.val) (hh hs) :
    aM.slice (Rect.unit (s := S8192x2048) (k0_off2 i) S1024x2048.size hh) hs = tile k :=
  tile_congr ((k0_off2_eq i).trans (by
    show (![1024 * (i 0).val + 1024, 0] : Fin 2 → Nat) = ![1024 * k.val, 0]
    rw [← hk]; congr 1)) _ _

section Pieces
variable (c : Dev nD) (XA : Buf (Elt F) (aM.view.loc (c : Thread nD τ)))

/-- Tile `k` held on its own elements. -/
abbrev tileP (k : Fin 8) : sProp 𝕄 := (tile k).view.loc (c : Thread nD τ) ↦[(tile k).view.set]{fullShare} XA
/-- Tile `k`'s words. -/
abbrev rows (k : Fin 8) : S1024x2048.Idx → Elt F .f32 := ReadAs.same.apply ((tile k).view.read (Elt F) XA)
/-- The copy's scratch, and the normalized tile's, held whole. -/
abbrev xP (f : Buf (Elt F) (xM.view.loc (c : Thread nD τ))) : sProp 𝕄 := xM.view.loc (c : Thread nD τ) ↦{fullShare} f
abbrev nP (f : Buf (Elt F) (nM.view.loc (c : Thread nD τ))) : sProp 𝕄 := nM.view.loc (c : Thread nD τ) ↦{fullShare} f
/-- The copy's cell at zero. -/
abbrev cellP : sProp 𝕄 := semVal ((c : Thread nD τ), SemLoc.dma cc0_scratch2.sem) 0
/-- The copy of tile `k` in flight, issued over `f`. -/
abbrev flightP (k : Fin 8) (f : Buf (Elt F) (xM.view.loc (c : Thread nD τ))) : sProp 𝕄 :=
  Transfers.Flight countersEmb (c : Thread nD τ) (SemLoc.dma cc0_scratch2.sem) () 262144
    iprop(xP c (xM.view.writes (Elt F) f [⟨Rect.whole S1024x2048, rows c XA k⟩]) ∗ tileP c XA k)
/-- The copy as issued, its landed words written over the scratch. -/
theorem flightP_issued (k : Fin 8) (f : Buf (Elt F) (xM.view.loc (c : Thread nD τ))) :
    (Transfers.Flight countersEmb (c : Thread nD τ) (SemLoc.dma cc0_scratch2.sem) () 262144
        iprop(xP c (xM.view.write (Elt F) f (rows c XA k) Finset.univ) ∗ tileP c XA k) : sProp 𝕄) ⊢ flightP c XA k f := by
  have e : xM.view.write (Elt F) f (rows c XA k) Finset.univ = xM.view.writes (Elt F) f [⟨Rect.whole S1024x2048, rows c XA k⟩] :=
    View.write_univ_eq_writes_whole xM.view f [] _
  rw [e]
/-- The normalized tile's scratch holding `X`. -/
def nHolds (X : FVec F S1024x2048 .bf16) : sProp 𝕄 := iprop(∃ f, ⌜nM.view.read (Elt F) f = X⌝ ∗ nP c f)

end Pieces

end Cert.MlpKernelIdeal.Hand

end
-- ==== Proof.MlpBody.lean ====
/-
  Hand-written. The MLP's body, case by case: at a row tile's first point the tile's copy is waited for, normalized, and
  put into the output's block; at its second the next tile's copy is issued; every point adds one slice of the hidden
  layer's share to the block; the last normalizes the block.
-/
module

public import proofs.«01_k».proof.Proof.MlpTiles
public import proofs.«01_k».proof.Proof.Loads

@[expose] public section

set_option maxRecDepth 16384

noncomputable section

namespace Cert.MlpKernelIdeal.Hand

open Cert.MlpKernelIdeal Cert.MlpKernelIdeal.Gen
open Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Cases

variable (c : Dev nD) (XA : Buf (Elt F) (aM.view.loc (c : Thread nD τ))) (i : grid0.Coords)
  (arg3 : Memref sig .tc .vmem S1x2048 .f32) (harg3 : arg3.IsWhole) (arg4 : Memref sig .tc .vmem S2048x512 .f32) (harg4 : arg4.IsWhole)
  (arg5 : Memref sig .tc .vmem S512x2048 .f32) (harg5 : arg5.IsWhole) (arg6 : Memref sig .tc .vmem S1x2048 .f32) (harg6 : arg6.IsWhole)
  (arg7 : Memref sig .tc .vmem S1024x2048 .f32) (harg7 : arg7.IsWhole)
  (X3 : FVec F S1x2048 .f32) (X4 : FVec F S2048x512 .f32) (X5 : FVec F S512x2048 .f32) (X6 : FVec F S1x2048 .f32)

abbrev bodyG : Prog (TpuEff nD τ sig (Elt F) Λ₀ .tc) PUnit :=
  cc0_mlp_final_norm i aM (Memref.isWhole_whole _) arg3 harg3 arg4 harg4 arg5 harg5 arg6 harg6 arg7 harg7 nM (Memref.isWhole_whole _) xM (Memref.isWhole_whole _) cc0_scratch2

/-- The condition of the last point of a row tile, as the body computes it. -/
abbrev cond4 : BitVec 1 := Scalar.cmpi .ne (Scalar.extui (Scalar.cmpi .eq (BitVec.ofNat 32 (i 1).val) 15#32) : BitVec 32) 0#32

abbrev bodyWp (Q : PUnit → sProp 𝕄) : sProp 𝕄 :=
  wp frame (wpE (defs₀ (F := F)) Variants.none (c : Thread nD τ) none) Set.univ (bodyG i arg3 harg3 arg4 harg4 arg5 harg5 arg6 harg6 arg7 harg7) Q

/-- A point with no copy and no normalization. -/
theorem run_plain (h1 : ¬k0_cond1 i = 1#1) (h2 : ¬k0_cond2 i = 1#1) (h3 : ¬k0_cond3 i = 1#1) (h4 : ¬cond4 i = 1#1)
    (Xn : FVec F S1024x2048 .bf16) (X7 : FVec F S1024x2048 .f32) (Q : PUnit → sProp 𝕄) :
    iprop(owns c arg4 fullShare X4 ∗ owns c arg5 fullShare X5 ∗ owns c arg7 fullShare X7 ∗ nHolds c Xn
        ∗ (owns c arg4 fullShare X4 ∗ owns c arg5 fullShare X5 ∗ owns c arg7 fullShare (k0_pay3 Xn X4 X7 X5) ∗ nHolds c Xn -∗ Q ⟨⟩))
      ⊢ bodyWp c i arg3 harg3 arg4 harg4 arg5 harg5 arg6 harg6 arg7 harg7 Q := by
  unfold owns nHolds
  iintro ⟨⟨%g4, %e4, H4⟩, ⟨%g5, %e5, H5⟩, ⟨%g7, %e7, H7⟩, ⟨%fn, %en, Hn⟩, Hk⟩
  simp only [bodyWp, bodyG, cc0_mlp_final_norm_eq_skeleton]; unfold cc0_mlp_final_norm_skel
  simp only [k0_part1_eq_skeleton]; unfold k0_part1_skel
  sl_exec
  sl_step
  iapply Hk
  isplitl [H4]
  · iexists _; isplitr; · ipureintro; exact e4
    iexact H4
  isplitl [H5]
  · iexists _; isplitr; · ipureintro; exact e5
    iexact H5
  isplitl [H7]
  · iexists _; isplitr
    swap; · iexact H7
    ipureintro
    sl_unfold_words
    rw [read_store (S := S1024x2048) _ hz2, load_whole (S := S2048x512) _ hz2, load_whole (S := S512x2048) _ hz2, load_whole (S := S1024x2048) _ hz2, load_whole (S := S1024x2048) _ hz2, e4, e5, e7, en]
  iexists _; isplitr; · ipureintro; exact en
  iexact Hn

/-- A tile's last point: the block is normalized. -/
theorem run_last (h1 : ¬k0_cond1 i = 1#1) (h2 : ¬k0_cond2 i = 1#1) (h3 : ¬k0_cond3 i = 1#1) (h4 : cond4 i = 1#1)
    (Xn : FVec F S1024x2048 .bf16) (X7 : FVec F S1024x2048 .f32) (Q : PUnit → sProp 𝕄) :
    iprop(owns c arg4 fullShare X4 ∗ owns c arg5 fullShare X5 ∗ owns c arg6 fullShare X6 ∗ owns c arg7 fullShare X7 ∗ nHolds c Xn
        ∗ (owns c arg4 fullShare X4 ∗ owns c arg5 fullShare X5 ∗ owns c arg6 fullShare X6 ∗ owns c arg7 fullShare (k0_pay1 (k0_pay3 Xn X4 X7 X5) X6) ∗ nHolds c Xn -∗ Q ⟨⟩))
      ⊢ bodyWp c i arg3 harg3 arg4 harg4 arg5 harg5 arg6 harg6 arg7 harg7 Q := by
  unfold owns nHolds
  iintro ⟨⟨%g4, %e4, H4⟩, ⟨%g5, %e5, H5⟩, ⟨%g6, %e6, H6⟩, ⟨%g7, %e7, H7⟩, ⟨%fn, %en, Hn⟩, Hk⟩
  simp only [bodyWp, bodyG, cc0_mlp_final_norm_eq_skeleton]; unfold cc0_mlp_final_norm_skel
  simp only [k0_part1_eq_skeleton]; unfold k0_part1_skel
  sl_exec
  sl_step
  iapply Hk
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr
    swap; · iexact H7
    ipureintro
    sl_unfold_words
    rw [read_store (S := S1024x2048) _ hz2, View.readCov_unit_zero (S := S1024x2048) _ hz2, load_whole (S := S2048x512) _ hz2, load_whole (S := S512x2048) _ hz2, load_whole (S := S1x2048) _ hz2, load_whole (S := S1024x2048) _ hz2, load_whole (S := S1024x2048) _ hz2, e4, e5, e6, e7, en]
  iexists _; isplitr; · ipureintro; exact en
  iexact Hn

/-- A tile's second point: the next tile's copy is issued. -/
theorem run_issue (h1 : ¬k0_cond1 i = 1#1) (h2 : ¬k0_cond2 i = 1#1) (h3 : k0_cond3 i = 1#1) (h4 : ¬cond4 i = 1#1) (k : Fin 8) (hk : (i 0).val + 1 = k.val)
    (Xn : FVec F S1024x2048 .bf16) (X7 : FVec F S1024x2048 .f32) (W) (Q : PUnit → sProp 𝕄) :
    iprop(owns c arg4 fullShare X4 ∗ owns c arg5 fullShare X5 ∗ owns c arg7 fullShare X7 ∗ nHolds c Xn ∗ (∃ f, xP c f) ∗ tileP c XA k ∗ cellP c ∗ owes (c : Thread nD τ) 0 W
        ∗ (owns c arg4 fullShare X4 ∗ owns c arg5 fullShare X5 ∗ owns c arg7 fullShare (k0_pay3 Xn X4 X7 X5) ∗ nHolds c Xn ∗ (∃ f, flightP c XA k f) ∗ (∃ W', owes (c : Thread nD τ) 0 W') -∗ Q ⟨⟩))
      ⊢ bodyWp c i arg3 harg3 arg4 harg4 arg5 harg5 arg6 harg6 arg7 harg7 Q := by
  unfold owns nHolds
  iintro ⟨⟨%g4, %e4, H4⟩, ⟨%g5, %e5, H5⟩, ⟨%g7, %e7, H7⟩, ⟨%fn, %en, Hn⟩, ⟨%fx, Hx⟩, Ht, Hc, HW, Hk⟩
  simp only [bodyWp, bodyG, cc0_mlp_final_norm_eq_skeleton]; unfold cc0_mlp_final_norm_skel
  simp only [k0_part1_eq_skeleton]; unfold k0_part1_skel
  sl_exec
  sl_step
  iapply Hk
  isplitl [H4]
  · iexists _; isplitr; · ipureintro; exact e4
    iexact H4
  isplitl [H5]
  · iexists _; isplitr; · ipureintro; exact e5
    iexact H5
  isplitl [H7]
  · iexists _; isplitr
    swap; · iexact H7
    ipureintro
    sl_unfold_words
    rw [read_store (S := S1024x2048) _ hz2, load_whole (S := S2048x512) _ hz2, load_whole (S := S512x2048) _ hz2, load_whole (S := S1024x2048) _ hz2, load_whole (S := S1024x2048) _ hz2, e4, e5, e7, en]
  isplitl [Hn]
  · iexists _; isplitr; · ipureintro; exact en
    iexact Hn
  isplitl [Hc]
  · iexists fx
    iapply (flightP_issued c XA k fx)
    iexact Hc
  iexists _; iexact HW

/-- A tile's first point, its copy in flight. -/
theorem run_first (h1 : ¬k0_cond1 i = 1#1) (h2 : k0_cond2 i = 1#1) (h3 : ¬k0_cond3 i = 1#1) (h4 : ¬cond4 i = 1#1) (k : Fin 8) (hk : (i 0).val = k.val)
    (X7 : FVec F S1024x2048 .f32) (W) (Q : PUnit → sProp 𝕄) :
    iprop(owns c arg3 fullShare X3 ∗ owns c arg4 fullShare X4 ∗ owns c arg5 fullShare X5 ∗ owns c arg7 fullShare X7
        ∗ (∃ f, nP c f) ∗ (∃ f, flightP c XA k f) ∗ owes (c : Thread nD τ) 0 W
        ∗ (owns c arg3 fullShare X3 ∗ owns c arg4 fullShare X4 ∗ owns c arg5 fullShare X5
            ∗ owns c arg7 fullShare (k0_pay3 (k0_pay2 (rows c XA k) X3) X4 (rows c XA k) X5)
            ∗ nHolds c (k0_pay2 (rows c XA k) X3) ∗ (∃ f, xP c f) ∗ tileP c XA k ∗ cellP c ∗ (∃ W', owes (c : Thread nD τ) 0 W') -∗ Q ⟨⟩))
      ⊢ bodyWp c i arg3 harg3 arg4 harg4 arg5 harg5 arg6 harg6 arg7 harg7 Q := by
  unfold owns nHolds
  iintro ⟨⟨%g3, %e3, H3⟩, ⟨%g4, %e4, H4⟩, ⟨%g5, %e5, H5⟩, ⟨%g7, %e7, H7⟩, ⟨%fn, Hn⟩, ⟨%fx, HF⟩, HW, Hk⟩
  simp only [bodyWp, bodyG, cc0_mlp_final_norm_eq_skeleton]; unfold cc0_mlp_final_norm_skel
  simp only [k0_part1_eq_skeleton]; unfold k0_part1_skel
  sl_exec
  sl_step
  iapply Hk
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H7]
  · iexists _; isplitr
    swap; · iexact H7
    ipureintro
    sl_unfold_words
    rw [read_store (S := S1024x2048) _ hz2, View.readCov_unit_zero (S := S1024x2048) _ hz2, View.readCov_unit_zero (S := S1024x2048) _ hz2, readCov_landed (S := S1024x2048) _ hz2,
      load_whole (S := S1x2048) _ hz2, load_whole (S := S2048x512) _ hz2, load_whole (S := S512x2048) _ hz2, e3, e4, e5]
  isplitl [Hn]
  · iexists _; isplitr
    swap; · iexact Hn
    ipureintro
    sl_unfold_words
    rw [read_store (S := S1024x2048) _ hz2, readCov_landed (S := S1024x2048) _ hz2, load_whole (S := S1x2048) _ hz2, e3]
  isplitl [HF_dst]
  · iexists _; iexact HF_dst
  isplitl [HF_src]
  · iexact HF_src
  isplitl [HF]
  · iexact HF
  iexists _; iexact HW

/-- The grid's first point: the first tile's copy is issued and waited for. -/
theorem run_start (h1 : k0_cond1 i = 1#1) (h2 : k0_cond2 i = 1#1) (h3 : ¬k0_cond3 i = 1#1) (h4 : ¬cond4 i = 1#1) (hk : (i 0).val = (0 : Fin 8).val)
    (X7 : FVec F S1024x2048 .f32) (W) (Q : PUnit → sProp 𝕄) :
    iprop(owns c arg3 fullShare X3 ∗ owns c arg4 fullShare X4 ∗ owns c arg5 fullShare X5 ∗ owns c arg7 fullShare X7
        ∗ (∃ f, nP c f) ∗ (∃ f, xP c f) ∗ tileP c XA 0 ∗ cellP c ∗ owes (c : Thread nD τ) 0 W
        ∗ (owns c arg3 fullShare X3 ∗ owns c arg4 fullShare X4 ∗ owns c arg5 fullShare X5
            ∗ owns c arg7 fullShare (k0_pay3 (k0_pay2 (rows c XA 0) X3) X4 (rows c XA 0) X5)
            ∗ nHolds c (k0_pay2 (rows c XA 0) X3) ∗ (∃ f, xP c f) ∗ tileP c XA 0 ∗ cellP c ∗ (∃ W', owes (c : Thread nD τ) 0 W') -∗ Q ⟨⟩))
      ⊢ bodyWp c i arg3 harg3 arg4 harg4 arg5 harg5 arg6 harg6 arg7 harg7 Q := by
  unfold owns nHolds
  iintro ⟨⟨%g3, %e3, H3⟩, ⟨%g4, %e4, H4⟩, ⟨%g5, %e5, H5⟩, ⟨%g7, %e7, H7⟩, ⟨%fn, Hn⟩, ⟨%fx, Hx⟩, Ht, Hc, HW, Hk⟩
  simp only [bodyWp, bodyG, cc0_mlp_final_norm_eq_skeleton]; unfold cc0_mlp_final_norm_skel
  simp only [k0_part1_eq_skeleton]; unfold k0_part1_skel
  sl_exec
  sl_step
  iapply Hk
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H7]
  · iexists _; isplitr
    swap; · iexact H7
    ipureintro
    sl_unfold_words
    rw [read_store (S := S1024x2048) _ hz2, View.readCov_unit_zero (S := S1024x2048) _ hz2, View.readCov_unit_zero (S := S1024x2048) _ hz2, load_whole (S := S1024x2048) _ hz2, View.read_write_univ,
      load_whole (S := S1x2048) _ hz2, load_whole (S := S2048x512) _ hz2, load_whole (S := S512x2048) _ hz2, e3, e4, e5]
  isplitl [Hn]
  · iexists _; isplitr
    swap; · iexact Hn
    ipureintro
    sl_unfold_words
    rw [read_store (S := S1024x2048) _ hz2, load_whole (S := S1024x2048) _ hz2, View.read_write_univ, load_whole (S := S1x2048) _ hz2, e3]
  isplitl [Hx]
  · iexists _; iexact Hx
  isplitl [Ht]
  · iexact Ht
  isplitl [Hc]
  · iexact Hc
  iexists _; iexact HW

end Cases

end Cert.MlpKernelIdeal.Hand

end
-- ==== Proof.MlpData.lean ====
/-
  Hand-written. What the MLP's pipeline holds at each grid point: the windows' buffers, the two scratches, and where
  the row tiles are.
-/
module

public import proofs.«01_k».proof.Proof.MlpBody

@[expose] public section

set_option maxRecDepth 16384

noncomputable section

namespace Cert.MlpKernelIdeal.Hand

open Cert.MlpKernelIdeal Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The grid's points: 16 to a row tile -/

theorem row_of : ∀ t : Fin cfg0.N, (cfg0.grid.coords t 0).val = t.val / 16 := by decide +kernel
theorem cond1_iff : ∀ t : Fin cfg0.N, k0_cond1 (cfg0.grid.coords t) = 1#1 ↔ t.val = 0 := by decide +kernel
theorem cond2_iff : ∀ t : Fin cfg0.N, k0_cond2 (cfg0.grid.coords t) = 1#1 ↔ t.val % 16 = 0 := by decide +kernel
theorem cond3_iff : ∀ t : Fin cfg0.N, k0_cond3 (cfg0.grid.coords t) = 1#1 ↔ t.val % 16 = 1 ∧ t.val / 16 < 7 := by decide +kernel
theorem cond4_iff : ∀ t : Fin cfg0.N, cond4 (cfg0.grid.coords t) = 1#1 ↔ t.val % 16 = 15 := by decide +kernel

theorem lt_N (t : Fin cfg0.N) : t.val < 128 := Nat.lt_of_lt_of_eq t.isLt N_0

/-- The row tile of point `p`, and point `j` of row tile `i`. -/
def til (p : ℕ) : Fin 8 := ⟨p / 16 % 8, Nat.mod_lt _ (by decide)⟩
def pt (i : Fin 8) (j : ℕ) : Fin cfg0.N := ⟨(16 * i.val + j) % 128, Nat.lt_of_lt_of_eq (Nat.mod_lt _ (by decide)) N_0.symm⟩

theorem til_val {p : ℕ} (h : p < 128) : (til p).val = p / 16 := Nat.mod_eq_of_lt (by omega)
theorem pt_til (t : Fin cfg0.N) {j : ℕ} (h : t.val % 16 = j) : pt (til t.val) j = t :=
  Fin.ext (by show (16 * (til t.val).val + j) % 128 = t.val; have := lt_N t; rw [til_val this]; omega)
theorem til_succ {p : ℕ} (h : p % 16 ≠ 15) : til (p + 1) = til p :=
  Fin.ext (by show (p + 1) / 16 % 8 = p / 16 % 8; congr 1; omega)
theorem til_pred {p : ℕ} (h : p % 16 ≠ 0) : til (p - 1) = til p :=
  Fin.ext (by show (p - 1) / 16 % 8 = p / 16 % 8; congr 1; omega)

/-! ## The row tiles -/

section Split
variable (c : Dev nD) (XA : Buf (Elt F) (aM.view.loc (c : Thread nD τ)))

abbrev T8 (k : Fin 8) : Finset S8192x2048.Idx := (Rect.unit (s := S8192x2048) (tOff k) S1024x2048.size (tOff_inb k)).set
theorem tile_set (k : Fin 8) : (tile k).view.set = T8 k := View.set_slice_whole _ _
theorem mem_T8 (k : Fin 8) (y : S8192x2048.Idx) : y ∈ T8 k ↔ (y 0).val / 1024 = k.val := by
  rw [Rect.mem_set_unit]
  have h1 : (y 1).val < 2048 := (y 1).isLt
  constructor
  · intro H; have a0 : 1024 * k.val ≤ (y 0).val ∧ (y 0).val < 1024 * k.val + 1024 := H 0; omega
  · intro H i; fin_cases i
    · show 1024 * k.val ≤ (y 0).val ∧ (y 0).val < 1024 * k.val + 1024; omega
    · show 0 ≤ (y 1).val ∧ (y 1).val < 0 + 2048; omega
theorem T8_disjoint : ∀ b b' : Fin 8, b ≠ b' → Disjoint (T8 b) (T8 b') := by
  intro b b' hne; rw [Finset.disjoint_left]; intro y hy hy'; rw [mem_T8] at hy hy'; exact hne (Fin.ext (hy.symm.trans hy'))
theorem T8_cover : (Finset.univ : Finset (Fin 8)).biUnion T8 = Finset.univ := by
  ext y; simp only [Finset.mem_biUnion, Finset.mem_univ, true_and, iff_true]
  have h : (y 0).val < 8192 := (y 0).isLt
  exact ⟨⟨(y 0).val / 1024, by omega⟩, by rw [mem_T8]⟩

/-- The flattened input whole is its eight row tiles; -/
theorem a_eq : (((c : Thread nD τ).loc main_v0) ↦{fullShare} XA : sProp 𝕄) = bigSep Finset.univ (tileP c XA) := by
  rw [Ring.pointsTo_blocks (ℓ := (c : Thread nD τ).loc main_v0) T8 T8_disjoint T8_cover]
  exact bigSep_congr fun b _ => by rw [← tile_set]; rfl
/-- one apart from the rest. -/
theorem tiles_take (k : Fin 8) : bigSep Finset.univ (tileP c XA) = iprop(tileP c XA k ∗ bigSep (Finset.univ.erase k) (tileP c XA)) := by
  conv_lhs => rw [← Finset.insert_erase (Finset.mem_univ k)]
  rw [bigSep_insert (Finset.notMem_erase k _)]; rfl

/-- Where the row tiles are before point `p`: one in flight from the second point of the tile before it up to its own
    first point, the others home. -/
def tilesAt (p : ℕ) : sProp 𝕄 :=
  if h : p % 16 ≠ 1 ∧ 1 ≤ (p + 14) / 16 ∧ (p + 14) / 16 < 8 then
    iprop((∃ f, flightP c XA ⟨(p + 14) / 16, h.2.2⟩ f) ∗ bigSep (Finset.univ.erase (⟨(p + 14) / 16, h.2.2⟩ : Fin 8)) (tileP c XA))
  else iprop((∃ f, xP c f) ∗ cellP c ∗ bigSep Finset.univ (tileP c XA))

theorem tilesAt_home {p : ℕ} (h : ¬(p % 16 ≠ 1 ∧ 1 ≤ (p + 14) / 16 ∧ (p + 14) / 16 < 8)) :
    tilesAt c XA p = iprop((∃ f, xP c f) ∗ cellP c ∗ bigSep Finset.univ (tileP c XA)) := by unfold tilesAt; rw [dif_neg h]
theorem tilesAt_flight {p : ℕ} (k : Fin 8) (h : p % 16 ≠ 1) (hk : (p + 14) / 16 = k.val) (h1 : 1 ≤ k.val) :
    tilesAt c XA p = iprop((∃ f, flightP c XA k f) ∗ bigSep (Finset.univ.erase k) (tileP c XA)) := by
  obtain ⟨k, hk8⟩ := k
  dsimp only at hk h1
  subst hk
  unfold tilesAt; rw [dif_pos ⟨h, h1, hk8⟩]
/-- A point that neither issues nor waits leaves them. -/
theorem tilesAt_plain {p : ℕ} (hp : p < 128) (h0 : p % 16 ≠ 0) (h3 : ¬(p % 16 = 1 ∧ p / 16 < 7)) : tilesAt c XA (p + 1) = tilesAt c XA p := by
  by_cases h1 : p % 16 = 1
  · rw [tilesAt_home c XA (p := p) (fun h => h.1 h1), tilesAt_home c XA (p := p + 1) (fun h => by omega)]
  · by_cases hk : p / 16 = 7
    · rw [tilesAt_home c XA (p := p) (fun h => by omega), tilesAt_home c XA (p := p + 1) (fun h => by omega)]
    · rw [tilesAt_flight c XA (p := p) ⟨p / 16 + 1, by omega⟩ h1 (by show _ = p / 16 + 1; omega) (by show 1 ≤ p / 16 + 1; omega),
        tilesAt_flight c XA (p := p + 1) ⟨p / 16 + 1, by omega⟩ (by omega) (by show _ = p / 16 + 1; omega) (by show 1 ≤ p / 16 + 1; omega)]

end Split

/-! ## The proof data -/

section Data
variable (m : (ℓ : Loc nD τ sig) → Buf (Elt F) ℓ)

/-- Row tile `i` normalized; -/
def XN (c : Dev nD) (i : Fin 8) : FVec F S1024x2048 .bf16 := k0_pay2 (rows c (V m c main_v0) i) (iblk m c 0 (pt i 0))
/-- the tile with the first `j` slices of the hidden layer added. -/
def AC (c : Dev nD) (i : Fin 8) : ℕ → FVec F S1024x2048 .f32
  | 0 => rows c (V m c main_v0) i
  | j + 1 => k0_pay3 (XN m c i) (iblk m c 1 (pt i j)) (AC c i j) (iblk m c 2 (pt i j))
/-- What a point leaves in the output's block: at the tile's last point the sum normalized. -/
def OUT (c : Dev nD) (t : Fin cfg0.N) : FVec F S1024x2048 .f32 :=
  if t.val % 16 = 15 then k0_pay1 (AC m c (til t.val) 16) (iblk m c 3 t) else AC m c (til t.val) (t.val % 16 + 1)

theorem AC_at (c : Dev nD) (t : Fin cfg0.N) :
    AC m c (til t.val) (t.val % 16 + 1) = k0_pay3 (XN m c (til t.val)) (iblk m c 1 t) (AC m c (til t.val) (t.val % 16)) (iblk m c 2 t) := by
  rw [AC, pt_til t rfl]

/-- The normalized tile's scratch before point `p`: anything where a new row tile begins. -/
def normAt (c : Dev nD) (p : ℕ) : sProp 𝕄 := if p % 16 = 0 then iprop(∃ f, nP c f) else nHolds c (XN m c (til p))

def PhiAt (c : Dev nD) (p : ℕ) : sProp 𝕄 := iprop((∃ r, prngReg c r) ∗ normAt m c p ∗ tilesAt c (V m c main_v0) p)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OUT m c t
  Φ t := PhiAt m c t.val
  q := Pipeline.shareOf spec0
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = OUT m c t := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rw [A_eq]; try rfl) t d).trans
    (by unfold Dat.fetched Dat.blockOf iblk; rw [A_eq]; try rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rw [A_eq]; try rfl) t d).trans
    (by unfold Dat.fetched Dat.blockOf iblk; rw [A_eq]; try rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rw [A_eq]; try rfl) t d).trans
    (by unfold Dat.fetched Dat.blockOf iblk; rw [A_eq]; try rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rw [A_eq]; try rfl) t d).trans
    (by unfold Dat.fetched Dat.blockOf iblk; rw [A_eq]; try rfl)

/-- Past a row tile's first point the output's buffer holds what the point before left. -/
theorem before_w4 (c : Dev nD) (t : Fin cfg0.N) (h : t.val % 16 ≠ 0) (d) : (dats m 0 c).before 4 t d = AC m c (til t.val) (t.val % 16) := by
  have hlt := lt_N t
  have hf : (cfg0.win 4).flush ⟨t.val - 1, Nat.lt_of_le_of_lt (Nat.sub_le _ _) t.isLt⟩ = false := by
    rw [Bool.eq_false_iff]; intro hh; have := (flush0_4 _).mp hh; simp only at this; omega
  rw [(dats m 0 c).before_of_pos 4 t (by omega) ((cfg0.win 4).fetch_out rfl t), hf, if_neg Bool.false_ne_true]
  unfold Dat.left
  rw [show cfg0.idle 4 (cfg0.grid.coords ⟨t.val - 1, Nat.lt_of_le_of_lt (Nat.sub_le _ _) t.isLt⟩) = false from rfl]; dsimp only
  unfold Dat.kept
  rw [Pipeline.fill_of_clip_none (cfg := cfg0) 4 _ (fun _ => rfl) d ((dats m 0 c).after 4 _), Window.fill_cut, after_w4]
  unfold OUT
  rw [if_neg (by simp only; omega)]
  simp only
  rw [til_pred h, show (t.val - 1) % 16 + 1 = t.val % 16 by omega]

end Data

end Cert.MlpKernelIdeal.Hand

end
-- ==== Proof.MlpRun.lean ====
/-
  Hand-written. The MLP's body obligation at every grid point, and the run: every fair execution ends, the arguments
  unchanged and the output at the computed contents.
-/
module

public import proofs.«01_k».proof.Proof.MlpData

@[expose] public section

set_option maxRecDepth 16384

noncomputable section

namespace Cert.MlpKernelIdeal.Hand

open Cert.MlpKernelIdeal Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Launch
variable (m : (ℓ : Loc nD τ sig) → Buf (Elt F) ℓ) (ρ : Dev nD → PrngReg)

theorem defs_tc : (defs₀ (F := F)) .tc cfg0.body
    = fun a => cc0_mlp_final_norm (grid0.coords a.1) aM (Memref.isWhole_whole _) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) nM (Memref.isWhole_whole _) xM (Memref.isWhole_whole _) cc0_scratch2 := by
  unfold defs₀; rw [Defs.onTc_tc]

abbrev bodyT (t : Fin cfg0.N) : Prog (TpuEff nD τ sig (Elt F) Λ₀ .tc) PUnit :=
  bodyG (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))

theorem prog_eq (t : Fin cfg0.N) : (defs₀ (F := F)) .tc cfg0.body (cfg0.bodyArgs t (cfg0.slots t)) = bodyT t := (congrFun defs_tc _).trans rfl

set_option backward.isDefEq.respectTransparency.types false in
theorem body_obligation (c : Dev nD) : BodyObligation (dats (F := F) m 0 c) (defs₀ (F := F)) Variants.none () Set.univ := fun t => by
  have hlt := lt_N t
  rw [bigSep_W0, bigSep_W0]
  dsimp only
  simp only [before_w0, before_w1, before_w2, before_w3, after_w0, after_w1, after_w2, after_w3, after_w4]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  by_cases h0 : t.val % 16 = 0
  · have hN : normAt m c (t.val + 1) = nHolds c (XN m c (til t.val)) := by
      unfold normAt; rw [if_neg (by omega), til_succ (by omega)]
    have hN0 : normAt m c t.val = iprop(∃ f, nP c f) := by unfold normAt; rw [if_pos h0]
    have hXN : XN m c (til t.val) = k0_pay2 (rows c (V m c main_v0) (til t.val)) (iblk m c 0 t) := by unfold XN; rw [pt_til t h0]
    have hO : OUT m c t = k0_pay3 (k0_pay2 (rows c (V m c main_v0) (til t.val)) (iblk m c 0 t)) (iblk m c 1 t) (rows c (V m c main_v0) (til t.val)) (iblk m c 2 t) := by
      unfold OUT; rw [if_neg (by omega), AC_at, h0, hXN]; rfl
    have hn3 : ¬k0_cond3 (cfg0.grid.coords t) = 1#1 := fun h => by have := (cond3_iff t).mp h; omega
    have hn4 : ¬cond4 (cfg0.grid.coords t) = 1#1 := fun h => by have := (cond4_iff t).mp h; omega
    rw [hO]
    unfold PhiAt; rw [hN, hXN, hN0, tilesAt_home c (V m c main_v0) (p := t.val + 1) (fun h => h.1 (by omega)), tiles_take c _ (til t.val)]
    by_cases h1 : t.val = 0
    · have ht0 : til t.val = 0 := Fin.ext (by rw [til_val hlt, h1]; rfl)
      rw [tilesAt_home c (V m c main_v0) (p := t.val) (fun h => by omega), tiles_take c _ (til t.val), ht0]
      iintro ⟨⟨Hp, Hn, Hx, Hc, Ht, Hr⟩, ⟨%W, -, HW⟩, ⟨%d3, H3⟩, ⟨%d4, H4⟩, ⟨%d5, H5⟩, ⟨%d6, H6⟩, ⟨%d7, H7⟩⟩
      sl_rw [prog_eq t]
      iapply (run_start c (V m c main_v0) (cfg0.grid.coords t) _ _ _ _ _ _ _ _ _ _ (iblk m c 0 t) (iblk m c 1 t) (iblk m c 2 t)
        ((cond1_iff t).mpr h1) ((cond2_iff t).mpr h0) hn3 hn4 ((row_of t).trans (by rw [h1]; rfl)) _ W)
      isplitl [H3]; · iexact H3
      isplitl [H4]; · iexact H4
      isplitl [H5]; · iexact H5
      isplitl [H7]; · iexact H7
      isplitl [Hn]; · iexact Hn
      isplitl [Hx]; · iexact Hx
      isplitl [Ht]; · iexact Ht
      isplitl [Hc]; · iexact Hc
      isplitl [HW]; · iexact HW
      iintro ⟨H3, H4, H5, H7, Hn, Hx, Ht, Hc, ⟨%W', HW⟩⟩
      isplitl [Hp Hn Hx Hc Ht Hr]
      · isplitl [Hp]; · iexact Hp
        isplitl [Hn]; · iexact Hn
        isplitl [Hx]; · iexact Hx
        isplitl [Hc]; · iexact Hc
        isplitl [Ht]; · iexact Ht
        iexact Hr
      isplitl [HW]
      · iexists W'; isplitr; · ipureintro; exact fun _ _ => Or.inl trivial
        iexact HW
      isplitl [H3]; · iexact H3
      isplitl [H4]; · iexact H4
      isplitl [H5]; · iexact H5
      isplitl [H6]; · iexact H6
      iexact H7
    · have hk := til_val hlt
      rw [tilesAt_flight c (V m c main_v0) (p := t.val) (til t.val) (by omega) (by omega) (by omega)]
      iintro ⟨⟨Hp, Hn, Hf, Hr⟩, ⟨%W, -, HW⟩, ⟨%d3, H3⟩, ⟨%d4, H4⟩, ⟨%d5, H5⟩, ⟨%d6, H6⟩, ⟨%d7, H7⟩⟩
      sl_rw [prog_eq t]
      iapply (run_first c (V m c main_v0) (cfg0.grid.coords t) _ _ _ _ _ _ _ _ _ _ (iblk m c 0 t) (iblk m c 1 t) (iblk m c 2 t)
        (fun h => h1 ((cond1_iff t).mp h)) ((cond2_iff t).mpr h0) hn3 hn4 (til t.val) ((row_of t).trans hk.symm) _ W)
      isplitl [H3]; · iexact H3
      isplitl [H4]; · iexact H4
      isplitl [H5]; · iexact H5
      isplitl [H7]; · iexact H7
      isplitl [Hn]; · iexact Hn
      isplitl [Hf]; · iexact Hf
      isplitl [HW]; · iexact HW
      iintro ⟨H3, H4, H5, H7, Hn, Hx, Ht, Hc, ⟨%W', HW⟩⟩
      isplitl [Hp Hn Hx Hc Ht Hr]
      · isplitl [Hp]; · iexact Hp
        isplitl [Hn]; · iexact Hn
        isplitl [Hx]; · iexact Hx
        isplitl [Hc]; · iexact Hc
        isplitl [Ht]; · iexact Ht
        iexact Hr
      isplitl [HW]
      · iexists W'; isplitr; · ipureintro; exact fun _ _ => Or.inl trivial
        iexact HW
      isplitl [H3]; · iexact H3
      isplitl [H4]; · iexact H4
      isplitl [H5]; · iexact H5
      isplitl [H6]; · iexact H6
      iexact H7
  · have hN0 : normAt m c t.val = nHolds c (XN m c (til t.val)) := by unfold normAt; rw [if_neg h0]
    have hNs : nHolds c (XN m c (til t.val)) ⊢ normAt m c (t.val + 1) := by
      unfold normAt
      by_cases hs : (t.val + 1) % 16 = 0
      · rw [if_pos hs]; unfold nHolds; iintro ⟨%f, -, H⟩; iexists f; iexact H
      · rw [if_neg hs, til_succ (by omega)]
    have hn1 : ¬k0_cond1 (cfg0.grid.coords t) = 1#1 := fun h => by have := (cond1_iff t).mp h; omega
    have hn2 : ¬k0_cond2 (cfg0.grid.coords t) = 1#1 := fun h => h0 ((cond2_iff t).mp h)
    have hb4 := before_w4 m c t h0
    unfold PhiAt; rw [hN0]
    by_cases h3 : t.val % 16 = 1 ∧ t.val / 16 < 7
    · have hn4 : ¬cond4 (cfg0.grid.coords t) = 1#1 := fun h => by have := (cond4_iff t).mp h; omega
      have hO : OUT m c t = k0_pay3 (XN m c (til t.val)) (iblk m c 1 t) (AC m c (til t.val) (t.val % 16)) (iblk m c 2 t) := by
        unfold OUT; rw [if_neg (by omega), AC_at]
      rw [hO, tilesAt_home c (V m c main_v0) (p := t.val) (fun h => h.1 h3.1),
        tilesAt_flight c (V m c main_v0) (p := t.val + 1) ⟨t.val / 16 + 1, by omega⟩ (by omega) (by show _ = t.val / 16 + 1; omega) (by show 1 ≤ t.val / 16 + 1; omega),
        tiles_take c _ (⟨t.val / 16 + 1, by omega⟩ : Fin 8)]
      iintro ⟨⟨Hp, Hn, Hx, Hc, Ht, Hr⟩, ⟨%W, -, HW⟩, ⟨%d3, H3⟩, ⟨%d4, H4⟩, ⟨%d5, H5⟩, ⟨%d6, H6⟩, ⟨%d7, H7⟩⟩
      rw [hb4]
      sl_rw [prog_eq t]
      iapply (run_issue c (V m c main_v0) (cfg0.grid.coords t) _ _ _ _ _ _ _ _ _ _ (iblk m c 1 t) (iblk m c 2 t)
        hn1 hn2 ((cond3_iff t).mpr h3) hn4 ⟨t.val / 16 + 1, by omega⟩ (by rw [row_of]) (XN m c (til t.val)) (AC m c (til t.val) (t.val % 16)) W)
      isplitl [H4]; · iexact H4
      isplitl [H5]; · iexact H5
      isplitl [H7]; · iexact H7
      isplitl [Hn]; · iexact Hn
      isplitl [Hx]; · iexact Hx
      isplitl [Ht]; · iexact Ht
      isplitl [Hc]; · iexact Hc
      isplitl [HW]; · iexact HW
      iintro ⟨H4, H5, H7, Hn, Hf, ⟨%W', HW⟩⟩
      isplitl [Hp Hn Hf Hr]
      · isplitl [Hp]; · iexact Hp
        isplitl [Hn]; · iapply hNs; iexact Hn
        isplitl [Hf]; · iexact Hf
        iexact Hr
      isplitl [HW]
      · iexists W'; isplitr; · ipureintro; exact fun _ _ => Or.inl trivial
        iexact HW
      isplitl [H3]; · iexact H3
      isplitl [H4]; · iexact H4
      isplitl [H5]; · iexact H5
      isplitl [H6]; · iexact H6
      iexact H7
    · rw [tilesAt_plain c (V m c main_v0) hlt h0 h3]
      by_cases h4 : t.val % 16 = 15
      · have hO : OUT m c t = k0_pay1 (k0_pay3 (XN m c (til t.val)) (iblk m c 1 t) (AC m c (til t.val) (t.val % 16)) (iblk m c 2 t)) (iblk m c 3 t) := by
          unfold OUT; rw [if_pos h4, ← AC_at, h4]
        rw [hO]
        iintro ⟨⟨Hp, Hn, Hr⟩, ⟨%W, -, HW⟩, ⟨%d3, H3⟩, ⟨%d4, H4⟩, ⟨%d5, H5⟩, ⟨%d6, H6⟩, ⟨%d7, H7⟩⟩
        rw [hb4]
        sl_rw [prog_eq t]
        iapply (run_last c (cfg0.grid.coords t) _ _ _ _ _ _ _ _ _ _ (iblk m c 1 t) (iblk m c 2 t) (iblk m c 3 t)
          hn1 hn2 (fun h => h3 ((cond3_iff t).mp h)) ((cond4_iff t).mpr h4) (XN m c (til t.val)) (AC m c (til t.val) (t.val % 16)))
        isplitl [H4]; · iexact H4
        isplitl [H5]; · iexact H5
        isplitl [H6]; · iexact H6
        isplitl [H7]; · iexact H7
        isplitl [Hn]; · iexact Hn
        iintro ⟨H4, H5, H6, H7, Hn⟩
        isplitl [Hp Hn Hr]
        · isplitl [Hp]; · iexact Hp
          isplitl [Hn]; · iapply hNs; iexact Hn
          iexact Hr
        isplitl [HW]
        · iexists W; isplitr; · ipureintro; exact fun _ _ => Or.inl trivial
          iexact HW
        isplitl [H3]; · iexact H3
        isplitl [H4]; · iexact H4
        isplitl [H5]; · iexact H5
        isplitl [H6]; · iexact H6
        iexact H7
      · have hO : OUT m c t = k0_pay3 (XN m c (til t.val)) (iblk m c 1 t) (AC m c (til t.val) (t.val % 16)) (iblk m c 2 t) := by
          unfold OUT; rw [if_neg h4, AC_at]
        rw [hO]
        iintro ⟨⟨Hp, Hn, Hr⟩, ⟨%W, -, HW⟩, ⟨%d3, H3⟩, ⟨%d4, H4⟩, ⟨%d5, H5⟩, ⟨%d6, H6⟩, ⟨%d7, H7⟩⟩
        rw [hb4]
        sl_rw [prog_eq t]
        iapply (run_plain c (cfg0.grid.coords t) _ _ _ _ _ _ _ _ _ _ (iblk m c 1 t) (iblk m c 2 t)
          hn1 hn2 (fun h => h3 ((cond3_iff t).mp h)) (fun h => h4 ((cond4_iff t).mp h)) (XN m c (til t.val)) (AC m c (til t.val) (t.val % 16)))
        isplitl [H4]; · iexact H4
        isplitl [H5]; · iexact H5
        isplitl [H7]; · iexact H7
        isplitl [Hn]; · iexact Hn
        iintro ⟨H4, H5, H7, Hn⟩
        isplitl [Hp Hn Hr]
        · isplitl [Hp]; · iexact Hp
          isplitl [Hn]; · iapply hNs; iexact Hn
          iexact Hr
        isplitl [HW]
        · iexists W; isplitr; · ipureintro; exact fun _ _ => Or.inl trivial
          iexact HW
        isplitl [H3]; · iexact H3
        isplitl [H4]; · iexact H4
        isplitl [H5]; · iexact H5
        isplitl [H6]; · iexact H6
        iexact H7

/-! ## The run -/

abbrev osem : Fin 1 → SemLoc sig := fun _ => SemLoc.dma 8
theorem ownSemFacts : Pipeline.OwnSemFacts spec0 osem := by decide
abbrev H0 : Finset (Ref sig .tc) := {main_v0}
theorem H0_sub : H0 ⊆ Pipeline.restRefs sig spec0 := by decide

set_option maxHeartbeats 800000 in
theorem hmainUD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- What the launch hands the region is the first point's invariant, -/
theorem phiD_eq (c : Dev nD) : (Pipeline.ΦD osem spec0 H0 (V m) c : sProp 𝕄)
    = iprop(((∃ f, nP c f) ∗ (∃ f, xP c f)) ∗ (∃ r, prngReg c r) ∗ cellP c ∗ bigSep Finset.univ (tileP c (V m c main_v0))) := by
  rw [← a_eq]
  unfold Pipeline.ΦD
  rw [scopedRest0_eq, Pipeline.ownSems0_eq_of_list c osem [0] (by decide) (by decide), BI.bigSep_eq_bigSepL_of_eq [main_v0] (by decide) (by decide)]
  rfl
/-- and the last point's. -/
theorem phi_home (c : Dev nD) (p : ℕ) (hp : p = 0 ∨ p = 128) :
    PhiAt m c p = iprop((∃ r, prngReg c r) ∗ (∃ f, nP c f) ∗ (∃ f, xP c f) ∗ cellP c ∗ bigSep Finset.univ (tileP c (V m c main_v0))) := by
  unfold PhiAt normAt; rw [if_pos (by omega), tilesAt_home c _ (fun h => by omega)]

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch0.to₀ osem defs₀ Variants.none ownSemFacts H0 H0_sub m ρ main
    (hbody := fun c => (body_obligation m c).loose) (hq := fun _ _ _ => rfl)
    (howed := fun _ _ => rfl) (V := V m) (hmain := hmainUD m) (hA := A_eq m)
    (hin := fun c => by
      rw [show (dats m 0 c).Φ 0 = PhiAt m c 0 from rfl, phi_home m c 0 (Or.inl rfl), phiD_eq]
      iintro ⟨⟨Hn, Hx⟩, Hp, Hc, Ht⟩
      isplitl [Hp]; · iexact Hp
      isplitl [Hn]; · iexact Hn
      isplitl [Hx]; · iexact Hx
      isplitl [Hc]; · iexact Hc
      iexact Ht)
    (hout := fun c => by
      rw [show (dats m 0 c).Φ (Fin.last cfg0.N) = PhiAt m c 128 from congrArg (PhiAt m c) N_0, phi_home m c 128 (Or.inr rfl), phiD_eq]
      iintro ⟨Hp, Hn, Hx, Hc, Ht⟩
      isplitl [Hn Hx]
      · isplitl [Hn]; · iexact Hn
        iexact Hx
      isplitl [Hp]; · iexact Hp
      isplitl [Hc]; · iexact Hc
      iexact Ht)
    (hQ' := fun _ h => h)

/-- The arguments after the run. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- The output after the run. -/
theorem out_at (r : PUnit × MemSt nD τ sig (Elt F)) (h : Pipeline.FramePost cfgs (dats m) 0 (V m) r) (c : Dev nD) :
    r.2.mem ((c.tc : Thread nD τ).loc main_v6) = (dats m 0 c).arrAt 4 cfg0.N := (h c).1 4

end Launch

end Cert.MlpKernelIdeal.Hand

end
-- ==== Proof.MlpValue.lean ====
/-
  Hand-written. The MLP's payloads, the blocks they are applied to, and the running sum, read at an index at the ideal values.
-/
module

public import proofs.«01_k».proof.Proof.MlpRun
public import proofs.«01_k».proof.Proof.Value
public import proofs.«01_k».proof.Proof.Gen.MlpReferenceIdeal.Run
public import Idealize.ShloMosaic.Lib.Pointwise
public import Idealize.ShloMosaic.Lib.Claim
public import Idealize.ShloMosaic.Lib.Pipeline.ValueKit

@[expose] public section

set_option maxRecDepth 16384

noncomputable section

namespace Cert.MlpKernelIdeal.Hand

open Cert.MlpKernelIdeal Cert.MlpKernelIdeal.Gen
open Cert.KernelIdeal.Hand (nrm)
open Idealize.ShloMosaic Idealize.ShloMosaic.TcCoe Idealize.ShloMosaic.Tactic
open Idealize.ShloMosaic.Pipeline (Dat Cfg Window BodyObligation cellOf)

/-- The square of the positive part. -/
def sq (z : EReal) : EReal := max z (Ideal.ofBits .f32 0x00000000#32) * max z (Ideal.ofBits .f32 0x00000000#32)

theorem pay1_apply (X : FVec Ideal S1024x2048 .f32) (g : FVec Ideal S1x2048 .f32) (r : Fin 1024) (k : Fin 2048) :
    k0_pay1 (F := Ideal) X g (ix2 r k) = nrm (fun j => X (ix2 r j)) (g (ix2 0 k)) k := by
  unfold nrm
  pointwise [k0_pay1]

theorem pay2_apply (X : FVec Ideal S1024x2048 .f32) (g : FVec Ideal S1x2048 .f32) (r : Fin 1024) (k : Fin 2048) :
    k0_pay2 (F := Ideal) X g (ix2 r k) = nrm (fun j => X (ix2 r j)) (g (ix2 0 k)) k := by
  unfold nrm
  pointwise [k0_pay2]

theorem pay3_apply (X : FVec Ideal S1024x2048 .bf16) (U : FVec Ideal S2048x512 .f32) (A : FVec Ideal S1024x2048 .f32) (D : FVec Ideal S512x2048 .f32)
    (r : Fin 1024) (k : Fin 2048) :
    k0_pay3 (F := Ideal) X U A D (ix2 r k)
      = A (ix2 r k) + ∑ n : Fin 512, sq (∑ j : Fin 2048, (X (ix2 r j) : EReal) * U (ix2 j n)) * D (ix2 n k) := by
  unfold sq
  pointwise [k0_pay3]

/-! ## One row of the MLP -/

/-- Hidden unit `n` of a row; -/
def hid (row : Fin 2048 → EReal) (g : S1x2048.Idx → EReal) (U : S1x2048x8192.Idx → EReal) (n : Fin 8192) : EReal :=
  sq (∑ j : Fin 2048, nrm row (g (ix2 0 j)) j * U (ix3 0 j n))
/-- what it adds to element `k`, nothing past the last unit; -/
def share (row : Fin 2048 → EReal) (g : S1x2048.Idx → EReal) (U : S1x2048x8192.Idx → EReal) (D : S1x8192x2048.Idx → EReal) (k : Fin 2048) (n : ℕ) : EReal :=
  if h : n < 8192 then hid row g U ⟨n, h⟩ * D (ix3 0 ⟨n, h⟩ k) else 0
/-- the row with all of them added; -/
def mid (row : Fin 2048 → EReal) (g : S1x2048.Idx → EReal) (U : S1x2048x8192.Idx → EReal) (D : S1x8192x2048.Idx → EReal) (k : Fin 2048) : EReal :=
  row k + ∑ n : Fin 8192, hid row g U n * D (ix3 0 n k)
/-- row `R` of the activations; -/
abbrev rowOf (x : S4x2048x2048.Idx → EReal) (R : Fin 8192) (j : Fin 2048) : EReal := x (ix3 ⟨R.val / 2048, by omega⟩ ⟨R.val % 2048, by omega⟩ j)
/-- the result. -/
def mlp (x : S4x2048x2048.Idx → EReal) (g : S1x2048.Idx → EReal) (U : S1x2048x8192.Idx → EReal) (D : S1x8192x2048.Idx → EReal) (gf : S2048.Idx → EReal)
    (R : Fin 8192) (k : Fin 2048) : EReal := nrm (mid (rowOf x R) g U D) (gf (ix1 k)) k

theorem mid_eq (row g U D k) : mid row g U D k = row k + ∑ n ∈ Finset.range (512 * 16), share row g U D k n := by
  unfold mid
  rw [Finset.sum_range]
  refine congrArg (row k + ·) (Finset.sum_congr rfl fun n _ => ?_)
  unfold share; rw [dif_pos n.isLt]

section Blocks
variable (m : (ℓ : Loc nD τ sig) → Buf (Elt Ideal) ℓ) (c : Dev nD)

/-! ## The arrays at the region's entry -/

abbrev argX : S4x2048x2048.Idx → EReal := m ((c.tc : Thread nD τ).loc main_arg0)
abbrev argG : S1x2048.Idx → EReal := m ((c.tc : Thread nD τ).loc main_arg1)
abbrev argU : S1x2048x8192.Idx → EReal := m ((c.tc : Thread nD τ).loc main_arg2)
abbrev argD : S1x8192x2048.Idx → EReal := m ((c.tc : Thread nD τ).loc main_arg3)
abbrev argF : S2048.Idx → EReal := m ((c.tc : Thread nD τ).loc main_arg4)

theorem v0_apply (R : Fin 8192) (k : Fin 2048) : V (F := Ideal) m c main_v0 (ix2 R k) = (rowOf (argX m c) R k : EReal) := by
  entry_read
  pointwise
theorem v4_apply (k : Fin 2048) : V (F := Ideal) m c main_v4 (ix2 0 k) = (argG m c (ix2 0 k) : EReal) := by
  entry_read
  pointwise
theorem v5_apply (k : Fin 2048) : V (F := Ideal) m c main_v5 (ix2 0 k) = (argF m c (ix1 k) : EReal) := by
  entry_read
  pointwise
theorem v2_apply (j : Fin 2048) (n : Fin 8192) : V (F := Ideal) m c main_v2 (ix2 j n) = (argU m c (ix3 0 j n) : EReal) := by
  entry_read
  exact shapeCast_apply _ _ _ (ix3 0 j n) (by
    refine (Shape.rowMajor_val_three _).trans (Eq.trans ?_ (Shape.rowMajor_val_two _).symm)
    show ((0 : ℕ) * 2048 + j.val) * 8192 + n.val = j.val * 8192 + n.val; omega)
theorem v3_apply (n : Fin 8192) (k : Fin 2048) : V (F := Ideal) m c main_v3 (ix2 n k) = (argD m c (ix3 0 n k) : EReal) := by
  entry_read
  exact shapeCast_apply _ _ _ (ix3 0 n k) (by
    refine (Shape.rowMajor_val_three _).trans (Eq.trans ?_ (Shape.rowMajor_val_two _).symm)
    show ((0 : ℕ) * 8192 + n.val) * 2048 + k.val = n.val * 2048 + k.val; omega)

/-! ## The blocks -/

theorem idx1 : ∀ t : Fin cfg0.N, (cfg0.win 1).index t 0 = 0 ∧ (cfg0.win 1).index t 1 = t.val % 16 := by decide +kernel
theorem idx2 : ∀ t : Fin cfg0.N, (cfg0.win 2).index t 0 = t.val % 16 ∧ (cfg0.win 2).index t 1 = 0 := by decide +kernel

theorem rows_apply (XA : Buf (Elt Ideal) (aM.view.loc (c : Thread nD τ))) (i : Fin 8) (r : Fin 1024) (k : Fin 2048) :
    rows c XA i (ix2 r k) = XA (ix2 ⟨1024 * i.val + r.val, by omega⟩ k) := by
  refine congrArg XA (funext fun a => Fin.ext ?_)
  fin_cases a
  · show 1024 * i.val + 1 * r.val = 1024 * i.val + r.val; omega
  · show 0 + 1 * k.val = k.val; omega

theorem iblk0_apply (t : Fin cfg0.N) (k : Fin 2048) : iblk (F := Ideal) m c 0 t (ix2 0 k) = (argG m c (ix2 0 k) : EReal) := by
  refine Eq.trans (congrArg (V (F := Ideal) m c main_v4) (funext fun a => Fin.ext ?_)) (v4_apply m c k)
  fin_cases a
  · rfl
  · show 0 * 2048 + 1 * k.val = k.val; omega
theorem iblk3_apply (t : Fin cfg0.N) (k : Fin 2048) : iblk (F := Ideal) m c 3 t (ix2 0 k) = (argF m c (ix1 k) : EReal) := by
  refine Eq.trans (congrArg (V (F := Ideal) m c main_v5) (funext fun a => Fin.ext ?_)) (v5_apply m c k)
  fin_cases a
  · rfl
  · show 0 * 2048 + 1 * k.val = k.val; omega
theorem iblk1_apply (t : Fin cfg0.N) (j : Fin 2048) (n : Fin 512) (h) :
    iblk (F := Ideal) m c 1 t (ix2 j n) = (argU m c (ix3 0 j ⟨512 * (t.val % 16) + n.val, h⟩) : EReal) := by
  refine Eq.trans (congrArg (V (F := Ideal) m c main_v2) (funext fun a => Fin.ext ?_)) (v2_apply m c j ⟨512 * (t.val % 16) + n.val, h⟩)
  fin_cases a
  · show (cfg0.win 1).index t 0 * 2048 + 1 * j.val = j.val
    rw [(idx1 t).1]; omega
  · show (cfg0.win 1).index t 1 * 512 + 1 * n.val = 512 * (t.val % 16) + n.val
    rw [(idx1 t).2]; omega
theorem iblk2_apply (t : Fin cfg0.N) (n : Fin 512) (k : Fin 2048) (h) :
    iblk (F := Ideal) m c 2 t (ix2 n k) = (argD m c (ix3 0 ⟨512 * (t.val % 16) + n.val, h⟩ k) : EReal) := by
  refine Eq.trans (congrArg (V (F := Ideal) m c main_v3) (funext fun a => Fin.ext ?_)) (v3_apply m c ⟨512 * (t.val % 16) + n.val, h⟩ k)
  fin_cases a
  · show (cfg0.win 2).index t 0 * 512 + 1 * n.val = 512 * (t.val % 16) + n.val
    rw [(idx2 t).1]; omega
  · show (cfg0.win 2).index t 1 * 2048 + 1 * k.val = k.val
    rw [(idx2 t).2]; omega

/-! ## The running sum -/

theorem XN_apply (i : Fin 8) (r : Fin 1024) (k : Fin 2048) :
    XN (F := Ideal) m c i (ix2 r k) = nrm (rowOf (argX m c) ⟨1024 * i.val + r.val, by omega⟩) (argG m c (ix2 0 k)) k := by
  unfold XN
  rw [pay2_apply, iblk0_apply]
  refine congrArg (fun f => nrm f (argG m c (ix2 0 k)) k) (funext fun j => ?_)
  rw [rows_apply, v0_apply]

theorem AC_apply (i : Fin 8) (r : Fin 1024) (k : Fin 2048) : ∀ j : ℕ, j ≤ 16 →
    AC (F := Ideal) m c i j (ix2 r k) = (rowOf (argX m c) ⟨1024 * i.val + r.val, by omega⟩ k
      + ∑ n ∈ Finset.range (512 * j), share (rowOf (argX m c) ⟨1024 * i.val + r.val, by omega⟩) (argG m c) (argU m c) (argD m c) k n : EReal) := by
  intro j
  induction j with
  | zero =>
    intro _
    rw [show 512 * 0 = 0 from rfl, Finset.sum_range_zero, add_zero]
    exact (rows_apply c _ i r k).trans (v0_apply m c _ k)
  | succ j ih =>
    intro hj
    have hv : (pt i j).val % 16 = j := by show (16 * i.val + j) % 128 % 16 = j; omega
    rw [AC, pay3_apply, ih (by omega), show 512 * (j + 1) = 512 * j + 512 by omega, Finset.sum_range_add, ← add_assoc]
    refine congrArg₂ (· + ·) rfl ?_
    rw [Finset.sum_range]
    refine Finset.sum_congr rfl fun n _ => ?_
    have hn : 512 * j + n.val < 8192 := by omega
    unfold share; rw [dif_pos hn]; unfold hid
    rw [iblk2_apply m c _ n k (by rw [hv]; exact hn)]
    simp only [hv]
    refine congrArg (sq · * _) (Finset.sum_congr rfl fun l _ => ?_)
    rw [XN_apply, iblk1_apply m c _ l n (by rw [hv]; exact hn)]
    simp only [hv]

/-- What a tile's last point leaves. -/
theorem OUT_apply (t : Fin cfg0.N) (h : t.val % 16 = 15) (r : Fin 1024) (k : Fin 2048) (hR) :
    OUT (F := Ideal) m c t (ix2 r k) = mlp (argX m c) (argG m c) (argU m c) (argD m c) (argF m c) ⟨1024 * (t.val / 16) + r.val, hR⟩ k := by
  have ht := til_val (lt_N t)
  unfold OUT mlp
  rw [if_pos h, pay1_apply, iblk3_apply]
  refine congrArg (fun f => nrm f (argF m c (ix1 k)) k) (funext fun j => ?_)
  rw [AC_apply m c _ _ _ 16 (le_refl _), mid_eq]
  simp only [ht]

abbrev outM : S8192x2048.Idx → EReal := fun y => mlp (argX m c) (argG m c) (argU m c) (argD m c) (argF m c) (y 0) (y 1)

theorem e4 : ∀ t : Fin cfg0.N, (cfg0.win 4).index t 0 = t.val / 16 ∧ (cfg0.win 4).index t 1 = 0 := by decide +kernel

/-- The output after the run. -/
theorem final_out : (dats (F := Ideal) m 0 c).arrAt 4 cfg0.N = outM m c := by
  refine (dats (F := Ideal) m 0 c).arrAt_eq_of_covers 4 _ (by decide +kernel) fun t hf y => ?_
  have h0 : (y 0).val < 1024 := (y 0).isLt
  have h1 : (y 1).val < 2048 := (y 1).isLt
  have ht := lt_N t
  refine (congrFun (after_w4 m c t) _).trans (Eq.trans (congrArg (OUT m c t) (funext fun a => by fin_cases a <;> rfl))
    ((OUT_apply m c t ((flush0_4 t).mp hf) ⟨(y 0).val, h0⟩ ⟨(y 1).val, h1⟩ (by dsimp only; omega)).trans ?_))
  refine congrArg₂ (mlp (argX m c) (argG m c) (argU m c) (argD m c) (argF m c)) (Fin.ext ?_) (Fin.ext ?_)
  · show 1024 * (t.val / 16) + (y 0).val = (cfg0.win 4).index t 0 * 1024 + 1 * (y 0).val
    rw [(e4 t).1]; omega
  · show (y 1).val = (cfg0.win 4).index t 1 * 2048 + 1 * (y 1).val
    rw [(e4 t).2]; omega

end Blocks

end Cert.MlpKernelIdeal.Hand

end
-- ==== Proof.MlpFinal.lean ====
/-
  Hand-written. The claims about the MLP.
-/
module

public import proofs.«01_k».proof.Proof.MlpValue
public import proofs.«01_k».proof.Defs
public import proofs.«01_k».proof.Proof.Gen.MlpKernel
public import Idealize.ShloMosaic.Lib.Pointwise

@[expose] public section

set_option maxRecDepth 16384

noncomputable section

namespace Cert.MlpKernelIdeal.Hand

open Cert.MlpKernelIdeal Cert.MlpKernelIdeal.Gen
open Cert.KernelIdeal.Hand (nrm refN refN_apply)
open Idealize.ShloMosaic Idealize.ShloMosaic.TcCoe Idealize.ShloMosaic.Tactic
open Idealize.SL.Sem

/-! ## The reference -/

section Reference
open Cert.MlpReferenceIdeal (dot_S4x2048x2048_S2048x8192_S4x2048x8192_2_0_01_1_n_n dot_S4x2048x8192_S8192x2048_S4x2048x2048_2_0_01_1_n_n)

/-- The reference's hidden layer before the nonlinearity; -/
abbrev refUp (X : FVec Ideal MlpReferenceIdeal.S4x2048x2048 .f32) (U : FVec Ideal MlpReferenceIdeal.S2048x8192 .f32) : FVec Ideal MlpReferenceIdeal.S4x2048x8192 .f32 :=
  Host.dotGeneral (F := Ideal) (φ₁ := .f32) (φ₂ := .f32) dot_S4x2048x2048_S2048x8192_S4x2048x8192_2_0_01_1_n_n none X U
/-- the nonlinearity; -/
abbrev refSq (Z : FVec Ideal MlpReferenceIdeal.S4x2048x8192 .f32) : FVec Ideal MlpReferenceIdeal.S4x2048x8192 .f32 :=
  mulf (maximumf Z (broadcastInDim MlpReferenceIdeal.S4x2048x8192 ![] MlpReferenceIdeal.Gen.bcast_S_S4x2048x8192 (constant MlpReferenceIdeal.S_ .f32 0x00000000#32)))
    (maximumf Z (broadcastInDim MlpReferenceIdeal.S4x2048x8192 ![] MlpReferenceIdeal.Gen.bcast_S_S4x2048x8192 (constant MlpReferenceIdeal.S_ .f32 0x00000000#32)))
/-- the product back. -/
abbrev refDown (H : FVec Ideal MlpReferenceIdeal.S4x2048x8192 .f32) (D : FVec Ideal MlpReferenceIdeal.S8192x2048 .f32) : FVec Ideal MlpReferenceIdeal.S4x2048x2048 .f32 :=
  Host.dotGeneral (F := Ideal) (φ₁ := .f32) (φ₂ := .f32) dot_S4x2048x8192_S8192x2048_S4x2048x2048_2_0_01_1_n_n none H D

theorem refUp_apply (X U) (b : Fin 4) (s : Fin 2048) (n : Fin 8192) :
    refUp X U (ix3 b s n) = ∑ k : Fin 2048, (X (ix3 b s k) : EReal) * U (ix2 k n) := by
  pointwise [refUp]
theorem refSq_apply (Z) (b : Fin 4) (s : Fin 2048) (n : Fin 8192) : refSq Z (ix3 b s n) = sq (Z (ix3 b s n)) := by
  unfold sq
  pointwise [refSq]
theorem refDown_apply (H D) (b : Fin 4) (s k : Fin 2048) :
    refDown H D (ix3 b s k) = ∑ n : Fin 8192, (H (ix3 b s n) : EReal) * D (ix2 n k) := by
  pointwise [refDown]

variable (m : (ℓ : Loc Cert.MlpReferenceIdeal.nD Cert.MlpReferenceIdeal.τ Cert.MlpReferenceIdeal.sig) → Buf (Elt Ideal) ℓ) (c : Dev Cert.MlpReferenceIdeal.nD)

abbrev rX : FVec Ideal MlpReferenceIdeal.S4x2048x2048 .f32 := m ((c.tc : Thread MlpReferenceIdeal.nD MlpReferenceIdeal.τ).loc MlpReferenceIdeal.main_arg0)
abbrev rG : FVec Ideal MlpReferenceIdeal.S1x2048 .f32 := m ((c.tc : Thread MlpReferenceIdeal.nD MlpReferenceIdeal.τ).loc MlpReferenceIdeal.main_arg1)
abbrev rU : FVec Ideal MlpReferenceIdeal.S1x2048x8192 .f32 := m ((c.tc : Thread MlpReferenceIdeal.nD MlpReferenceIdeal.τ).loc MlpReferenceIdeal.main_arg2)
abbrev rD : FVec Ideal MlpReferenceIdeal.S1x8192x2048 .f32 := m ((c.tc : Thread MlpReferenceIdeal.nD MlpReferenceIdeal.τ).loc MlpReferenceIdeal.main_arg3)
abbrev rF : FVec Ideal MlpReferenceIdeal.S2048 .f32 := m ((c.tc : Thread MlpReferenceIdeal.nD MlpReferenceIdeal.τ).loc MlpReferenceIdeal.main_arg4)

/-- The activations with the hidden layer's product added. -/
abbrev refMid (x : FVec Ideal MlpReferenceIdeal.S4x2048x2048 .f32) (g : FVec Ideal MlpReferenceIdeal.S1x2048 .f32) (U : FVec Ideal MlpReferenceIdeal.S1x2048x8192 .f32)
    (D : FVec Ideal MlpReferenceIdeal.S1x8192x2048 .f32) : FVec Ideal MlpReferenceIdeal.S4x2048x2048 .f32 :=
  addf x (refDown (refSq (refUp (refN x (shapeCast MlpReferenceIdeal.S2048 g MlpReferenceIdeal.Gen.shapeCasts_S1x2048_S2048))
    (shapeCast MlpReferenceIdeal.S2048x8192 U MlpReferenceIdeal.Gen.shapeCasts_S1x2048x8192_S2048x8192)))
    (shapeCast MlpReferenceIdeal.S8192x2048 D MlpReferenceIdeal.Gen.shapeCasts_S1x8192x2048_S8192x2048))

theorem refMid_apply (x g U D) (b : Fin 4) (s k : Fin 2048) : refMid x g U D (ix3 b s k) = mid (fun j => x (ix3 b s j)) g U D k := by
  unfold mid hid
  refine congrArg ((x (ix3 b s k) : EReal) + ·) ((refDown_apply _ _ b s k).trans (Finset.sum_congr rfl fun n _ => ?_))
  refine congrArg₂ (· * ·) ((refSq_apply _ b s n).trans (congrArg sq ((refUp_apply _ _ b s n).trans (Finset.sum_congr rfl fun j _ => ?_)))) ?_
  · refine congrArg₂ (· * ·) ((refN_apply _ _ b s j).trans ?_) ?_
    · congr 1
      pointwise
    · exact shapeCast_apply _ _ _ (ix3 0 j n) (by
        refine (Shape.rowMajor_val_three _).trans (Eq.trans ?_ (Shape.rowMajor_val_two _).symm)
        show ((0 : ℕ) * 2048 + j.val) * 8192 + n.val = j.val * 8192 + n.val; omega)
  · exact shapeCast_apply _ _ _ (ix3 0 n k) (by
      refine (Shape.rowMajor_val_three _).trans (Eq.trans ?_ (Shape.rowMajor_val_two _).symm)
      show ((0 : ℕ) * 8192 + n.val) * 2048 + k.val = n.val * 2048 + k.val; omega)

theorem ref_eq : MlpReferenceIdeal.Value.res_main_v34 (F := Ideal) m c
    = shapeCast MlpReferenceIdeal.S8192x2048 (refN (refMid (rX m c) (rG m c) (rU m c) (rD m c)) (rF m c)) MlpReferenceIdeal.Gen.shapeCasts_S4x2048x2048_S8192x2048 := rfl

theorem ref_apply (R : Fin 8192) (k : Fin 2048) :
    MlpReferenceIdeal.Value.res_main_v34 (F := Ideal) m c (ix2 R k) = mlp (rX m c) (rG m c) (rU m c) (rD m c) (rF m c) R k := by
  rw [ref_eq]
  generalize hM : refMid (rX m c) (rG m c) (rU m c) (rD m c) = M
  refine (shapeCast_apply _ _ _ (ix3 ⟨R.val / 2048, by omega⟩ ⟨R.val % 2048, by omega⟩ k) (by
    refine (Shape.rowMajor_val_three _).trans (Eq.trans ?_ (Shape.rowMajor_val_two _).symm)
    show (R.val / 2048 * 2048 + R.val % 2048) * 2048 + k.val = R.val * 2048 + k.val
    have := R.isLt; omega)).trans ?_
  refine (refN_apply _ _ _ _ k).trans ?_
  unfold mlp
  refine congrArg (fun f => nrm f ((rF m c) (ix1 k)) k) (funext fun j => ?_)
  rw [← hM]
  exact refMid_apply _ _ _ _ _ _ j

end Reference

/-! ## The claims -/

theorem frame_run {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run Cert.MlpKernelIdeal.defs _ _).mono (fun r h => ⟨fun c => args_kept m r h.1 c, h.2⟩) (run_main m ρ)

theorem frame_kernelIdeal : Cert.quiescent_MlpKernelIdeal := fun m ρ _ => frame_run (F := Ideal) m ρ

/-- The printed kernel's procedures are those of the ideal one: the two texts are the same. -/
theorem defs₀_eq : (MlpKernel.defs₀ (F := Bits) : Defs nD τ sig (Elt Bits) Λ₀) = defs₀ (F := Bits) :=
  congrArg Defs.onTc (funext fun l => funext fun a => by
    match l, a with
    | 0, (t, s) => rfl
    | ⟨_ + 1, h⟩, _ => exact absurd h (Nat.not_lt.2 (Nat.le_add_left _ _)))

theorem defs_eq : (MlpKernel.defs (F := Bits) : Defs nD τ sig (Elt Bits) _) = defs (F := Bits) :=
  congrArg (Pipeline.defs pcfgs) defs₀_eq

theorem frame_kernel : Cert.quiescent_MlpKernel := fun m ρ _ => by
  have h := frame_run (F := Bits) m ρ
  rw [← defs_eq] at h
  exact h

theorem frame_reference : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

theorem algebraic : Cert.algebraic_MlpKernelIdeal_MlpReferenceIdeal := fun m g m' g' _ hm =>
  ⟨fun c => outM m c,
    (θ_run Cert.MlpKernelIdeal.defs _ _).mono (fun r h c => ⟨(out_at m r h.1 c).trans (final_out m c), args_kept m r h.1 c⟩) (run_main (F := Ideal) m g),
    (θ_run Cert.MlpReferenceIdeal.defs _ _).mono (fun r h c => by
      refine ⟨(h c).1.trans (funext fun y => ?_), (h c).2⟩
      rw [← ix2_eta y]
      refine (ref_apply m' c (y 0) (y 1)).trans ?_
      unfold rX rG rU rD rF
      rw [(hm c).1, (hm c).2.1, (hm c).2.2.1, (hm c).2.2.2.1, (hm c).2.2.2.2]
      rfl)
      (Cert.MlpReferenceIdeal.Value.run (F := Ideal) m' g')⟩

end Cert.MlpKernelIdeal.Hand

end
-- ==== Proof.OutFinal.lean ====
/-
  Hand-written. The output projection with its residual: its value at the ideal values, and the claims.
-/
module

public import proofs.«01_k».proof.Proof.Gen.OutKernelIdeal.Value
public import proofs.«01_k».proof.Proof.Gen.OutKernel.Frame
public import proofs.«01_k».proof.Proof.Gen.OutReferenceIdeal.Run
public import proofs.«01_k».proof.Proof.Loads
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.OutKernelIdeal.Hand

open Cert.OutKernelIdeal Cert.OutKernelIdeal.Gen Cert.Hand
open Idealize.ShloMosaic Idealize.ShloMosaic.TcCoe Idealize.ShloMosaic.Tactic
open Idealize.SL.Sem

theorem pay1_apply (X : FVec Ideal S2048x512 .f32) (A : FVec Ideal S2048x2048 .bf16) (W : FVec Ideal S2048x512 .f32) (r : Fin 2048) (n : Fin 512) :
    k0_pay1 (F := Ideal) X A W (ix2 r n) = X (ix2 r n) + ∑ k : Fin 2048, (A (ix2 r k) : EReal) * W (ix2 k n) := by
  pointwise [k0_pay1]

theorem out_eq (x0 : FVec Ideal S2048x2048 .bf16) (x1 x2 : FVec Ideal S2048x512 .f32) : out0_3 (F := Ideal) x0 x1 x2 = k0_pay1 (F := Ideal) x2 x0 x1 := by
  unfold out0_3
  rw [View.canon_unit_zero (S := S2048x512) hz2, View.ld_unit_zero (S := S2048x512) hz2, View.ld_unit_zero (S := S2048x2048) hz2, View.ld_unit_zero (S := S2048x512) hz2]

/-- Element `k` of row `R`: the residual and the row times the weight's column. -/
def proj (o : S8192x2048.Idx → EReal) (W : S1x2048x2048.Idx → EReal) (x : S4x2048x2048.Idx → EReal) (R : Fin 8192) (n : Fin 2048) : EReal :=
  x (ix3 ⟨R.val / 2048, by omega⟩ ⟨R.val % 2048, by omega⟩ n) + ∑ k : Fin 2048, o (ix2 R k) * W (ix3 0 k n)

section Blocks
variable (m : (ℓ : Loc nD τ sig) → Buf (Elt Ideal) ℓ) (c : Dev nD)

abbrev argO : S8192x2048.Idx → EReal := m ((c.tc : Thread nD τ).loc main_arg0)
abbrev argW : S1x2048x2048.Idx → EReal := m ((c.tc : Thread nD τ).loc main_arg1)
abbrev argX : S4x2048x2048.Idx → EReal := m ((c.tc : Thread nD τ).loc main_arg2)

theorem v0_apply (k n : Fin 2048) : V (F := Ideal) m c main_v0 (ix2 k n) = (argW m c (ix3 0 k n) : EReal) := by
  entry_read
  exact shapeCast_apply _ _ _ (ix3 0 k n) (by
    refine (Shape.rowMajor_val_three _).trans (Eq.trans ?_ (Shape.rowMajor_val_two _).symm)
    show ((0 : ℕ) * 2048 + k.val) * 2048 + n.val = k.val * 2048 + n.val; omega)
theorem v1_apply (R : Fin 8192) (n : Fin 2048) :
    V (F := Ideal) m c main_v1 (ix2 R n) = (argX m c (ix3 ⟨R.val / 2048, by omega⟩ ⟨R.val % 2048, by omega⟩ n) : EReal) := by
  entry_read
  pointwise

theorem idx : ∀ t : Fin cfg0.N, ((cfg0.win 0).index t 0 = t.val / 4 ∧ (cfg0.win 0).index t 1 = 0) ∧ ((cfg0.win 1).index t 0 = 0 ∧ (cfg0.win 1).index t 1 = t.val % 4)
    ∧ ((cfg0.win 2).index t 0 = t.val / 4 ∧ (cfg0.win 2).index t 1 = t.val % 4) ∧ ((cfg0.win 3).index t 0 = t.val / 4 ∧ (cfg0.win 3).index t 1 = t.val % 4) := by decide +kernel
theorem lt_N (t : Fin cfg0.N) : t.val < 16 := Nat.lt_of_lt_of_eq t.isLt N_0

theorem iblk0_apply (t : Fin cfg0.N) (r k : Fin 2048) (h) : iblk (F := Ideal) m c 0 t (ix2 r k) = (argO m c (ix2 ⟨2048 * (t.val / 4) + r.val, h⟩ k) : EReal) := by
  refine Eq.trans (congrArg (V (F := Ideal) m c main_arg0) (funext fun a => Fin.ext ?_)) (congrFun (V_main_arg0 m c) (ix2 ⟨2048 * (t.val / 4) + r.val, h⟩ k))
  fin_cases a
  · show (cfg0.win 0).index t 0 * 2048 + 1 * r.val = 2048 * (t.val / 4) + r.val
    rw [(idx t).1.1]; omega
  · show (cfg0.win 0).index t 1 * 2048 + 1 * k.val = k.val
    rw [(idx t).1.2]; omega
theorem iblk1_apply (t : Fin cfg0.N) (k : Fin 2048) (n : Fin 512) (h) : iblk (F := Ideal) m c 1 t (ix2 k n) = (argW m c (ix3 0 k ⟨512 * (t.val % 4) + n.val, h⟩) : EReal) := by
  refine Eq.trans (congrArg (V (F := Ideal) m c main_v0) (funext fun a => Fin.ext ?_)) (v0_apply m c k ⟨512 * (t.val % 4) + n.val, h⟩)
  fin_cases a
  · show (cfg0.win 1).index t 0 * 2048 + 1 * k.val = k.val
    rw [(idx t).2.1.1]; omega
  · show (cfg0.win 1).index t 1 * 512 + 1 * n.val = 512 * (t.val % 4) + n.val
    rw [(idx t).2.1.2]; omega
theorem iblk2_apply (t : Fin cfg0.N) (r : Fin 2048) (n : Fin 512) (h h') : iblk (F := Ideal) m c 2 t (ix2 r n)
    = V (F := Ideal) m c main_v1 (ix2 ⟨2048 * (t.val / 4) + r.val, h⟩ ⟨512 * (t.val % 4) + n.val, h'⟩) := by
  refine congrArg (V (F := Ideal) m c main_v1) (funext fun a => Fin.ext ?_)
  fin_cases a
  · show (cfg0.win 2).index t 0 * 2048 + 1 * r.val = 2048 * (t.val / 4) + r.val
    rw [(idx t).2.2.1.1]; omega
  · show (cfg0.win 2).index t 1 * 512 + 1 * n.val = 512 * (t.val % 4) + n.val
    rw [(idx t).2.2.1.2]; omega

theorem out_apply (t : Fin cfg0.N) (r : Fin 2048) (n : Fin 512) (h h') : out0_3 (F := Ideal) (iblk m c 0 t) (iblk m c 1 t) (iblk m c 2 t) (ix2 r n)
    = proj (argO m c) (argW m c) (argX m c) ⟨2048 * (t.val / 4) + r.val, h⟩ ⟨512 * (t.val % 4) + n.val, h'⟩ := by
  unfold proj
  rw [out_eq, pay1_apply, iblk2_apply m c t r n h h', v1_apply]
  refine congrArg₂ (· + ·) rfl (Finset.sum_congr rfl fun k _ => ?_)
  rw [iblk0_apply m c t r k h, iblk1_apply m c t k n h']

abbrev outP : S8192x2048.Idx → EReal := fun y => proj (argO m c) (argW m c) (argX m c) (y 0) (y 1)

theorem final_out : (dats (F := Ideal) m 0 c).arrAt 3 cfg0.N = outP m c := by
  refine (dats (F := Ideal) m 0 c).arrAt_eq_of_covers 3 _ (by decide +kernel) fun t hf y => ?_
  have h0 : (y 0).val < 2048 := (y 0).isLt
  have h1 : (y 1).val < 512 := (y 1).isLt
  have ht := lt_N t
  refine (congrFun (after0_3 m c t) _).trans (Eq.trans (congrArg (out0_3 (iblk m c 0 t) (iblk m c 1 t) (iblk m c 2 t)) (funext fun a => by fin_cases a <;> rfl))
    ((out_apply m c t ⟨(y 0).val, h0⟩ ⟨(y 1).val, h1⟩ (by dsimp only; omega) (by dsimp only; omega)).trans ?_))
  refine congrArg₂ (proj (argO m c) (argW m c) (argX m c)) (Fin.ext ?_) (Fin.ext ?_)
  · show 2048 * (t.val / 4) + (y 0).val = (cfg0.win 3).index t 0 * 2048 + 1 * (y 0).val
    rw [(idx t).2.2.2.1]; omega
  · show 512 * (t.val % 4) + (y 1).val = (cfg0.win 3).index t 1 * 512 + 1 * (y 1).val
    rw [(idx t).2.2.2.2]; omega

end Blocks

/-! ## The reference -/

theorem refDot_apply (X : FVec Ideal OutReferenceIdeal.S4x2048x2048 .f32) (W : FVec Ideal OutReferenceIdeal.S2048x2048 .f32) (b : Fin 4) (s n : Fin 2048) :
    Host.dotGeneral (F := Ideal) (φ₁ := .f32) (φ₂ := .f32) OutReferenceIdeal.dot_S4x2048x2048_S2048x2048_S4x2048x2048_2_0_01_1_n_n none X W (ix3 b s n)
      = ∑ k : Fin 2048, (X (ix3 b s k) : EReal) * W (ix2 k n) := by
  pointwise

theorem ref_apply (o : FVec Ideal OutReferenceIdeal.S8192x2048 .bf16) (W : FVec Ideal OutReferenceIdeal.S1x2048x2048 .f32) (x : FVec Ideal OutReferenceIdeal.S4x2048x2048 .f32)
    (R : Fin 8192) (n : Fin 2048) :
    shapeCast OutReferenceIdeal.S8192x2048 (addf x (Host.dotGeneral (F := Ideal) (φ₁ := .f32) (φ₂ := .f32) OutReferenceIdeal.dot_S4x2048x2048_S2048x2048_S4x2048x2048_2_0_01_1_n_n none
        (extf .f32 (shapeCast OutReferenceIdeal.S4x2048x2048 o OutReferenceIdeal.Gen.shapeCasts_S8192x2048_S4x2048x2048) OutReferenceIdeal.Gen.bitsLt_bf16_f32)
        (shapeCast OutReferenceIdeal.S2048x2048 W OutReferenceIdeal.Gen.shapeCasts_S1x2048x2048_S2048x2048))) OutReferenceIdeal.Gen.shapeCasts_S4x2048x2048_S8192x2048 (ix2 R n)
      = proj o W x R n := by
  have hR := R.isLt
  refine (shapeCast_apply _ _ _ (ix3 ⟨R.val / 2048, by omega⟩ ⟨R.val % 2048, by omega⟩ n) (by
    refine (Shape.rowMajor_val_three _).trans (Eq.trans ?_ (Shape.rowMajor_val_two _).symm)
    show (R.val / 2048 * 2048 + R.val % 2048) * 2048 + n.val = R.val * 2048 + n.val; omega)).trans ?_
  refine congrArg ((x (ix3 ⟨R.val / 2048, by omega⟩ ⟨R.val % 2048, by omega⟩ n) : EReal) + ·) ((refDot_apply _ _ _ _ n).trans (Finset.sum_congr rfl fun k _ => ?_))
  refine congrArg₂ (· * ·) ?_ ?_
  · exact shapeCast_apply o _ _ (ix2 R k) (by
      refine (Shape.rowMajor_val_two _).trans (Eq.trans ?_ (Shape.rowMajor_val_three _).symm)
      show R.val * 2048 + k.val = (R.val / 2048 * 2048 + R.val % 2048) * 2048 + k.val; omega)
  · exact shapeCast_apply _ _ _ (ix3 0 k n) (by
      refine (Shape.rowMajor_val_three _).trans (Eq.trans ?_ (Shape.rowMajor_val_two _).symm)
      show ((0 : ℕ) * 2048 + k.val) * 2048 + n.val = k.val * 2048 + n.val; omega)

/-! ## The claims -/

theorem frame_kernel : Cert.quiescent_OutKernel := fun m ρ _ => Cert.OutKernel.Gen.frame m ρ
theorem frame_kernelIdeal : Cert.quiescent_OutKernelIdeal := fun m ρ _ => Cert.OutKernelIdeal.Gen.frame m ρ
theorem frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem algebraic : Cert.algebraic_OutKernelIdeal_OutReferenceIdeal := fun m g m' g' _ hm =>
  ⟨fun c => outP m c,
    (θ_run Cert.OutKernelIdeal.defs _ _).mono (fun r h c => ⟨(h c).1.trans (final_out m c), (h c).2⟩) (Cert.OutKernelIdeal.Value.run_blocks (F := Ideal) m g),
    (θ_run Cert.OutReferenceIdeal.defs _ _).mono (fun r h c => by
      refine ⟨(h c).1.trans (funext fun y => ?_), (h c).2⟩
      rw [← ix2_eta y]
      refine (ref_apply _ _ _ (y 0) (y 1)).trans ?_
      rw [(hm c).1, (hm c).2.1, (hm c).2.2]
      rfl)
      (Cert.OutReferenceIdeal.Value.run (F := Ideal) m' g')⟩

end Cert.OutKernelIdeal.Hand

end
-- ==== Proof.MergeFinal.lean ====
/-
  Hand-written. The merge of the three branches under their gates: its value at the ideal values, and the claims.
-/
module

public import proofs.«01_k».proof.Proof.Gen.MergeKernelIdeal.Value
public import proofs.«01_k».proof.Proof.Gen.MergeKernel.Frame
public import proofs.«01_k».proof.Proof.Gen.MergeReferenceIdeal.Run
public import proofs.«01_k».proof.Proof.Loads
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.MergeKernelIdeal.Hand

open Cert.MergeKernelIdeal Cert.MergeKernelIdeal.Gen Cert.Hand
open Idealize.ShloMosaic Idealize.ShloMosaic.TcCoe Idealize.ShloMosaic.Tactic
open Idealize.SL.Sem

/-- One branch's part: the gate's logistic times the branch's row against the weight's column. -/
def gated (g : EReal) (s : EReal) : EReal := Ideal.logistic g * s

theorem pay5_apply (w0 w1 w2 : FVec Ideal S1024x256 .f32) (g0 : FVec Ideal S256x256 .f32) (a0 : FVec Ideal S256x1024 .bf16) (g1 : FVec Ideal S256x256 .f32)
    (a1 : FVec Ideal S256x1024 .bf16) (g2 : FVec Ideal S256x256 .f32) (a2 : FVec Ideal S256x1024 .bf16) (r n : Fin 256) :
    k0_pay5 (F := Ideal) w0 w1 w2 g0 a0 g1 a1 g2 a2 (ix2 r n)
      = gated (g0 (ix2 r n)) (∑ k : Fin 1024, (a0 (ix2 r k) : EReal) * w0 (ix2 k n)) + gated (g1 (ix2 r n)) (∑ k : Fin 1024, (a1 (ix2 r k) : EReal) * w1 (ix2 k n))
        + gated (g2 (ix2 r n)) (∑ k : Fin 1024, (a2 (ix2 r k) : EReal) * w2 (ix2 k n)) := by
  unfold gated
  pointwise [k0_pay5, k0_pay2, k0_pay3, k0_pay4]

/-- The merge of one block at row `r` and column `n`. -/
def blockSum (x0 x1 x2 : Vec Ideal S2048x1024 .bf16) (x3 x4 x5 : Vec Ideal S2048x256 .f32) (x6 x7 x8 : Vec Ideal S1024x256 .f32) (r : Fin 2048) (n : Fin 256) : EReal :=
  gated (x3 (ix2 r n)) (∑ k : Fin 1024, (x0 (ix2 r k) : EReal) * (x6 (ix2 k n) : EReal)) + gated (x4 (ix2 r n)) (∑ k : Fin 1024, (x1 (ix2 r k) : EReal) * (x7 (ix2 k n) : EReal))
    + gated (x5 (ix2 r n)) (∑ k : Fin 1024, (x2 (ix2 r k) : EReal) * (x8 (ix2 k n) : EReal))

/-- The rows from `o` on: every piece of the block is this one. -/
theorem piece_apply (x0 x1 x2 : Vec Ideal S2048x1024 .bf16) (x3 x4 x5 : Vec Ideal S2048x256 .f32) (x6 x7 x8 : Vec Ideal S1024x256 .f32) (o : ℕ)
    (hX : ∀ a, (![o, 0] : Fin 2 → ℕ) a + S256x256.size a ≤ S2048x256.size a) (hY : ∀ a, (![o, 0] : Fin 2 → ℕ) a + S256x1024.size a ≤ S2048x1024.size a) (i : S256x256.Idx) :
    k0_pay5 (F := Ideal) (View.ld x6 r0_0) (View.ld x7 r0_0) (View.ld x8 r0_0) (View.ld x3 (Rect.unit (s := S2048x256) ![o, 0] S256x256.size hX))
      (View.ld x0 (Rect.unit (s := S2048x1024) ![o, 0] S256x1024.size hY)) (View.ld x4 (Rect.unit (s := S2048x256) ![o, 0] S256x256.size hX))
      (View.ld x1 (Rect.unit (s := S2048x1024) ![o, 0] S256x1024.size hY)) (View.ld x5 (Rect.unit (s := S2048x256) ![o, 0] S256x256.size hX))
      (View.ld x2 (Rect.unit (s := S2048x1024) ![o, 0] S256x1024.size hY)) i
      = blockSum x0 x1 x2 x3 x4 x5 x6 x7 x8 ((Rect.unit (s := S2048x256) ![o, 0] S256x256.size hX).emb i 0) ((Rect.unit (s := S2048x256) ![o, 0] S256x256.size hX).emb i 1) := by
  have hx : ∀ (x : Vec Ideal S2048x256 .f32), View.ld x (Rect.unit (s := S2048x256) ![o, 0] S256x256.size hX) (ix2 (i 0) (i 1))
      = x (ix2 ((Rect.unit (s := S2048x256) ![o, 0] S256x256.size hX).emb i 0) ((Rect.unit (s := S2048x256) ![o, 0] S256x256.size hX).emb i 1)) := fun x =>
    congrArg x (funext fun a => Fin.ext (by fin_cases a <;> rfl))
  have hy : ∀ (x : Vec Ideal S2048x1024 .bf16) (k : Fin 1024), View.ld x (Rect.unit (s := S2048x1024) ![o, 0] S256x1024.size hY) (ix2 (i 0) k)
      = x (ix2 ((Rect.unit (s := S2048x256) ![o, 0] S256x256.size hX).emb i 0) k) := fun x k =>
    congrArg x (funext fun a => Fin.ext (by
      fin_cases a
      · rfl
      · show 0 + 1 * k.val = k.val; omega))
  have hz : ∀ (x : Vec Ideal S1024x256 .f32) (k : Fin 1024), View.ld x r0_0 (ix2 k (i 1)) = x (ix2 k ((Rect.unit (s := S2048x256) ![o, 0] S256x256.size hX).emb i 1)) := fun x k =>
    congrArg x (funext fun a => Fin.ext (by
      fin_cases a
      · show 0 + 1 * k.val = k.val; omega
      · rfl))
  refine (congrArg _ (ix2_eta i).symm).trans ((pay5_apply _ _ _ _ _ _ _ _ _ (i 0) (i 1)).trans ?_)
  unfold blockSum
  refine congrArg₂ (· + ·) (congrArg₂ (· + ·) ?_ ?_) ?_ <;>
    exact congrArg₂ gated (hx _) (Finset.sum_congr rfl fun k _ => congrArg₂ (· * ·) (hy _ k) (hz _ k))

theorem out_apply (x0 x1 x2 : Vec Ideal S2048x1024 .bf16) (x3 x4 x5 : Vec Ideal S2048x256 .f32) (x6 x7 x8 : Vec Ideal S1024x256 .f32) (r : Fin 2048) (n : Fin 256) :
    out0_9 (F := Ideal) x0 x1 x2 x3 x4 x5 x6 x7 x8 (ix2 r n) = blockSum x0 x1 x2 x3 x4 x5 x6 x7 x8 r n := by
  refine View.canon_apply_of_pieces (Val := Elt Ideal) (S := S2048x256) (e := .bf16) (fun y => blockSum x0 x1 x2 x3 x4 x5 x6 x7 x8 (y 0) (y 1)) _ ?_ (ix2 r n) (cover0_9 _ _ _ _ _ _ _ _ _)
  simp only [List.forall_mem_cons, List.not_mem_nil, false_implies, implies_true, and_true]
  exact ⟨piece_apply x0 x1 x2 x3 x4 x5 x6 x7 x8 _ _ _, piece_apply x0 x1 x2 x3 x4 x5 x6 x7 x8 _ _ _, piece_apply x0 x1 x2 x3 x4 x5 x6 x7 x8 _ _ _, piece_apply x0 x1 x2 x3 x4 x5 x6 x7 x8 _ _ _,
    piece_apply x0 x1 x2 x3 x4 x5 x6 x7 x8 _ _ _, piece_apply x0 x1 x2 x3 x4 x5 x6 x7 x8 _ _ _, piece_apply x0 x1 x2 x3 x4 x5 x6 x7 x8 _ _ _, piece_apply x0 x1 x2 x3 x4 x5 x6 x7 x8 _ _ _⟩

/-- Element `n` of row `R` of the merge: the three gated branches. -/
def merged (y0 y1 y2 : S8192x1024.Idx → EReal) (p : S8192x13312.Idx → EReal) (w0 w1 w2 : S1x1024x2048.Idx → EReal) (R : Fin 8192) (n : Fin 2048) : EReal :=
  gated (p (ix2 R ⟨n.val, by omega⟩)) (∑ k : Fin 1024, y0 (ix2 R k) * w0 (ix3 0 k n)) + gated (p (ix2 R ⟨2048 + n.val, by omega⟩)) (∑ k : Fin 1024, y1 (ix2 R k) * w1 (ix3 0 k n))
    + gated (p (ix2 R ⟨4096 + n.val, by omega⟩)) (∑ k : Fin 1024, y2 (ix2 R k) * w2 (ix3 0 k n))

/-! ## The reference -/

theorem refDot_apply (X : FVec Ideal MergeReferenceIdeal.S8192x1024 .f32) (W : FVec Ideal MergeReferenceIdeal.S1024x2048 .f32) (R : Fin 8192) (n : Fin 2048) :
    Host.dotGeneral (F := Ideal) (φ₁ := .f32) (φ₂ := .f32) MergeReferenceIdeal.dot_S8192x1024_S1024x2048_S8192x2048_1_0_0_1_n_n none X W (ix2 R n)
      = ∑ k : Fin 1024, (X (ix2 R k) : EReal) * W (ix2 k n) := by
  pointwise

abbrev refGates (p : FVec Ideal MergeReferenceIdeal.S8192x13312 .f32) : FVec Ideal MergeReferenceIdeal.S8192x3x2048 .f32 :=
  Host.divf (broadcastInDim MergeReferenceIdeal.S8192x3x2048 ![] MergeReferenceIdeal.Gen.bcast_S_S8192x3x2048 (constant (F := Ideal) MergeReferenceIdeal.S_ .f32 0x3F800000#32))
    (addf (broadcastInDim MergeReferenceIdeal.S8192x3x2048 ![] MergeReferenceIdeal.Gen.bcast_S_S8192x3x2048 (constant (F := Ideal) MergeReferenceIdeal.S_ .f32 0x3F800000#32))
      (Host.exp (Host.negf (shapeCast MergeReferenceIdeal.S8192x3x2048 (extractStridedSlice MergeReferenceIdeal.S8192x6144 ![0, 0] p
        MergeReferenceIdeal.Gen.slices_S8192x13312_S8192x6144_0_0) MergeReferenceIdeal.Gen.shapeCasts_S8192x6144_S8192x3x2048))))

theorem refGates_apply (p : FVec Ideal MergeReferenceIdeal.S8192x13312 .f32) (R : Fin 8192) (b : Fin 3) (n : Fin 2048) :
    refGates p (ix3 R b n) = Ideal.logistic (p (ix2 R ⟨b.val * 2048 + n.val, by omega⟩)) := by
  have h : shapeCast MergeReferenceIdeal.S8192x3x2048 (extractStridedSlice MergeReferenceIdeal.S8192x6144 ![0, 0] p
        MergeReferenceIdeal.Gen.slices_S8192x13312_S8192x6144_0_0) MergeReferenceIdeal.Gen.shapeCasts_S8192x6144_S8192x3x2048 (ix3 R b n) = p (ix2 R ⟨b.val * 2048 + n.val, by omega⟩) := by
    refine (shapeCast_apply _ _ _ (ix2 R ⟨b.val * 2048 + n.val, by omega⟩) (by
      refine (Shape.rowMajor_val_two _).trans (Eq.trans ?_ (Shape.rowMajor_val_three _).symm)
      show R.val * 6144 + (b.val * 2048 + n.val) = (R.val * 3 + b.val) * 2048 + n.val; omega)).trans ?_
    pointwise
  unfold Ideal.logistic
  rw [← h]
  pointwise [refGates]

/-- One branch of the reference: its gate's row times the branch's product. -/
abbrev refBranch (b : ℕ) (hs : MergeReferenceIdeal.S8192x3x2048.Slices ![0, b, 0] MergeReferenceIdeal.S8192x1x2048) (p : FVec Ideal MergeReferenceIdeal.S8192x13312 .f32)
    (y : FVec Ideal MergeReferenceIdeal.S8192x1024 .bf16) (w : FVec Ideal MergeReferenceIdeal.S1x1024x2048 .f32) : FVec Ideal MergeReferenceIdeal.S8192x2048 .f32 :=
  mulf (shapeCast MergeReferenceIdeal.S8192x2048 (extractStridedSlice MergeReferenceIdeal.S8192x1x2048 ![0, b, 0] (refGates p) hs) MergeReferenceIdeal.Gen.shapeCasts_S8192x1x2048_S8192x2048)
    (Host.dotGeneral (F := Ideal) (φ₁ := .f32) (φ₂ := .f32) MergeReferenceIdeal.dot_S8192x1024_S1024x2048_S8192x2048_1_0_0_1_n_n none (extf .f32 y MergeReferenceIdeal.Gen.bitsLt_bf16_f32)
      (shapeCast MergeReferenceIdeal.S1024x2048 w MergeReferenceIdeal.Gen.shapeCasts_S1x1024x2048_S1024x2048))

theorem refBranch_apply (b : Fin 3) (hs) (p : FVec Ideal MergeReferenceIdeal.S8192x13312 .f32) (y : FVec Ideal MergeReferenceIdeal.S8192x1024 .bf16)
    (w : FVec Ideal MergeReferenceIdeal.S1x1024x2048 .f32) (R : Fin 8192) (n : Fin 2048) :
    refBranch b.val hs p y w (ix2 R n) = gated (p (ix2 R ⟨b.val * 2048 + n.val, by omega⟩)) (∑ k : Fin 1024, (y (ix2 R k) : EReal) * w (ix3 0 k n)) := by
  refine congrArg₂ (· * ·) ?_ ((refDot_apply _ _ R n).trans (Finset.sum_congr rfl fun k _ => congrArg₂ (· * ·) rfl ?_))
  · refine (shapeCast_apply _ _ _ (ix3 R 0 n) (by
      refine (Shape.rowMajor_val_three _).trans (Eq.trans ?_ (Shape.rowMajor_val_two _).symm)
      show (R.val * 1 + 0) * 2048 + n.val = R.val * 2048 + n.val; omega)).trans (Eq.trans ?_ (refGates_apply p R b n))
    exact congrArg (refGates p) (funext fun a => Fin.ext (by
      fin_cases a
      · show 0 + R.val = R.val; omega
      · show b.val + 0 = b.val; omega
      · show 0 + n.val = n.val; omega))
  · exact shapeCast_apply _ _ _ (ix3 0 k n) (by
      refine (Shape.rowMajor_val_three _).trans (Eq.trans ?_ (Shape.rowMajor_val_two _).symm)
      show ((0 : ℕ) * 1024 + k.val) * 2048 + n.val = k.val * 2048 + n.val; omega)

theorem ref_apply (p : FVec Ideal MergeReferenceIdeal.S8192x13312 .f32) (y0 y1 y2 : FVec Ideal MergeReferenceIdeal.S8192x1024 .bf16)
    (w0 w1 w2 : FVec Ideal MergeReferenceIdeal.S1x1024x2048 .f32) (R : Fin 8192) (n : Fin 2048) :
    truncf .bf16 (addf (addf (refBranch 0 MergeReferenceIdeal.Gen.slices_S8192x3x2048_S8192x1x2048_0_0_0 p y0 w0)
      (refBranch 1 MergeReferenceIdeal.Gen.slices_S8192x3x2048_S8192x1x2048_0_1_0 p y1 w1))
      (refBranch 2 MergeReferenceIdeal.Gen.slices_S8192x3x2048_S8192x1x2048_0_2_0 p y2 w2)) MergeReferenceIdeal.Gen.bitsLt_bf16_f32 (ix2 R n)
      = merged y0 y1 y2 p w0 w1 w2 R n := by
  refine congrArg₂ (· + ·) (congrArg₂ (· + ·) ((refBranch_apply 0 _ p y0 w0 R n).trans ?_) (refBranch_apply 1 _ p y1 w1 R n)) (refBranch_apply 2 _ p y2 w2 R n)
  exact congrArg₂ gated (congrArg p (congrArg (ix2 R) (Fin.ext (by show 0 * 2048 + n.val = n.val; omega)))) rfl

/-! ## The kernel's blocks -/

section Blocks
variable (m : (ℓ : Loc nD τ sig) → Buf (Elt Ideal) ℓ) (c : Dev nD)

abbrev argY0 : S8192x1024.Idx → EReal := m ((c.tc : Thread nD τ).loc main_arg0)
abbrev argY1 : S8192x1024.Idx → EReal := m ((c.tc : Thread nD τ).loc main_arg1)
abbrev argY2 : S8192x1024.Idx → EReal := m ((c.tc : Thread nD τ).loc main_arg2)
abbrev argP : S8192x13312.Idx → EReal := m ((c.tc : Thread nD τ).loc main_arg3)
abbrev argW0 : S1x1024x2048.Idx → EReal := m ((c.tc : Thread nD τ).loc main_arg4)
abbrev argW1 : S1x1024x2048.Idx → EReal := m ((c.tc : Thread nD τ).loc main_arg5)
abbrev argW2 : S1x1024x2048.Idx → EReal := m ((c.tc : Thread nD τ).loc main_arg6)

theorem reshape_apply (w : FVec Ideal S1x1024x2048 .f32) (k : Fin 1024) (n : Fin 2048) : shapeCast S1024x2048 w shapeCasts_S1x1024x2048_S1024x2048 (ix2 k n) = w (ix3 0 k n) :=
  shapeCast_apply _ _ _ (ix3 0 k n) (by
    refine (Shape.rowMajor_val_three _).trans (Eq.trans ?_ (Shape.rowMajor_val_two _).symm)
    show ((0 : ℕ) * 1024 + k.val) * 2048 + n.val = k.val * 2048 + n.val; omega)
theorem v0_apply (k : Fin 1024) (n : Fin 2048) : V (F := Ideal) m c main_v0 (ix2 k n) = (argW0 m c (ix3 0 k n) : EReal) := by entry_read; exact reshape_apply _ k n
theorem v1_apply (k : Fin 1024) (n : Fin 2048) : V (F := Ideal) m c main_v1 (ix2 k n) = (argW1 m c (ix3 0 k n) : EReal) := by entry_read; exact reshape_apply _ k n
theorem v2_apply (k : Fin 1024) (n : Fin 2048) : V (F := Ideal) m c main_v2 (ix2 k n) = (argW2 m c (ix3 0 k n) : EReal) := by entry_read; exact reshape_apply _ k n

theorem idxY : ∀ t : Fin cfg0.N, ((cfg0.win 0).index t 0 = t.val / 8 ∧ (cfg0.win 0).index t 1 = 0) ∧ ((cfg0.win 1).index t 0 = t.val / 8 ∧ (cfg0.win 1).index t 1 = 0)
    ∧ ((cfg0.win 2).index t 0 = t.val / 8 ∧ (cfg0.win 2).index t 1 = 0) := by decide +kernel
theorem idxP : ∀ t : Fin cfg0.N, ((cfg0.win 3).index t 0 = t.val / 8 ∧ (cfg0.win 3).index t 1 = t.val % 8) ∧ ((cfg0.win 4).index t 0 = t.val / 8 ∧ (cfg0.win 4).index t 1 = 8 + t.val % 8)
    ∧ ((cfg0.win 5).index t 0 = t.val / 8 ∧ (cfg0.win 5).index t 1 = 16 + t.val % 8) := by decide +kernel
theorem idxW : ∀ t : Fin cfg0.N, ((cfg0.win 6).index t 0 = 0 ∧ (cfg0.win 6).index t 1 = t.val % 8) ∧ ((cfg0.win 7).index t 0 = 0 ∧ (cfg0.win 7).index t 1 = t.val % 8)
    ∧ ((cfg0.win 8).index t 0 = 0 ∧ (cfg0.win 8).index t 1 = t.val % 8) := by decide +kernel
theorem idxO : ∀ t : Fin cfg0.N, (cfg0.win 9).index t 0 = t.val / 8 ∧ (cfg0.win 9).index t 1 = t.val % 8 := by decide +kernel
theorem lt_N (t : Fin cfg0.N) : t.val < 32 := Nat.lt_of_lt_of_eq t.isLt N_0

/-- A block of rows of an array, read at an index of the array. -/
theorem at2 {A B : ℕ} (X : (⟨2, ![A, B]⟩ : Shape).Idx → EReal) (i : (⟨2, ![A, B]⟩ : Shape).Idx) (a : Fin A) (b : Fin B) (h0 : (i 0).val = a.val) (h1 : (i 1).val = b.val) : X i = X (ix2 a b) := by
  rw [← ix2_eta i]
  exact congrArg₂ (fun u v => X (ix2 u v)) (Fin.ext h0) (Fin.ext h1)

theorem block_at {i j A r x : ℕ} (h : i = j) (hx : j * A = x) : i * A + 1 * r = x + r := by subst h; omega
theorem block_at_zero {i A r : ℕ} (h : i = 0) : i * A + 1 * r = r := by subst h; omega

theorem iblk0_apply (t : Fin cfg0.N) (r : Fin 2048) (k : Fin 1024) (h) : iblk (F := Ideal) m c 0 t (ix2 r k) = (argY0 m c (ix2 ⟨2048 * (t.val / 8) + r.val, h⟩ k) : EReal) :=
  (congrFun (V_main_arg0 m c) _).trans (at2 (argY0 m c) _ _ _ (block_at (idxY t).1.1 (Nat.mul_comm _ _)) (block_at_zero (idxY t).1.2))
theorem iblk1_apply (t : Fin cfg0.N) (r : Fin 2048) (k : Fin 1024) (h) : iblk (F := Ideal) m c 1 t (ix2 r k) = (argY1 m c (ix2 ⟨2048 * (t.val / 8) + r.val, h⟩ k) : EReal) :=
  (congrFun (V_main_arg1 m c) _).trans (at2 (argY1 m c) _ _ _ (block_at (idxY t).2.1.1 (Nat.mul_comm _ _)) (block_at_zero (idxY t).2.1.2))
theorem iblk2_apply (t : Fin cfg0.N) (r : Fin 2048) (k : Fin 1024) (h) : iblk (F := Ideal) m c 2 t (ix2 r k) = (argY2 m c (ix2 ⟨2048 * (t.val / 8) + r.val, h⟩ k) : EReal) :=
  (congrFun (V_main_arg2 m c) _).trans (at2 (argY2 m c) _ _ _ (block_at (idxY t).2.2.1 (Nat.mul_comm _ _)) (block_at_zero (idxY t).2.2.2))
theorem iblk3_apply (t : Fin cfg0.N) (r : Fin 2048) (n : Fin 256) (h h') : iblk (F := Ideal) m c 3 t (ix2 r n) = (argP m c (ix2 ⟨2048 * (t.val / 8) + r.val, h⟩ ⟨256 * (t.val % 8) + n.val, h'⟩) : EReal) :=
  (congrFun (V_main_arg3 m c) _).trans (at2 (argP m c) _ _ _ (block_at (idxP t).1.1 (Nat.mul_comm _ _)) (by
    show (cfg0.win 3).index t 1 * 256 + 1 * n.val = 256 * (t.val % 8) + n.val
    rw [(idxP t).1.2]; omega))
theorem iblk4_apply (t : Fin cfg0.N) (r : Fin 2048) (n : Fin 256) (h h') : iblk (F := Ideal) m c 4 t (ix2 r n) = (argP m c (ix2 ⟨2048 * (t.val / 8) + r.val, h⟩ ⟨2048 + (256 * (t.val % 8) + n.val), h'⟩) : EReal) :=
  (congrFun (V_main_arg3 m c) _).trans (at2 (argP m c) _ _ _ (block_at (idxP t).2.1.1 (Nat.mul_comm _ _)) (by
    show (cfg0.win 4).index t 1 * 256 + 1 * n.val = 2048 + (256 * (t.val % 8) + n.val)
    rw [(idxP t).2.1.2]; omega))
theorem iblk5_apply (t : Fin cfg0.N) (r : Fin 2048) (n : Fin 256) (h h') : iblk (F := Ideal) m c 5 t (ix2 r n) = (argP m c (ix2 ⟨2048 * (t.val / 8) + r.val, h⟩ ⟨4096 + (256 * (t.val % 8) + n.val), h'⟩) : EReal) :=
  (congrFun (V_main_arg3 m c) _).trans (at2 (argP m c) _ _ _ (block_at (idxP t).2.2.1 (Nat.mul_comm _ _)) (by
    show (cfg0.win 5).index t 1 * 256 + 1 * n.val = 4096 + (256 * (t.val % 8) + n.val)
    rw [(idxP t).2.2.2]; omega))
theorem iblk6_apply (t : Fin cfg0.N) (k : Fin 1024) (n : Fin 256) (h) : iblk (F := Ideal) m c 6 t (ix2 k n) = (argW0 m c (ix3 0 k ⟨256 * (t.val % 8) + n.val, h⟩) : EReal) :=
  (at2 (V (F := Ideal) m c main_v0) _ k ⟨256 * (t.val % 8) + n.val, h⟩ (block_at_zero (idxW t).1.1) (block_at (idxW t).1.2 (Nat.mul_comm _ _))).trans (v0_apply m c k _)
theorem iblk7_apply (t : Fin cfg0.N) (k : Fin 1024) (n : Fin 256) (h) : iblk (F := Ideal) m c 7 t (ix2 k n) = (argW1 m c (ix3 0 k ⟨256 * (t.val % 8) + n.val, h⟩) : EReal) :=
  (at2 (V (F := Ideal) m c main_v1) _ k ⟨256 * (t.val % 8) + n.val, h⟩ (block_at_zero (idxW t).2.1.1) (block_at (idxW t).2.1.2 (Nat.mul_comm _ _))).trans (v1_apply m c k _)
theorem iblk8_apply (t : Fin cfg0.N) (k : Fin 1024) (n : Fin 256) (h) : iblk (F := Ideal) m c 8 t (ix2 k n) = (argW2 m c (ix3 0 k ⟨256 * (t.val % 8) + n.val, h⟩) : EReal) :=
  (at2 (V (F := Ideal) m c main_v2) _ k ⟨256 * (t.val % 8) + n.val, h⟩ (block_at_zero (idxW t).2.2.1) (block_at (idxW t).2.2.2 (Nat.mul_comm _ _))).trans (v2_apply m c k _)

theorem block_apply (t : Fin cfg0.N) (r : Fin 2048) (n : Fin 256) (h h') :
    out0_9 (F := Ideal) (iblk m c 0 t) (iblk m c 1 t) (iblk m c 2 t) (iblk m c 3 t) (iblk m c 4 t) (iblk m c 5 t) (iblk m c 6 t) (iblk m c 7 t) (iblk m c 8 t) (ix2 r n)
    = merged (argY0 m c) (argY1 m c) (argY2 m c) (argP m c) (argW0 m c) (argW1 m c) (argW2 m c) ⟨2048 * (t.val / 8) + r.val, h⟩ ⟨256 * (t.val % 8) + n.val, h'⟩ := by
  rw [out_apply]
  unfold blockSum merged
  refine congrArg₂ (· + ·) (congrArg₂ (· + ·) (congrArg₂ gated (iblk3_apply m c t r n h _) (Finset.sum_congr rfl fun k _ => congrArg₂ (· * ·) (iblk0_apply m c t r k h) (iblk6_apply m c t k n h')))
    (congrArg₂ gated (iblk4_apply m c t r n h _) (Finset.sum_congr rfl fun k _ => congrArg₂ (· * ·) (iblk1_apply m c t r k h) (iblk7_apply m c t k n h'))))
    (congrArg₂ gated (iblk5_apply m c t r n h _) (Finset.sum_congr rfl fun k _ => congrArg₂ (· * ·) (iblk2_apply m c t r k h) (iblk8_apply m c t k n h')))

abbrev outM : S8192x2048.Idx → EReal := fun y => merged (argY0 m c) (argY1 m c) (argY2 m c) (argP m c) (argW0 m c) (argW1 m c) (argW2 m c) (y 0) (y 1)

theorem final_out : (dats (F := Ideal) m 0 c).arrAt 9 cfg0.N = outM m c := by
  refine (dats (F := Ideal) m 0 c).arrAt_eq_of_covers 9 _ (by decide +kernel) fun t hf y => ?_
  have h0 : (y 0).val < 2048 := (y 0).isLt
  have h1 : (y 1).val < 256 := (y 1).isLt
  have ht := lt_N t
  refine (congrFun (after0_9 m c t) _).trans (Eq.trans (congrArg (out0_9 (iblk m c 0 t) (iblk m c 1 t) (iblk m c 2 t) (iblk m c 3 t) (iblk m c 4 t) (iblk m c 5 t) (iblk m c 6 t)
    (iblk m c 7 t) (iblk m c 8 t)) (funext fun a => by fin_cases a <;> rfl))
    ((block_apply m c t ⟨(y 0).val, h0⟩ ⟨(y 1).val, h1⟩ (by dsimp only; omega) (by dsimp only; omega)).trans ?_))
  exact congrArg₂ (merged (argY0 m c) (argY1 m c) (argY2 m c) (argP m c) (argW0 m c) (argW1 m c) (argW2 m c)) (Fin.ext (block_at (idxO t).1 (Nat.mul_comm _ _)).symm)
    (Fin.ext (block_at (idxO t).2 (Nat.mul_comm _ _)).symm)

end Blocks

/-! ## The claims -/

theorem frame_kernel : Cert.quiescent_MergeKernel := fun m ρ _ => Cert.MergeKernel.Gen.frame m ρ
theorem frame_kernelIdeal : Cert.quiescent_MergeKernelIdeal := fun m ρ _ => Cert.MergeKernelIdeal.Gen.frame m ρ
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem algebraic : Cert.algebraic_MergeKernelIdeal_MergeReferenceIdeal := fun m g m' g' _ hm =>
  ⟨fun c => outM m c,
    (θ_run Cert.MergeKernelIdeal.defs _ _).mono (fun r h c => ⟨(h c).1.trans (final_out m c), (h c).2⟩) (Cert.MergeKernelIdeal.Value.run_blocks (F := Ideal) m g),
    (θ_run Cert.MergeReferenceIdeal.defs _ _).mono (fun r h c => by
      refine ⟨(h c).1.trans (funext fun y => ?_), (h c).2⟩
      rw [← ix2_eta y]
      refine (ref_apply _ _ _ _ _ _ _ (y 0) (y 1)).trans ?_
      rw [(hm c).1, (hm c).2.1, (hm c).2.2.1, (hm c).2.2.2.1, (hm c).2.2.2.2.1, (hm c).2.2.2.2.2.1, (hm c).2.2.2.2.2.2]
      rfl)
      (Cert.MergeReferenceIdeal.Value.run (F := Ideal) m' g')⟩

end Cert.MergeKernelIdeal.Hand

end
-- ==== Proof.KvRun.lean ====
/-
  Hand-written. The memory's keys and values: the body at a row tile's two points, and the run. The first point
  normalizes the tile and computes the keys, the second computes the values from the normalized tile in the scratch;
  the keys' block stays in place at the second point and is written back after it.
-/
module

public import proofs.«01_k».proof.Proof.Gen.KvKernelIdeal.Launch
public import proofs.«01_k».proof.Proof.Gen.KvKernelIdeal.Skeleton
public import proofs.«01_k».proof.Proof.Gen.KvKernelIdeal.Points
public import proofs.«01_k».proof.Proof.Gen.KvKernelIdeal.Frame
public import proofs.«01_k».proof.Proof.Loads
public import Idealize.ShloMosaic.Lib.Pipeline.FrameBody
public import Idealize.ShloMosaic.Lib.Pipeline.Value
public import Idealize.ShloMosaic.Lib.Tactic

@[expose] public section

set_option maxRecDepth 16384

noncomputable section

namespace Cert.KvKernelIdeal.Hand

open Cert.KvKernelIdeal Cert.KvKernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- The normalized row tile's scratch, at any contents and at the words `Xn`. -/
abbrev nM : Memref sig .tc .vmem S512x2048 .bf16 := Memref.whole cc0_scratch0
abbrev nP (c : Dev nD) (f : Buf (Elt F) ((c : Thread nD τ).loc cc0_scratch0)) : sProp 𝕄 := ((c : Thread nD τ).loc cc0_scratch0) ↦{fullShare} f
def nHolds (c : Dev nD) (Xn : FVec F S512x2048 .bf16) : sProp 𝕄 :=
  iprop(∃ f : Buf (Elt F) ((c : Thread nD τ).loc cc0_scratch0), ⌜nM.view.read (Elt F) f = Xn⌝ ∗ nP c f)

abbrev cond1 (i : grid0.Coords) : BitVec 1 :=
  Scalar.cmpi .ne (Scalar.extui (Scalar.cmpi .eq (BitVec.ofNat 32 (i 1).val) 0#32) : BitVec 32) 0#32

section Cases
variable (c : Dev nD) (i : grid0.Coords)
  (arg2 : Memref sig .tc .vmem S512x2048 .f32) (harg2 : arg2.IsWhole) (arg3 : Memref sig .tc .vmem S1x2048 .f32) (harg3 : arg3.IsWhole)
  (arg4 : Memref sig .tc .vmem S2048x1024 .f32) (harg4 : arg4.IsWhole) (arg5 : Memref sig .tc .vmem S512x1024 .f32) (harg5 : arg5.IsWhole)
  (arg6 : Memref sig .tc .vmem S512x4x256 .f32) (harg6 : arg6.IsWhole) (arg7 : Memref sig .tc .vmem S512x4x256 .f32) (harg7 : arg7.IsWhole)
  (X2 : FVec F S512x2048 .f32) (X3 : FVec F S1x2048 .f32) (X4 : FVec F S2048x1024 .f32) (X5 : FVec F S512x1024 .f32) (X6 X7 : FVec F S512x4x256 .f32)

abbrev bodyG : Prog (TpuEff nD τ sig (Elt F) Λ₀ .tc) PUnit :=
  cc0_memory_kv i arg2 harg2 arg3 harg3 arg4 harg4 arg5 harg5 arg6 harg6 arg7 harg7 nM (Memref.isWhole_whole _)

/-- A row tile's first point: the tile is normalized, the keys are computed. -/
theorem run_keys (h1 : cond1 i = 1#1) (h2 : k0_cond2 i = 1#1) (h3 : ¬k0_cond3 i = 1#1) (Q : PUnit → sProp 𝕄) :
    iprop(owns c arg2 fullShare X2 ∗ owns c arg3 fullShare X3 ∗ owns c arg4 fullShare X4 ∗ owns c arg5 fullShare X5 ∗ owns c arg6 fullShare X6 ∗ (∃ f, nP c f)
        ∗ (owns c arg2 fullShare X2 ∗ owns c arg3 fullShare X3 ∗ owns c arg4 fullShare X4 ∗ owns c arg5 fullShare (k0_pay2 (k0_pay1 X2 X3) X4)
            ∗ owns c arg6 fullShare (k0_pay3 (k0_pay1 X2 X3) X4) ∗ nHolds c (k0_pay1 X2 X3) -∗ Q ⟨⟩))
      ⊢ wp frame (wpE (defs₀ (F := F)) Variants.none (c : Thread nD τ) none) Set.univ (bodyG i arg2 harg2 arg3 harg3 arg4 harg4 arg5 harg5 arg6 harg6 arg7 harg7) Q := by
  unfold owns nHolds
  iintro ⟨⟨%g2, %e2, H2⟩, ⟨%g3, %e3, H3⟩, ⟨%g4, %e4, H4⟩, ⟨%g5, %e5, H5⟩, ⟨%g6, %e6, H6⟩, ⟨%fn, Hn⟩, Hk⟩
  simp only [bodyG, cc0_memory_kv_eq_skeleton]; unfold cc0_memory_kv_skel
  sl_exec; sl_step; sl_exec
  sl_step
  iapply Hk
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr
    swap; · iexact H5
    ipureintro
    sl_unfold_words
    rw [read_store (S := S512x1024) _ hz2, View.readCov_unit_zero (S := S512x2048) _ hz2, load_whole (S := S512x2048) _ hz2,
      load_whole (S := S1x2048) _ hz2, load_whole (S := S2048x1024) _ hz2, e2, e3, e4]
  isplitl [H6]
  · iexists _; isplitr
    swap; · iexact H6
    ipureintro
    sl_unfold_words
    rw [read_store (S := S512x4x256) _ hz3, View.readCov_unit_zero (S := S512x2048) _ hz2, load_whole (S := S512x2048) _ hz2,
      load_whole (S := S1x2048) _ hz2, load_whole (S := S2048x1024) _ hz2, e2, e3, e4]
  iexists _; isplitr
  swap; · iexact Hn
  ipureintro
  sl_unfold_words
  rw [read_store (S := S512x2048) _ hz2, load_whole (S := S512x2048) _ hz2, load_whole (S := S1x2048) _ hz2, e2, e3]

/-- Its second point: the values are computed. -/
theorem run_values (h1 : ¬cond1 i = 1#1) (h2 : ¬k0_cond2 i = 1#1) (h3 : k0_cond3 i = 1#1) (Xn : FVec F S512x2048 .bf16) (Q : PUnit → sProp 𝕄) :
    iprop(owns c arg4 fullShare X4 ∗ owns c arg5 fullShare X5 ∗ owns c arg7 fullShare X7 ∗ nHolds c Xn
        ∗ (owns c arg4 fullShare X4 ∗ owns c arg5 fullShare (k0_pay2 Xn X4) ∗ owns c arg7 fullShare (k0_pay3 Xn X4) ∗ nHolds c Xn -∗ Q ⟨⟩))
      ⊢ wp frame (wpE (defs₀ (F := F)) Variants.none (c : Thread nD τ) none) Set.univ (bodyG i arg2 harg2 arg3 harg3 arg4 harg4 arg5 harg5 arg6 harg6 arg7 harg7) Q := by
  unfold owns nHolds
  iintro ⟨⟨%g4, %e4, H4⟩, ⟨%g5, %e5, H5⟩, ⟨%g7, %e7, H7⟩, ⟨%fn, %en, Hn⟩, Hk⟩
  simp only [bodyG, cc0_memory_kv_eq_skeleton]; unfold cc0_memory_kv_skel
  sl_exec; sl_step; sl_exec
  sl_step
  iapply Hk
  isplitl [H4]
  · iexists _; isplitr; · ipureintro; exact e4
    iexact H4
  isplitl [H5]
  · iexists _; isplitr
    swap; · iexact H5
    ipureintro
    rw [read_store (S := S512x1024) _ hz2, load_whole (S := S512x2048) _ hz2, load_whole (S := S2048x1024) _ hz2, e4, en]
  isplitl [H7]
  · iexists _; isplitr
    swap; · iexact H7
    ipureintro
    rw [read_store (S := S512x4x256) _ hz3, load_whole (S := S512x2048) _ hz2, load_whole (S := S2048x1024) _ hz2, e4, en]
  iexists _; isplitr; · ipureintro; exact en
  iexact Hn

end Cases

/-! ## The grid's points: two to a row tile -/

theorem cond1_iff : ∀ t : Fin cfg0.N, cond1 (cfg0.grid.coords t) = 1#1 ↔ t.val % 2 = 0 := by decide +kernel
theorem cond2_iff : ∀ t : Fin cfg0.N, k0_cond2 (cfg0.grid.coords t) = 1#1 ↔ t.val % 2 = 0 := by decide +kernel
theorem cond3_iff : ∀ t : Fin cfg0.N, k0_cond3 (cfg0.grid.coords t) = 1#1 ↔ t.val % 2 = 1 := by decide +kernel
theorem idle4_iff : ∀ t : Fin cfg0.N, cfg0.idle 4 (cfg0.grid.coords t) = true ↔ t.val % 2 = 1 := by decide +kernel
theorem idle5_iff : ∀ t : Fin cfg0.N, cfg0.idle 5 (cfg0.grid.coords t) = true ↔ t.val % 2 = 0 := by decide +kernel
theorem lt_N (t : Fin cfg0.N) : t.val < 4 := Nat.lt_of_lt_of_eq t.isLt N_0

/-- The first and the second point of row tile `i`, and the row tile of a point. -/
def ptK (i : Fin 2) : Fin cfg0.N := ⟨2 * i.val, Nat.lt_of_lt_of_eq (by omega) N_0.symm⟩
def til (p : ℕ) : Fin 2 := ⟨p / 2 % 2, Nat.mod_lt _ (by decide)⟩
theorem til_val {p : ℕ} (h : p < 4) : (til p).val = p / 2 := Nat.mod_eq_of_lt (by omega)
theorem ptK_til {t : Fin cfg0.N} (h : t.val % 2 = 0) : ptK (til t.val) = t :=
  Fin.ext (by show 2 * (til t.val).val = t.val; rw [til_val (lt_N t)]; omega)
theorem til_succ {p : ℕ} (h : p % 2 = 0) : til (p + 1) = til p := Fin.ext (by show (p + 1) / 2 % 2 = p / 2 % 2; omega)

/-! ## The proof data -/

section Data
variable (m : (ℓ : Loc nD τ sig) → Buf (Elt F) ℓ) (ρ : Dev nD → PrngReg)

/-- Row tile `i` normalized; its product with point `t`'s half of the weight; its keys, split into the heads; the values. -/
def XN (c : Dev nD) (i : Fin 2) : FVec F S512x2048 .bf16 := k0_pay1 (iblk m c 0 (ptK i)) (iblk m c 1 (ptK i))
def KV (c : Dev nD) (t : Fin cfg0.N) : FVec F S512x1024 .f32 := k0_pay2 (XN m c (til t.val)) (iblk m c 2 t)
def KH (c : Dev nD) (i : Fin 2) : FVec F S512x4x256 .f32 := k0_pay3 (XN m c i) (iblk m c 2 (ptK i))
def VH (c : Dev nD) (t : Fin cfg0.N) : FVec F S512x4x256 .f32 := k0_pay3 (XN m c (til t.val)) (iblk m c 2 t)

def normAt (c : Dev nD) (p : ℕ) : sProp 𝕄 := if p % 2 = 0 then iprop(∃ f, nP c f) else nHolds c (XN m c (til p))
def PhiAt (c : Dev nD) (p : ℕ) : sProp 𝕄 := iprop(normAt m c p ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => KV m c t
    | ⟨4, _⟩ => KH m c (til t.val)
    | ⟨5, _⟩ => VH m c t
  Φ t := PhiAt m c t.val
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = KV m c t := by dsimp only [dats]
theorem after_w4 (c : Dev nD) (t : Fin cfg0.N) : (dats m 0 c).after 4 t = KH m c (til t.val) := by dsimp only [dats]
theorem after_w5 (c : Dev nD) (t : Fin cfg0.N) : (dats m 0 c).after 5 t = VH m c t := by dsimp only [dats]

theorem before_w0 (c : Dev nD) (t : Fin cfg0.N) (d) : (dats m 0 c).before 0 t d = iblk m c 0 t := before0_0_of m _ (A_eq m c 0) (after_w0 m c) t d
theorem before_w1 (c : Dev nD) (t : Fin cfg0.N) (d) : (dats m 0 c).before 1 t d = iblk m c 1 t := before0_1_of m _ (A_eq m c 1) (after_w1 m c) t d
theorem before_w2 (c : Dev nD) (t : Fin cfg0.N) (d) : (dats m 0 c).before 2 t d = iblk m c 2 t := before0_2_of m _ (A_eq m c 2) (after_w2 m c) t d

/-- At a row tile's second point the keys' buffer holds what the first stored. -/
theorem before_w4 (c : Dev nD) (t : Fin cfg0.N) (h : t.val % 2 = 1) (d) : (dats m 0 c).before 4 t d = KH m c (til t.val) := by
  have hlt := lt_N t
  have hf : (cfg0.win 4).flush ⟨t.val - 1, Nat.lt_of_le_of_lt (Nat.sub_le _ _) t.isLt⟩ = false := by
    rw [Bool.eq_false_iff]; intro hh; have := (flush0_4 _).mp hh; simp only at this; omega
  rw [(dats m 0 c).before_of_pos 4 t (by omega) ((cfg0.win 4).fetch_out rfl t), hf, if_neg Bool.false_ne_true]
  have hti : til (t.val - 1) = til t.val := by
    conv_rhs => rw [show t.val = (t.val - 1) + 1 by omega]
    exact (til_succ (by omega)).symm
  unfold Dat.left
  have hi : cfg0.idle 4 (cfg0.grid.coords ⟨t.val - 1, Nat.lt_of_le_of_lt (Nat.sub_le _ _) t.isLt⟩) = false := by
    rw [Bool.eq_false_iff]; intro hh; have := (idle4_iff _).mp hh; simp only at this; omega
  rw [hi]; dsimp only
  unfold Dat.kept
  rw [Pipeline.fill_of_clip_none (cfg := cfg0) 4 _ (fun _ => rfl) d ((dats m 0 c).after 4 _), Window.fill_cut, after_w4]
  exact congrArg (KH m c) hti

/-! ## The body obligation and the run -/

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) := by
  unfold defs₀; rw [Defs.onTc_tc]

abbrev bodyT (t : Fin cfg0.N) : Prog (TpuEff nD τ sig (Elt F) Λ₀ .tc) PUnit :=
  bodyG (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5))

theorem prog_eq (t : Fin cfg0.N) : (defs₀ (F := F)) .tc cfg0.body (cfg0.bodyArgs t (cfg0.slots t)) = bodyT t := (congrFun defs_tc _).trans rfl

set_option backward.isDefEq.respectTransparency.types false in
theorem body_obligation (c : Dev nD) : BodyObligation (dats (F := F) m 0 c) (defs₀ (F := F)) Variants.none () Set.univ := fun t => by
  have hlt := lt_N t
  rw [bigSep_W0, bigSep_W0]
  dsimp only
  simp only [before_w0, before_w1, before_w2, after_w0, after_w1, after_w2, after_w3, after_w4, after_w5]
  rw [show (dats m 0 c).Φ t.castSucc = PhiAt m c t.val from rfl, show (dats m 0 c).Φ t.succ = PhiAt m c (t.val + 1) from rfl]
  unfold Dat.owesAt Pipeline.owesWithin
  rw [show (dats m 0 c).owed t.castSucc = 0 from rfl, show (dats m 0 c).owed t.succ = 0 from rfl]
  unfold PhiAt normAt
  by_cases h0 : t.val % 2 = 0
  · rw [show idle0 4 (grid0.coords t) = false from by rw [Bool.eq_false_iff]; intro hh; have := (idle4_iff t).mp hh; omega,
      show idle0 5 (grid0.coords t) = true from (idle5_iff t).mpr h0,
      show (win0 5).flush t = false from by rw [Bool.eq_false_iff]; intro hh; have := (flush0_5 t).mp hh; omega]
    dsimp only
    rw [if_pos h0, if_neg (by omega : ¬(t.val + 1) % 2 = 0), til_succ h0]
    have hXN : XN m c (til t.val) = k0_pay1 (iblk m c 0 t) (iblk m c 1 t) := by unfold XN; rw [ptK_til h0]
    have hKH : KH m c (til t.val) = k0_pay3 (k0_pay1 (iblk m c 0 t) (iblk m c 1 t)) (iblk m c 2 t) := by unfold KH; rw [hXN, ptK_til h0]
    have hKV : KV m c t = k0_pay2 (k0_pay1 (iblk m c 0 t) (iblk m c 1 t)) (iblk m c 2 t) := by unfold KV; rw [hXN]
    rw [hXN, hKH, hKV]
    iintro ⟨⟨Hn, Hp⟩, ⟨%W, -, HW⟩, ⟨%d0, H0⟩, ⟨%d1, H1⟩, ⟨%d2, H2⟩, ⟨%d3, H3⟩, ⟨%d4, H4⟩, ⟨%d5, H5⟩⟩
    sl_rw [prog_eq t]
    iapply (run_keys c (cfg0.grid.coords t) _ _ _ _ _ _ _ _ _ _ _ _ (iblk m c 0 t) (iblk m c 1 t) (iblk m c 2 t) _ _
      ((cond1_iff t).mpr h0) ((cond2_iff t).mpr h0) (fun h => by have := (cond3_iff t).mp h; omega))
    isplitl [H0]; · iexact H0
    isplitl [H1]; · iexact H1
    isplitl [H2]; · iexact H2
    isplitl [H3]; · iexact H3
    isplitl [H4]; · iexact H4
    isplitl [Hn]; · iexact Hn
    iintro ⟨H0, H1, H2, H3, H4, Hn⟩
    isplitl [Hn Hp]
    · isplitl [Hn]; · iexact Hn
      iexact Hp
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexists d5; iexact H5
  · have h1 : t.val % 2 = 1 := by omega
    have hb4 := before_w4 m c t h1
    rw [show idle0 4 (grid0.coords t) = true from (idle4_iff t).mpr h1,
      show (win0 4).flush t = true from (flush0_4 t).mpr h1,
      show idle0 5 (grid0.coords t) = false from by rw [Bool.eq_false_iff]; intro hh; have := (idle5_iff t).mp hh; omega]
    dsimp only
    rw [if_neg h0, if_pos (by omega : (t.val + 1) % 2 = 0)]
    unfold KV VH
    iintro ⟨⟨Hn, Hp⟩, ⟨%W, -, HW⟩, ⟨%d0, H0⟩, ⟨%d1, H1⟩, ⟨%d2, H2⟩, ⟨%d3, H3⟩, ⟨%d4, H4⟩, ⟨%d5, H5⟩⟩
    rw [hb4]
    sl_rw [prog_eq t]
    iapply (run_values c (cfg0.grid.coords t) _ _ _ _ _ _ _ _ _ _ _ _ (iblk m c 2 t) _ _
      (fun h => h0 ((cond1_iff t).mp h)) (fun h => h0 ((cond2_iff t).mp h)) ((cond3_iff t).mpr h1) (XN m c (til t.val)))
    isplitl [H2]; · iexact H2
    isplitl [H3]; · iexact H3
    isplitl [H5]; · iexact H5
    isplitl [Hn]; · iexact Hn
    iintro ⟨H2, H3, H5, Hn⟩
    isplitl [Hn Hp]
    · isplitl [Hn]
      · unfold nHolds; icases Hn with ⟨%f, -, Hn⟩; iexists f; iexact Hn
      iexact Hp
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

theorem phi_ends (c : Dev nD) (p : ℕ) (hp : p % 2 = 0) : PhiAt m c p = (Pipeline.ΦA (U := UR sig nD τ) spec0 c : sProp 𝕄) := by
  unfold PhiAt normAt Pipeline.ΦA; rw [if_pos hp, scopedRest0_eq]

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; split <;> rfl)
    (howed := fun _ _ => rfl) (V := V m) (hmain := hmain m Variants.none) (hA := A_eq m)
    (hin := fun c => by rw [show (dats m 0 c).Φ 0 = PhiAt m c 0 from rfl, phi_ends m c 0 rfl])
    (hout := fun c => by rw [show (dats m 0 c).Φ (Fin.last cfg0.N) = PhiAt m c 4 from congrArg (PhiAt m c) N_0, phi_ends m c 4 rfl])
    (hQ' := fun _ h => h)

end Data

end Cert.KvKernelIdeal.Hand

end
-- ==== Proof.KvFinal.lean ====
/-
  Hand-written. The memory's keys and values: the arrays after the run at the ideal values, and the claims.
-/
module

public import proofs.«01_k».proof.Proof.KvRun
public import proofs.«01_k».proof.Proof.Value
public import proofs.«01_k».proof.Proof.MergeFinal
public import proofs.«01_k».proof.Proof.Gen.KvReferenceIdeal.Run
public import proofs.«01_k».proof.Proof.Gen.KvKernel
public import proofs.«01_k».proof.Defs
public import Idealize.ShloMosaic.Lib.Pointwise
public import Idealize.ShloMosaic.Lib.Claim

@[expose] public section

set_option maxRecDepth 16384

noncomputable section

namespace Cert.KvKernelIdeal.Hand

open Cert.KvKernelIdeal Cert.KvKernelIdeal.Gen Cert.Hand
open Cert.KernelIdeal.Hand (nrm)
open Cert.MergeKernelIdeal.Hand (at2 block_at block_at_zero)
open Idealize.ShloMosaic Idealize.ShloMosaic.TcCoe Idealize.ShloMosaic.Tactic
open Idealize.SL.Sem
open Idealize.ShloMosaic.Pipeline (Dat Cfg Window cellOf)

theorem pay1_apply (X : FVec Ideal S512x2048 .f32) (g : FVec Ideal S1x2048 .f32) (r : Fin 512) (k : Fin 2048) :
    k0_pay1 (F := Ideal) X g (ix2 r k) = nrm (fun j => X (ix2 r j)) (g (ix2 0 k)) k := by
  unfold nrm
  pointwise [k0_pay1]

theorem pay2_apply (X : FVec Ideal S512x2048 .bf16) (w : FVec Ideal S2048x1024 .f32) (r : Fin 512) (n : Fin 1024) :
    k0_pay2 (F := Ideal) X w (ix2 r n) = ∑ k : Fin 2048, (X (ix2 r k) : EReal) * w (ix2 k n) := by
  pointwise [k0_pay2]

theorem heads_lt (h : Fin 4) (d : Fin 256) : h.val * 256 + d.val < 1024 := by omega

theorem pay3_apply (X : FVec Ideal S512x2048 .bf16) (w : FVec Ideal S2048x1024 .f32) (r : Fin 512) (h : Fin 4) (d : Fin 256) :
    k0_pay3 (F := Ideal) X w (ix3 r h d) = ∑ k : Fin 2048, (X (ix2 r k) : EReal) * w (ix2 k ⟨h.val * 256 + d.val, heads_lt h d⟩) := by
  refine Eq.trans ?_ (pay2_apply X w r ⟨h.val * 256 + d.val, heads_lt h d⟩)
  exact shapeCast_apply (k0_pay2 (F := Ideal) X w) shapeCasts_S512x1024_S512x4x256 (ix3 r h d) (ix2 r ⟨h.val * 256 + d.val, heads_lt h d⟩) (by
    refine (Shape.rowMajor_val_two _).trans (Eq.trans ?_ (Shape.rowMajor_val_three _).symm)
    show r.val * 1024 + (h.val * 256 + d.val) = (r.val * 4 + h.val) * 256 + d.val; omega)

/-- Row `R` of the normalized memory times column `n` of the weight. -/
def prod (x : S4x256x2048.Idx → EReal) (g : S1x2048.Idx → EReal) (w : S1x2048x2048.Idx → EReal) (R : Fin 1024) (n : Fin 2048) : EReal :=
  ∑ k : Fin 2048, nrm (fun j => x (ix3 ⟨R.val / 256, by omega⟩ ⟨R.val % 256, by omega⟩ j)) (g (ix2 0 k)) k * w (ix3 0 k n)

/-! ## The reference -/

section Reference
open Cert.KvReferenceIdeal.Gen

/-- The memory normalized and its gain, and the product, as the reference has them. -/
abbrev refN (x : FVec Ideal KvReferenceIdeal.S4x256x2048 .f32) (g : FVec Ideal KvReferenceIdeal.S2048 .f32) : FVec Ideal KvReferenceIdeal.S4x256x2048 .f32 :=
  mulf (mulf x (broadcastInDim KvReferenceIdeal.S4x256x2048 ![0, 1, 2] bcast_S4x256x1_S4x256x2048_0_1_2
      (Host.rsqrt (addf (Host.divf (broadcastInDim KvReferenceIdeal.S4x256x1 ![0, 1] bcast_S4x256_S4x256x1_0_1
          (Host.reduceAdd (mulf x x) (constant KvReferenceIdeal.S_ .f32 0x00000000#32) reducesTo_S4x256x2048_S4x256_d2 h_S_))
          (broadcastInDim KvReferenceIdeal.S4x256x1 ![] bcast_S_S4x256x1 (constant KvReferenceIdeal.S_ .f32 0x45000000#32)))
        (broadcastInDim KvReferenceIdeal.S4x256x1 ![] bcast_S_S4x256x1 (constant KvReferenceIdeal.S_ .f32 0x358637BD#32))))))
    (broadcastInDim KvReferenceIdeal.S4x256x2048 ![0, 1, 2] bcast_S1x1x2048_S4x256x2048_0_1_2
      (broadcastInDim KvReferenceIdeal.S1x1x2048 ![2] bcast_S2048_S1x1x2048_2 g))
abbrev refKv (x : FVec Ideal KvReferenceIdeal.S4x256x2048 .f32) (g : FVec Ideal KvReferenceIdeal.S1x2048 .f32) (w : FVec Ideal KvReferenceIdeal.S1x2048x2048 .f32) :
    FVec Ideal KvReferenceIdeal.S4x256x2048 .f32 :=
  Host.dotGeneral (F := Ideal) (φ₁ := .f32) (φ₂ := .f32) KvReferenceIdeal.dot_S4x256x2048_S2048x2048_S4x256x2048_2_0_01_1_n_n none
    (refN x (shapeCast KvReferenceIdeal.S2048 g KvReferenceIdeal.Gen.shapeCasts_S1x2048_S2048)) (shapeCast KvReferenceIdeal.S2048x2048 w KvReferenceIdeal.Gen.shapeCasts_S1x2048x2048_S2048x2048)

theorem refN_apply (x : FVec Ideal KvReferenceIdeal.S4x256x2048 .f32) (g : FVec Ideal KvReferenceIdeal.S2048 .f32) (b : Fin 4) (s : Fin 256) (k : Fin 2048) :
    refN x g (ix3 b s k) = nrm (fun j => x (ix3 b s j)) (g (ix1 k)) k := by
  unfold refN nrm
  pointwise

theorem refDot_apply (X : FVec Ideal KvReferenceIdeal.S4x256x2048 .f32) (W : FVec Ideal KvReferenceIdeal.S2048x2048 .f32) (b : Fin 4) (s : Fin 256) (n : Fin 2048) :
    Host.dotGeneral (F := Ideal) (φ₁ := .f32) (φ₂ := .f32) KvReferenceIdeal.dot_S4x256x2048_S2048x2048_S4x256x2048_2_0_01_1_n_n none X W (ix3 b s n)
      = ∑ k : Fin 2048, (X (ix3 b s k) : EReal) * W (ix2 k n) := by
  pointwise

theorem refKv_apply (x : FVec Ideal KvReferenceIdeal.S4x256x2048 .f32) (g : FVec Ideal KvReferenceIdeal.S1x2048 .f32) (w : FVec Ideal KvReferenceIdeal.S1x2048x2048 .f32)
    (R : Fin 1024) (n : Fin 2048) (hb hs) : refKv x g w (ix3 ⟨R.val / 256, hb⟩ ⟨R.val % 256, hs⟩ n) = prod x g w R n := by
  refine (refDot_apply _ _ _ _ _).trans (Finset.sum_congr rfl fun k _ => congrArg₂ (· * ·) ((refN_apply _ _ _ _ _).trans (congrArg (fun z => nrm _ z k) ?_)) ?_)
  · exact shapeCast_apply g _ _ (ix2 0 k) (by simp [Shape.rowMajor_val_two, Shape.rowMajor_val_one])
  · exact shapeCast_apply w _ _ _ (by simp [Shape.rowMajor_val_two, Shape.rowMajor_val_three])

/-- The reference's three results: the product with the batches' rows one after the other, and its halves split into the heads. -/
theorem ref0_apply (D : FVec Ideal KvReferenceIdeal.S4x256x2048 .f32) (R : Fin 1024) (n : Fin 2048) (hb hs) :
    shapeCast KvReferenceIdeal.S1024x2048 D KvReferenceIdeal.Gen.shapeCasts_S4x256x2048_S1024x2048 (ix2 R n) = D (ix3 ⟨R.val / 256, hb⟩ ⟨R.val % 256, hs⟩ n) :=
  shapeCast_apply _ _ _ _ (by
    refine (Shape.rowMajor_val_three _).trans (Eq.trans ?_ (Shape.rowMajor_val_two _).symm)
    show (R.val / 256 * 256 + R.val % 256) * 2048 + n.val = R.val * 2048 + n.val; omega)

theorem refHalf_apply (D : FVec Ideal KvReferenceIdeal.S4x256x2048 .f32) (o : ℕ) (hsl : KvReferenceIdeal.S4x256x2048.Slices ![0, 0, o] KvReferenceIdeal.S4x256x1024)
    (R : Fin 1024) (h : Fin 4) (d : Fin 256) (hb hs hn) :
    shapeCast KvReferenceIdeal.S1024x4x256 (extractStridedSlice KvReferenceIdeal.S4x256x1024 ![0, 0, o] D hsl) shapeCasts_S4x256x1024_S1024x4x256 (ix3 R h d)
      = D (ix3 ⟨R.val / 256, hb⟩ ⟨R.val % 256, hs⟩ ⟨o + (h.val * 256 + d.val), hn⟩) := by
  refine (shapeCast_apply _ _ _ (ix3 ⟨R.val / 256, hb⟩ ⟨R.val % 256, hs⟩ ⟨h.val * 256 + d.val, heads_lt h d⟩) (by
    refine (Shape.rowMajor_val_three _).trans (Eq.trans ?_ (Shape.rowMajor_val_three _).symm)
    show (R.val / 256 * 256 + R.val % 256) * 1024 + (h.val * 256 + d.val) = (R.val * 4 + h.val) * 256 + d.val; omega)).trans ?_
  exact congrArg D (funext fun a => Fin.ext (by
    fin_cases a
    · show 0 + R.val / 256 = R.val / 256; omega
    · show 0 + R.val % 256 = R.val % 256; omega
    · rfl))

end Reference

/-! ## The kernel's blocks -/

section Blocks
variable (m : (ℓ : Loc nD τ sig) → Buf (Elt Ideal) ℓ) (c : Dev nD)

abbrev argX : S4x256x2048.Idx → EReal := m ((c.tc : Thread nD τ).loc main_arg0)
abbrev argG : S1x2048.Idx → EReal := m ((c.tc : Thread nD τ).loc main_arg1)
abbrev argW : S1x2048x2048.Idx → EReal := m ((c.tc : Thread nD τ).loc main_arg2)

theorem v0_apply (R : Fin 1024) (k : Fin 2048) (hb hs) : V (F := Ideal) m c main_v0 (ix2 R k) = (argX m c (ix3 ⟨R.val / 256, hb⟩ ⟨R.val % 256, hs⟩ k) : EReal) := by
  entry_read
  exact shapeCast_apply _ _ _ _ (by
    refine (Shape.rowMajor_val_three _).trans (Eq.trans ?_ (Shape.rowMajor_val_two _).symm)
    show (R.val / 256 * 256 + R.val % 256) * 2048 + k.val = R.val * 2048 + k.val; omega)
theorem v2_apply (k n : Fin 2048) : V (F := Ideal) m c main_v2 (ix2 k n) = (argW m c (ix3 0 k n) : EReal) := by
  entry_read
  exact shapeCast_apply _ _ _ (ix3 0 k n) (by
    refine (Shape.rowMajor_val_three _).trans (Eq.trans ?_ (Shape.rowMajor_val_two _).symm)
    show ((0 : ℕ) * 2048 + k.val) * 2048 + n.val = k.val * 2048 + n.val; omega)
theorem v3_apply (k : Fin 2048) : V (F := Ideal) m c main_v3 (ix2 0 k) = (argG m c (ix2 0 k) : EReal) := by
  entry_read
  pointwise

theorem idxIn : ∀ t : Fin cfg0.N, ((cfg0.win 0).index t 0 = t.val / 2 ∧ (cfg0.win 0).index t 1 = 0) ∧ ((cfg0.win 1).index t 0 = 0 ∧ (cfg0.win 1).index t 1 = 0)
    ∧ ((cfg0.win 2).index t 0 = 0 ∧ (cfg0.win 2).index t 1 = t.val % 2) := by decide +kernel
theorem idxO : ∀ t : Fin cfg0.N, (cfg0.win 3).index t 0 = t.val / 2 ∧ (cfg0.win 3).index t 1 = t.val % 2 := by decide +kernel
theorem idxK : ∀ t : Fin cfg0.N, (cfg0.win 4).index t 0 = t.val / 2 ∧ (cfg0.win 4).index t 1 = 0 ∧ (cfg0.win 4).index t 2 = 0 := by decide +kernel
theorem idxV : ∀ t : Fin cfg0.N, (cfg0.win 5).index t 0 = t.val / 2 ∧ (cfg0.win 5).index t 1 = 0 ∧ (cfg0.win 5).index t 2 = 0 := by decide +kernel

theorem iblk0_apply (t : Fin cfg0.N) (r : Fin 512) (k : Fin 2048) (h : 512 * (t.val / 2) + r.val < 1024) (hb hs) :
    iblk (F := Ideal) m c 0 t (ix2 r k) = (argX m c (ix3 ⟨(512 * (t.val / 2) + r.val) / 256, hb⟩ ⟨(512 * (t.val / 2) + r.val) % 256, hs⟩ k) : EReal) :=
  (at2 (V (F := Ideal) m c main_v0) _ ⟨512 * (t.val / 2) + r.val, h⟩ k (block_at (idxIn t).1.1 (Nat.mul_comm _ _)) (block_at_zero (idxIn t).1.2)).trans (v0_apply m c _ k hb hs)
theorem iblk1_apply (t : Fin cfg0.N) (k : Fin 2048) : iblk (F := Ideal) m c 1 t (ix2 0 k) = (argG m c (ix2 0 k) : EReal) :=
  (at2 (V (F := Ideal) m c main_v3) _ 0 k (block_at_zero (idxIn t).2.1.1) (block_at_zero (idxIn t).2.1.2)).trans (v3_apply m c k)
theorem iblk2_apply (t : Fin cfg0.N) (k : Fin 2048) (n : Fin 1024) (h) : iblk (F := Ideal) m c 2 t (ix2 k n) = (argW m c (ix3 0 k ⟨1024 * (t.val % 2) + n.val, h⟩) : EReal) :=
  (at2 (V (F := Ideal) m c main_v2) _ k ⟨1024 * (t.val % 2) + n.val, h⟩ (block_at_zero (idxIn t).2.2.1) (block_at (idxIn t).2.2.2 (Nat.mul_comm _ _))).trans (v2_apply m c k _)

/-- A row of a normalized tile times a column of a point's half of the weight. -/
theorem row_sum (i : Fin 2) (t : Fin cfg0.N) (r : Fin 512) (n : Fin 1024) (hR hn) :
    (∑ k : Fin 2048, (XN (F := Ideal) m c i (ix2 r k) : EReal) * iblk (F := Ideal) m c 2 t (ix2 k n))
      = prod (argX m c) (argG m c) (argW m c) ⟨512 * i.val + r.val, hR⟩ ⟨1024 * (t.val % 2) + n.val, hn⟩ := by
  unfold prod XN
  refine Finset.sum_congr rfl fun k _ => congrArg₂ (· * ·) ((pay1_apply _ _ r k).trans ?_) (iblk2_apply m c t k n hn)
  have hp : (ptK i).val / 2 = i.val := by show 2 * i.val / 2 = i.val; omega
  refine congrArg₂ (fun f z => nrm f z k) (funext fun j => (iblk0_apply m c (ptK i) r j (by rw [hp]; exact hR) (by rw [hp]; omega) (by omega)).trans ?_) (iblk1_apply m c (ptK i) k)
  simp only [hp]

theorem KV_apply (t : Fin cfg0.N) (r : Fin 512) (n : Fin 1024) (hR hn) :
    KV (F := Ideal) m c t (ix2 r n) = prod (argX m c) (argG m c) (argW m c) ⟨512 * (til t.val).val + r.val, hR⟩ ⟨1024 * (t.val % 2) + n.val, hn⟩ :=
  (pay2_apply _ _ r n).trans (row_sum m c _ t r n hR hn)
theorem KH_apply (i : Fin 2) (r : Fin 512) (h : Fin 4) (d : Fin 256) (hR hn) :
    KH (F := Ideal) m c i (ix3 r h d) = prod (argX m c) (argG m c) (argW m c) ⟨512 * i.val + r.val, hR⟩ ⟨0 + (h.val * 256 + d.val), hn⟩ := by
  refine (pay3_apply _ _ r h d).trans ((row_sum m c i (ptK i) r _ hR ?_).trans (congrArg (prod _ _ _ _) (Fin.ext ?_)))
  · show 1024 * (2 * i.val % 2) + (h.val * 256 + d.val) < 2048; omega
  · show 1024 * (2 * i.val % 2) + (h.val * 256 + d.val) = 0 + (h.val * 256 + d.val); omega
theorem VH_apply (t : Fin cfg0.N) (ht : t.val % 2 = 1) (r : Fin 512) (h : Fin 4) (d : Fin 256) (hR hn) :
    VH (F := Ideal) m c t (ix3 r h d) = prod (argX m c) (argG m c) (argW m c) ⟨512 * (til t.val).val + r.val, hR⟩ ⟨1024 + (h.val * 256 + d.val), hn⟩ := by
  refine (pay3_apply _ _ r h d).trans ((row_sum m c _ t r _ hR ?_).trans (congrArg (prod _ _ _ _) (Fin.ext ?_)))
  · show 1024 * (t.val % 2) + (h.val * 256 + d.val) < 2048; rw [ht]; exact hn
  · show 1024 * (t.val % 2) + (h.val * 256 + d.val) = 1024 + (h.val * 256 + d.val); rw [ht]

/-! ## The three arrays after the run -/

theorem col_lt (o : ℕ) (ho : o ≤ 1024) (y : S1024x4x256.Idx) : o + ((y 1).val * 256 + (y 2).val) < 2048 := by
  have h1 : (y 1).val < 4 := (y 1).isLt
  have h2 : (y 2).val < 256 := (y 2).isLt
  omega
abbrev outKv : S1024x2048.Idx → EReal := fun y => prod (argX m c) (argG m c) (argW m c) (y 0) (y 1)
abbrev outHeads (o : ℕ) (ho : o ≤ 1024) : S1024x4x256.Idx → EReal := fun y => prod (argX m c) (argG m c) (argW m c) (y 0) ⟨o + ((y 1).val * 256 + (y 2).val), col_lt o ho y⟩

theorem final_kv : (dats (F := Ideal) m 0 c).arrAt 3 cfg0.N = outKv m c := by
  refine (dats (F := Ideal) m 0 c).arrAt_eq_of_covers 3 _ (by decide +kernel) fun t _ y => ?_
  have h0 : (y 0).val < 512 := (y 0).isLt
  have h1 : (y 1).val < 1024 := (y 1).isLt
  have ht := til_val (lt_N t)
  have hlt := lt_N t
  refine (congrFun (after_w3 m c t) _).trans (Eq.trans (congrArg (KV m c t) (funext fun a => by fin_cases a <;> rfl))
    ((KV_apply m c t ⟨(y 0).val, h0⟩ ⟨(y 1).val, h1⟩ (by dsimp only; omega) (by dsimp only; omega)).trans ?_))
  exact congrArg₂ (prod (argX m c) (argG m c) (argW m c)) (Fin.ext (block_at ((idxO t).1.trans ht.symm) (Nat.mul_comm _ _)).symm) (Fin.ext (block_at (idxO t).2 (Nat.mul_comm _ _)).symm)

/-- A block of the heads, read where it lies in the array. -/
theorem heads_at (o : ℕ) (ho : o ≤ 1024) (i : S1024x4x256.Idx) (R : Fin 1024) (h : Fin 4) (d : Fin 256) (h0 : (i 0).val = R.val) (h1 : (i 1).val = h.val) (h2 : (i 2).val = d.val) (hn) :
    prod (argX m c) (argG m c) (argW m c) R ⟨o + (h.val * 256 + d.val), hn⟩ = outHeads m c o ho i :=
  congrArg₂ (prod (argX m c) (argG m c) (argW m c)) (Fin.ext h0.symm) (Fin.ext (by show o + (h.val * 256 + d.val) = o + ((i 1).val * 256 + (i 2).val); rw [h1, h2]))

theorem final_k : (dats (F := Ideal) m 0 c).arrAt 4 cfg0.N = outHeads m c 0 (by decide) := by
  refine (dats (F := Ideal) m 0 c).arrAt_eq_of_covers 4 _ (by decide +kernel) fun t _ y => ?_
  have h0 : (y 0).val < 512 := (y 0).isLt
  have h1 : (y 1).val < 4 := (y 1).isLt
  have h2 : (y 2).val < 256 := (y 2).isLt
  have ht := til_val (lt_N t)
  have hlt := lt_N t
  refine (congrFun (after_w4 m c t) _).trans (Eq.trans (congrArg (KH m c (til t.val)) (funext fun a => by fin_cases a <;> rfl))
    ((KH_apply m c (til t.val) ⟨(y 0).val, h0⟩ ⟨(y 1).val, h1⟩ ⟨(y 2).val, h2⟩ (by dsimp only; omega) (by dsimp only; omega)).trans ?_))
  exact heads_at m c 0 _ _ _ _ _ (block_at ((idxK t).1.trans ht.symm) (Nat.mul_comm _ _)) (block_at_zero (idxK t).2.1) (block_at_zero (idxK t).2.2) _

theorem final_v : (dats (F := Ideal) m 0 c).arrAt 5 cfg0.N = outHeads m c 1024 (by decide) := by
  refine (dats (F := Ideal) m 0 c).arrAt_eq_of_covers 5 _ (by decide +kernel) fun t hf y => ?_
  have h0 : (y 0).val < 512 := (y 0).isLt
  have h1 : (y 1).val < 4 := (y 1).isLt
  have h2 : (y 2).val < 256 := (y 2).isLt
  have ht := til_val (lt_N t)
  have hlt := lt_N t
  refine (congrFun (after_w5 m c t) _).trans (Eq.trans (congrArg (VH m c t) (funext fun a => by fin_cases a <;> rfl))
    ((VH_apply m c t ((flush0_5 t).mp hf) ⟨(y 0).val, h0⟩ ⟨(y 1).val, h1⟩ ⟨(y 2).val, h2⟩ (by dsimp only; omega) (by dsimp only; omega)).trans ?_))
  exact heads_at m c 1024 _ _ _ _ _ (block_at ((idxV t).1.trans ht.symm) (Nat.mul_comm _ _)) (block_at_zero (idxV t).2.1) (block_at_zero (idxV t).2.2) _

end Blocks

/-! ## The claims -/

section Run
variable {F : FTy → Type} [FloatOps F] (m : (ℓ : Loc nD τ sig) → Buf (Elt F) ℓ)

theorem outs_at (r) (h : Pipeline.FramePost cfgs (dats m) 0 (V m) r) (c : Dev nD) :
    r.2.mem ((c.tc : Thread nD τ).loc main_v4_0) = (dats m 0 c).arrAt 3 cfg0.N ∧ r.2.mem ((c.tc : Thread nD τ).loc main_v4_1) = (dats m 0 c).arrAt 4 cfg0.N
      ∧ r.2.mem ((c.tc : Thread nD τ).loc main_v4_2) = (dats m 0 c).arrAt 5 cfg0.N :=
  ⟨(h c).1 3, (h c).1 4, (h c).1 5⟩

theorem args_kept (r) (h : Pipeline.FramePost cfgs (dats m) 0 (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run Cert.KvKernelIdeal.defs _ _).mono (fun r h => ⟨fun c => args_kept m r h.1 c, h.2⟩) (run_main m ρ)

end Run

theorem frame_kernelIdeal : Cert.quiescent_KvKernelIdeal := fun m ρ _ => frame_run (F := Ideal) m ρ

/-- The printed kernel's procedures are those of the ideal one: the two texts are the same. -/
theorem defs₀_eq : (KvKernel.defs₀ (F := Bits) : Defs nD τ sig (Elt Bits) Λ₀) = defs₀ (F := Bits) :=
  congrArg Defs.onTc (funext fun l => funext fun a => by
    match l, a with
    | 0, (t, s) => rfl
    | ⟨_ + 1, h⟩, _ => exact absurd h (Nat.not_lt.2 (Nat.le_add_left _ _)))

theorem defs_eq : (KvKernel.defs (F := Bits) : Defs nD τ sig (Elt Bits) _) = defs (F := Bits) :=
  congrArg (Pipeline.defs pcfgs) defs₀_eq

theorem frame_kernel : Cert.quiescent_KvKernel := fun m ρ _ => by
  have h := frame_run (F := Bits) m ρ
  rw [← defs_eq] at h
  exact h

theorem frame_reference : Cert.quiescent_KvReferenceIdeal := fun m ρ _ =>
  (θ_run Cert.KvReferenceIdeal.defs _ _).mono (fun r h => ⟨fun c => (h c).2.2.2, sem_eq_zero_of_no_sems (by decide) r.2⟩)
    (Cert.KvReferenceIdeal.Value.run (F := Ideal) m ρ)

theorem algebraic : Cert.algebraic_KvKernelIdeal_KvReferenceIdeal := fun m g m' g' _ hm =>
  ⟨fun c => outKv m c, fun c => outHeads m c 0 (by decide), fun c => outHeads m c 1024 (by decide),
    (θ_run Cert.KvKernelIdeal.defs _ _).mono (fun r h c =>
      ⟨(outs_at m r h.1 c).1.trans (final_kv m c), (outs_at m r h.1 c).2.1.trans (final_k m c), (outs_at m r h.1 c).2.2.trans (final_v m c), args_kept m r h.1 c⟩) (run_main (F := Ideal) m g),
    (θ_run Cert.KvReferenceIdeal.defs _ _).mono (fun r h c => by
      refine ⟨(h c).1.trans (funext fun y => ?_), (h c).2.1.trans (funext fun y => ?_), (h c).2.2.1.trans (funext fun y => ?_), (h c).2.2.2⟩ <;>
        rw [(hm c).1, (hm c).2.1, (hm c).2.2]
      · rw [← ix2_eta y]
        have h0 : (y 0).val < 1024 := (y 0).isLt
        exact (ref0_apply (refKv _ _ _) (y 0) (y 1) (by omega) (by omega)).trans (refKv_apply _ _ _ (y 0) (y 1) _ _)
      all_goals
        have h0 : (y 0).val < 1024 := (y 0).isLt
        refine (congrArg _ (ix3_eta y).symm).trans ((refHalf_apply (refKv _ _ _) _ _ (y 0) (y 1) (y 2) (by omega) (by omega) (col_lt _ (by decide) y)).trans
          (refKv_apply _ _ _ (y 0) _ _ _)))
      (Cert.KvReferenceIdeal.Value.run (F := Ideal) m' g')⟩

end Cert.KvKernelIdeal.Hand

end
-- ==== Proof.MemFinal.lean ====
/-
  Hand-written. Cross attention into the memory: its value at the ideal values, and the claims.
-/
module

public import proofs.«01_k».proof.Proof.Gen.MemKernelIdeal.Value
public import proofs.«01_k».proof.Proof.Gen.MemKernel.Frame
public import proofs.«01_k».proof.Proof.Gen.MemReferenceIdeal.Run
public import proofs.«01_k».proof.Proof.Loads
public import proofs.«01_k».proof.Proof.MergeFinal
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.MemKernelIdeal.Hand

open Cert.MemKernelIdeal Cert.MemKernelIdeal.Gen Cert.Hand
open Idealize.ShloMosaic Idealize.ShloMosaic.TcCoe Idealize.ShloMosaic.Tactic
open Idealize.SL.Sem
open Cert.MergeKernelIdeal.Hand (at2 block_at block_at_zero)

/-- The scale of the scores: the literal both programs print. -/
abbrev scale : EReal := Ideal.ofBits .f32 0x3D800000#32

/-- The greatest score, over the literal the reductions start from. -/
def top (s : Fin 256 → EReal) : EReal := Finset.fold max (Ideal.ofBits .f32 0xFF800000#32) s Finset.univ

/-- The values weighed by the softmax of the scores. -/
def soft (s v : Fin 256 → EReal) : EReal := ∑ j, Ideal.div (Ideal.exp (s j - top s)) (∑ i, Ideal.exp (s i - top s)) * v j

/-- One head's element: the scores of a query's row against every key, and the values' column. -/
def attend (q : Fin 256 → EReal) (k : Fin 256 → Fin 256 → EReal) (v : Fin 256 → EReal) : EReal := soft (fun j => (∑ d, q d * k j d) * scale) v

theorem attend_congr {q q' : Fin 256 → EReal} {k k' : Fin 256 → Fin 256 → EReal} {v v' : Fin 256 → EReal} (hq : ∀ d, q d = q' d) (hk : ∀ j d, k j d = k' j d) (hv : ∀ j, v j = v' j) :
    attend q k v = attend q' k' v' := by
  rw [funext hq, (funext fun j => funext (hk j) : k = k'), funext hv]

/-- The literal is below the greatest score: taking the greater of the two changes nothing. -/
theorem max_top (s : Fin 256 → EReal) : max (Ideal.ofBits .f32 0xFF800000#32) (top s) = top s :=
  max_eq_right ((Finset.le_fold_max _).2 (Or.inl le_rfl))

/-! ## The kernel's body -/

theorem score_apply (q : Vec Ideal S1024x256 .f32) (k : Vec Ideal S1x256x256 .f32) (r : Fin 1024) (j : Fin 256) :
    k0_pay4 (F := Ideal) q k (ix2 r j) = (∑ d : Fin 256, (q (ix2 r d) : EReal) * k (ix3 0 j d)) * scale := by
  pointwise [k0_pay4]

theorem soft_apply (s : FVec Ideal S1024x256 .f32) (v : Vec Ideal S1x256x256 .f32) (r : Fin 1024) (n : Fin 256) :
    k0_pay11 (F := Ideal) s v (ix2 r n) = soft (fun j => s (ix2 r j)) (fun j => v (ix3 0 j n)) := by
  unfold soft top
  pointwise [k0_pay11]

theorem head_apply (q : Vec Ideal S1024x256 .f32) (k v : Vec Ideal S1x256x256 .f32) (r : Fin 1024) (n : Fin 256) :
    k0_pay11 (F := Ideal) (k0_pay4 q k) v (ix2 r n) = attend (fun d => q (ix2 r d)) (fun j d => k (ix3 0 j d)) (fun j => v (ix3 0 j n)) := by
  rw [soft_apply]
  exact congrArg (fun s => soft s _) (funext fun j => score_apply q k r j)

/-- Element `n` of row `r` of a block: the head of column `n`. -/
def blockAttend (x0 : Vec Ideal S1024x1024 .f32) (x1 x2 : Vec Ideal S1x256x1024 .f32) (r n : Fin 1024) : EReal :=
  attend (fun d => x0 (ix2 r ⟨256 * (n.val / 256) + d.val, by omega⟩)) (fun j d => x1 (ix3 0 j ⟨256 * (n.val / 256) + d.val, by omega⟩)) (fun j => x2 (ix3 0 j n))

/-- The head from column `o` on: every piece of the block is this one. -/
theorem piece_apply (x0 : Vec Ideal S1024x1024 .f32) (x1 x2 : Vec Ideal S1x256x1024 .f32) (o : ℕ) (ho : o % 256 = 0)
    (hX : ∀ a, (![0, o] : Fin 2 → ℕ) a + S1024x256.size a ≤ S1024x1024.size a) (hY : ∀ a, (![0, 0, o] : Fin 3 → ℕ) a + S1x256x256.size a ≤ S1x256x1024.size a) (i : S1024x256.Idx) :
    k0_pay11 (F := Ideal) (k0_pay4 (View.ld x0 (Rect.unit (s := S1024x1024) ![0, o] S1024x256.size hX)) (View.ld x1 (Rect.unit (s := S1x256x1024) ![0, 0, o] S1x256x256.size hY)))
      (View.ld x2 (Rect.unit (s := S1x256x1024) ![0, 0, o] S1x256x256.size hY)) i
      = blockAttend x0 x1 x2 ((Rect.unit (s := S1024x1024) ![0, o] S1024x256.size hX).emb i 0) ((Rect.unit (s := S1024x1024) ![0, o] S1024x256.size hX).emb i 1) := by
  have h1 : (i 1).val < 256 := (i 1).isLt
  have hc : ∀ d : ℕ, o + 1 * d = 256 * ((o + 1 * (i 1).val) / 256) + d := fun d => by omega
  refine (congrArg _ (ix2_eta i).symm).trans ((head_apply _ _ _ (i 0) (i 1)).trans ?_)
  refine attend_congr (fun d => ?_) (fun j d => ?_) (fun j => ?_)
  · exact congrArg x0 (funext fun a => Fin.ext (by
      fin_cases a
      · rfl
      · exact hc d.val))
  · exact congrArg x1 (funext fun a => Fin.ext (by
      fin_cases a
      · rfl
      · show 0 + 1 * j.val = j.val; omega
      · exact hc d.val))
  · exact congrArg x2 (funext fun a => Fin.ext (by
      fin_cases a
      · rfl
      · show 0 + 1 * j.val = j.val; omega
      · rfl))

theorem out_apply (x0 : Vec Ideal S1024x1024 .f32) (x1 x2 : Vec Ideal S1x256x1024 .f32) (r n : Fin 1024) : out0_3 (F := Ideal) x0 x1 x2 (ix2 r n) = blockAttend x0 x1 x2 r n := by
  refine View.canon_apply_of_pieces (Val := Elt Ideal) (S := S1024x1024) (e := .bf16) (fun y => blockAttend x0 x1 x2 (y 0) (y 1)) _ ?_ (ix2 r n) (cover0_3 _ _ _ _ _)
  simp only [List.forall_mem_cons, List.not_mem_nil, false_implies, implies_true, and_true]
  exact ⟨piece_apply x0 x1 x2 768 rfl _ _, piece_apply x0 x1 x2 512 rfl _ _, piece_apply x0 x1 x2 256 rfl _ _, piece_apply x0 x1 x2 0 rfl _ _⟩

/-- Element `n` of row `R` of the attention: the query's row, and the keys and values of the row's batch. -/
def attended (p : S8192x13312.Idx → EReal) (kv : S1024x2048.Idx → EReal) (R : Fin 8192) (n : Fin 1024) : EReal :=
  attend (fun d => p (ix2 R ⟨12288 + (256 * (n.val / 256) + d.val), by omega⟩))
    (fun j d => kv (ix2 ⟨256 * (R.val / 2048) + j.val, by omega⟩ ⟨256 * (n.val / 256) + d.val, by omega⟩))
    (fun j => kv (ix2 ⟨256 * (R.val / 2048) + j.val, by omega⟩ ⟨1024 + n.val, by omega⟩))

/-! ## The reference -/

section Reference
open Cert.MemReferenceIdeal (S4x2048x4x256 S4x256x4x256 S4x4x2048x256 S4x4x256x2048 S4x4x2048 S4x4x2048x1 S8192x1024 S4x256x1024 dot_S4x2048x4x256_S4x256x4x256_S4x4x2048x256_3_3_1_1_02_02
  dot_S4x256x4x256_S4x4x2048x256_S4x4x256x2048_1_3_3_2_02_01)
open Cert.MemReferenceIdeal.Gen

theorem refScore_apply (X : FVec Ideal S4x2048x4x256 .f32) (K : FVec Ideal S4x256x4x256 .f32) (b h : Fin 4) (t : Fin 2048) (j : Fin 256) :
    Host.dotGeneral (F := Ideal) (φ₁ := .f32) (φ₂ := .f32) dot_S4x2048x4x256_S4x256x4x256_S4x4x2048x256_3_3_1_1_02_02 none X K (ix4 b h t j)
      = ∑ d : Fin 256, (X (ix4 b t h d) : EReal) * K (ix4 b j h d) := by
  pointwise

theorem refOut_apply (X : FVec Ideal S4x4x2048x256 .f32) (K : FVec Ideal S4x256x4x256 .f32) (b h : Fin 4) (t : Fin 2048) (n : Fin 256) :
    Host.dotGeneral (F := Ideal) (φ₁ := .f32) (φ₂ := .f32) dot_S4x256x4x256_S4x4x2048x256_S4x4x256x2048_1_3_3_2_02_01 none K X (ix4 b h n t)
      = ∑ j : Fin 256, (K (ix4 b j h n) : EReal) * X (ix4 b h t j) := by
  pointwise

abbrev refQ (p : FVec Ideal MemReferenceIdeal.S8192x13312 .f32) : FVec Ideal S4x2048x4x256 .f32 :=
  shapeCast S4x2048x4x256 (extractStridedSlice S8192x1024 ![0, 12288] p MemReferenceIdeal.Gen.slices_S8192x13312_S8192x1024_0_12288) MemReferenceIdeal.Gen.shapeCasts_S8192x1024_S4x2048x4x256

abbrev refHeads (o : ℕ) (hs : MemReferenceIdeal.S4x256x2048.Slices ![0, 0, o] S4x256x1024) (kv : FVec Ideal MemReferenceIdeal.S1024x2048 .f32) : FVec Ideal S4x256x4x256 .f32 :=
  shapeCast S4x256x4x256 (extractStridedSlice S4x256x1024 ![0, 0, o] (shapeCast MemReferenceIdeal.S4x256x2048 kv MemReferenceIdeal.Gen.shapeCasts_S1024x2048_S4x256x2048) hs)
    MemReferenceIdeal.Gen.shapeCasts_S4x256x1024_S4x256x4x256

theorem refQ_apply (p : FVec Ideal MemReferenceIdeal.S8192x13312 .f32) (b h : Fin 4) (t : Fin 2048) (d : Fin 256) :
    refQ p (ix4 b t h d) = p (ix2 ⟨2048 * b.val + t.val, by omega⟩ ⟨12288 + (256 * h.val + d.val), by omega⟩) := by
  refine (shapeCast_apply _ _ _ (ix2 ⟨2048 * b.val + t.val, by omega⟩ ⟨256 * h.val + d.val, by omega⟩) (by
    refine (Shape.rowMajor_val_two _).trans (Eq.trans ?_ (Shape.rowMajor_val_four _).symm)
    show (2048 * b.val + t.val) * 1024 + (256 * h.val + d.val) = ((b.val * 2048 + t.val) * 4 + h.val) * 256 + d.val; omega)).trans ?_
  exact congrArg p (funext fun a => Fin.ext (by
    fin_cases a
    · show 0 + (2048 * b.val + t.val) = 2048 * b.val + t.val; omega
    · rfl))

theorem refHeads_apply (o : ℕ) (hs) (ho : o + 1024 ≤ 2048) (kv : FVec Ideal MemReferenceIdeal.S1024x2048 .f32) (b h : Fin 4) (j d : Fin 256) :
    refHeads o hs kv (ix4 b j h d) = kv (ix2 ⟨256 * b.val + j.val, by omega⟩ ⟨o + (256 * h.val + d.val), by omega⟩) := by
  refine (shapeCast_apply _ _ _ (ix3 b j ⟨256 * h.val + d.val, by omega⟩) (by
    refine (Shape.rowMajor_val_three _).trans (Eq.trans ?_ (Shape.rowMajor_val_four _).symm)
    show (b.val * 256 + j.val) * 1024 + (256 * h.val + d.val) = ((b.val * 256 + j.val) * 4 + h.val) * 256 + d.val; omega)).trans ?_
  refine (congrArg (shapeCast MemReferenceIdeal.S4x256x2048 kv MemReferenceIdeal.Gen.shapeCasts_S1024x2048_S4x256x2048)
    (funext fun a => Fin.ext (by
      fin_cases a
      · show 0 + b.val = b.val; omega
      · show 0 + j.val = j.val; omega
      · rfl) : _ = ix3 b j ⟨o + (256 * h.val + d.val), by omega⟩)).trans ?_
  exact shapeCast_apply _ _ _ (ix2 ⟨256 * b.val + j.val, by omega⟩ ⟨o + (256 * h.val + d.val), by omega⟩) (by
    refine (Shape.rowMajor_val_two _).trans (Eq.trans ?_ (Shape.rowMajor_val_three _).symm)
    show (256 * b.val + j.val) * 2048 + (o + (256 * h.val + d.val)) = (b.val * 256 + j.val) * 2048 + (o + (256 * h.val + d.val)); omega)

/-- The reference's scores under their scale. -/
abbrev refScores (p : FVec Ideal MemReferenceIdeal.S8192x13312 .f32) (kv : FVec Ideal MemReferenceIdeal.S1024x2048 .f32) : FVec Ideal S4x4x2048x256 .f32 :=
  mulf (Host.dotGeneral (F := Ideal) (φ₁ := .f32) (φ₂ := .f32) dot_S4x2048x4x256_S4x256x4x256_S4x4x2048x256_3_3_1_1_02_02 none (refQ p)
    (refHeads 0 MemReferenceIdeal.Gen.slices_S4x256x2048_S4x256x1024_0_0_0 kv))
    (broadcastInDim S4x4x2048x256 ![] MemReferenceIdeal.Gen.bcast_S_S4x4x2048x256 (constant (F := Ideal) MemReferenceIdeal.S_ .f32 0x3D800000#32))

/-- The greatest score of each row, as the reference takes it. -/
abbrev refTop (s : FVec Ideal S4x4x2048x256 .f32) : FVec Ideal S4x4x2048 .f32 :=
  maximumf (broadcastInDim S4x4x2048 ![] MemReferenceIdeal.Gen.bcast_S_S4x4x2048 (constant (F := Ideal) MemReferenceIdeal.S_ .f32 0xFF800000#32))
    (Host.reduce FloatOps.maximumf s (constant (F := Ideal) MemReferenceIdeal.S_ .f32 0xFF800000#32) MemReferenceIdeal.Gen.reducesTo_S4x4x2048x256_S4x4x2048_d3 MemReferenceIdeal.Gen.h_S_)

theorem refMax_apply (s : FVec Ideal S4x4x2048x256 .f32) (b h : Fin 4) (t : Fin 2048) :
    (Host.reduce FloatOps.maximumf s (constant (F := Ideal) MemReferenceIdeal.S_ .f32 0xFF800000#32) MemReferenceIdeal.Gen.reducesTo_S4x4x2048x256_S4x4x2048_d3 MemReferenceIdeal.Gen.h_S_
      : FVec Ideal S4x4x2048 .f32) (ix3 b h t) = Finset.fold max (Ideal.ofBits .f32 0xFF800000#32) (fun i => s (ix4 b h t i)) Finset.univ := by
  pointwise

theorem maxWith_apply (x : FVec Ideal S4x4x2048 .f32) (b h : Fin 4) (t : Fin 2048) :
    maximumf (broadcastInDim S4x4x2048 ![] MemReferenceIdeal.Gen.bcast_S_S4x4x2048 (constant (F := Ideal) MemReferenceIdeal.S_ .f32 0xFF800000#32)) x (ix3 b h t)
      = max (Ideal.ofBits .f32 0xFF800000#32) (x (ix3 b h t)) := by
  pointwise

theorem refTop_apply (s : FVec Ideal S4x4x2048x256 .f32) (b h : Fin 4) (t : Fin 2048) : refTop s (ix3 b h t) = top (fun i => s (ix4 b h t i)) := by
  refine (maxWith_apply _ b h t).trans ?_
  rw [refMax_apply]
  exact max_top (fun i => s (ix4 b h t i))

/-- A row's number at every place of the row. -/
abbrev refSpread (x : FVec Ideal S4x4x2048 .f32) : FVec Ideal S4x4x2048x256 .f32 :=
  broadcastInDim S4x4x2048x256 ![0, 1, 2, 3] MemReferenceIdeal.Gen.bcast_S4x4x2048x1_S4x4x2048x256_0_1_2_3
    (broadcastInDim S4x4x2048x1 ![0, 1, 2] MemReferenceIdeal.Gen.bcast_S4x4x2048_S4x4x2048x1_0_1_2 x)

theorem refSpread_apply (x : FVec Ideal S4x4x2048 .f32) (b h : Fin 4) (t : Fin 2048) (j : Fin 256) : refSpread x (ix4 b h t j) = x (ix3 b h t) := by
  pointwise

theorem refSum_apply (e : FVec Ideal S4x4x2048x256 .f32) (b h : Fin 4) (t : Fin 2048) :
    Host.reduceAdd e (constant (F := Ideal) MemReferenceIdeal.S_ .f32 0x00000000#32) MemReferenceIdeal.Gen.reducesTo_S4x4x2048x256_S4x4x2048_d3 MemReferenceIdeal.Gen.h_S_ (ix3 b h t)
      = ∑ j, (e (ix4 b h t j) : EReal) := by
  pointwise

/-- The reference's exponentials, each under its row's greatest score. -/
abbrev refExp (s : FVec Ideal S4x4x2048x256 .f32) : FVec Ideal S4x4x2048x256 .f32 := Host.exp (subf s (refSpread (refTop s)))

theorem refExp_apply (s : FVec Ideal S4x4x2048x256 .f32) (b h : Fin 4) (t : Fin 2048) (j : Fin 256) :
    refExp s (ix4 b h t j) = Ideal.exp (s (ix4 b h t j) - top (fun i => s (ix4 b h t i))) :=
  congrArg (fun x : EReal => Ideal.exp (s (ix4 b h t j) - x)) ((refSpread_apply (refTop s) b h t j).trans (refTop_apply s b h t))

/-- The reference's softmax, from the exponentials. -/
abbrev refSoft (e : FVec Ideal S4x4x2048x256 .f32) : FVec Ideal S4x4x2048x256 .f32 :=
  Host.divf e (refSpread (Host.reduceAdd e (constant (F := Ideal) MemReferenceIdeal.S_ .f32 0x00000000#32) MemReferenceIdeal.Gen.reducesTo_S4x4x2048x256_S4x4x2048_d3 MemReferenceIdeal.Gen.h_S_))

theorem refSoft_apply (s : FVec Ideal S4x4x2048x256 .f32) (b h : Fin 4) (t : Fin 2048) (j : Fin 256) :
    refSoft (refExp s) (ix4 b h t j)
      = Ideal.div (Ideal.exp (s (ix4 b h t j) - top (fun i => s (ix4 b h t i)))) (∑ i, Ideal.exp (s (ix4 b h t i) - top (fun i => s (ix4 b h t i)))) :=
  congrArg₂ Ideal.div (refExp_apply s b h t j) ((refSpread_apply _ b h t j).trans ((refSum_apply (refExp s) b h t).trans (Finset.sum_congr rfl fun i _ => refExp_apply s b h t i)))

theorem refScores_apply (p : FVec Ideal MemReferenceIdeal.S8192x13312 .f32) (kv : FVec Ideal MemReferenceIdeal.S1024x2048 .f32) (b h : Fin 4) (t : Fin 2048) (j : Fin 256) :
    refScores p kv (ix4 b h t j) = (∑ d : Fin 256, (p (ix2 ⟨2048 * b.val + t.val, by omega⟩ ⟨12288 + (256 * h.val + d.val), by omega⟩) : EReal)
      * kv (ix2 ⟨256 * b.val + j.val, by omega⟩ ⟨0 + (256 * h.val + d.val), by omega⟩)) * scale :=
  congrArg (· * scale) ((refScore_apply _ _ b h t j).trans (Finset.sum_congr rfl fun d _ => congrArg₂ (· * ·) (refQ_apply p b h t d) (refHeads_apply 0 _ (by omega) kv b h j d)))

/-- The reference's result, the heads put back beside each other. -/
abbrev refOut (p : FVec Ideal MemReferenceIdeal.S8192x13312 .f32) (kv : FVec Ideal MemReferenceIdeal.S1024x2048 .f32) : FVec Ideal S8192x1024 .bf16 :=
  truncf .bf16 (shapeCast S8192x1024 (transpose S4x2048x4x256 [0, 3, 1, 2] (Host.dotGeneral (F := Ideal) (φ₁ := .f32) (φ₂ := .f32) dot_S4x256x4x256_S4x4x2048x256_S4x4x256x2048_1_3_3_2_02_01 none
    (refHeads 1024 MemReferenceIdeal.Gen.slices_S4x256x2048_S4x256x1024_0_0_1024 kv) (refSoft (refExp (refScores p kv)))) MemReferenceIdeal.Gen.transposes_S4x4x256x2048_S4x2048x4x256_0_3_1_2)
    MemReferenceIdeal.Gen.shapeCasts_S4x2048x4x256_S8192x1024) MemReferenceIdeal.Gen.bitsLt_bf16_f32

theorem unheads_apply (T : FVec Ideal S4x2048x4x256 .f32) (R : Fin 8192) (n : Fin 1024) (b : Fin 4) (t : Fin 2048) (h : Fin 4) (e : Fin 256) (hb : b.val = R.val / 2048) (ht : t.val = R.val % 2048)
    (hh : h.val = n.val / 256) (he : e.val = n.val % 256) : shapeCast S8192x1024 T MemReferenceIdeal.Gen.shapeCasts_S4x2048x4x256_S8192x1024 (ix2 R n) = T (ix4 b t h e) :=
  shapeCast_apply T MemReferenceIdeal.Gen.shapeCasts_S4x2048x4x256_S8192x1024 (ix2 R n) (ix4 b t h e) (by
    refine (Shape.rowMajor_val_four _).trans (Eq.trans ?_ (Shape.rowMajor_val_two _).symm)
    show ((b.val * 2048 + t.val) * 4 + h.val) * 256 + e.val = R.val * 1024 + n.val; omega)

theorem turned_apply (T : FVec Ideal S4x4x256x2048 .f32) (b h : Fin 4) (t : Fin 2048) (e : Fin 256) :
    transpose S4x2048x4x256 [0, 3, 1, 2] T MemReferenceIdeal.Gen.transposes_S4x4x256x2048_S4x2048x4x256_0_3_1_2 (ix4 b t h e) = T (ix4 b h e t) := by
  pointwise

theorem ref_apply (p : FVec Ideal MemReferenceIdeal.S8192x13312 .f32) (kv : FVec Ideal MemReferenceIdeal.S1024x2048 .f32) (R : Fin 8192) (n : Fin 1024) :
    refOut p kv (ix2 R n) = attended p kv R n := by
  obtain ⟨b, hb⟩ : ∃ b : Fin 4, b.val = R.val / 2048 := ⟨⟨R.val / 2048, by omega⟩, rfl⟩
  obtain ⟨t, ht⟩ : ∃ t : Fin 2048, t.val = R.val % 2048 := ⟨⟨R.val % 2048, by omega⟩, rfl⟩
  obtain ⟨h, hh⟩ : ∃ h : Fin 4, h.val = n.val / 256 := ⟨⟨n.val / 256, by omega⟩, rfl⟩
  obtain ⟨e, he⟩ : ∃ e : Fin 256, e.val = n.val % 256 := ⟨⟨n.val % 256, by omega⟩, rfl⟩
  refine (unheads_apply _ R n b t h e hb ht hh he).trans ((turned_apply _ b h t e).trans ((refOut_apply (refSoft (refExp (refScores p kv))) _ b h t e).trans ?_))
  have hs : (fun i => refScores p kv (ix4 b h t i)) = fun j => (∑ d : Fin 256, p (ix2 R ⟨12288 + (256 * (n.val / 256) + d.val), by omega⟩)
      * kv (ix2 ⟨256 * (R.val / 2048) + j.val, by omega⟩ ⟨256 * (n.val / 256) + d.val, by omega⟩)) * scale := funext fun j => by
    refine (refScores_apply p kv b h t j).trans (congrArg (· * scale) (Finset.sum_congr rfl fun d _ => congrArg₂ (· * ·) (congrArg p ?_) (congrArg kv ?_)))
    · exact congrArg₂ ix2 (Fin.ext (by show 2048 * b.val + t.val = R.val; omega)) (Fin.ext (by show 12288 + (256 * h.val + d.val) = 12288 + (256 * (n.val / 256) + d.val); omega))
    · exact congrArg₂ ix2 (Fin.ext (by show 256 * b.val + j.val = 256 * (R.val / 2048) + j.val; omega)) (Fin.ext (by show 0 + (256 * h.val + d.val) = 256 * (n.val / 256) + d.val; omega))
  unfold attended attend soft
  rw [← hs]
  refine Finset.sum_congr rfl fun j _ => (mul_comm _ _).trans (congrArg₂ (· * ·) (refSoft_apply _ b h t j) ((refHeads_apply 1024 _ (by omega) kv b h j e).trans (congrArg kv ?_)))
  exact congrArg₂ ix2 (Fin.ext (by show 256 * b.val + j.val = 256 * (R.val / 2048) + j.val; omega)) (Fin.ext (by show 1024 + (256 * h.val + e.val) = 1024 + n.val; omega))

end Reference

/-! ## The kernel's blocks -/

section Blocks
variable (m : (ℓ : Loc nD τ sig) → Buf (Elt Ideal) ℓ) (c : Dev nD)

abbrev argP : S8192x13312.Idx → EReal := m ((c.tc : Thread nD τ).loc main_arg0)
abbrev argKv : S1024x2048.Idx → EReal := m ((c.tc : Thread nD τ).loc main_arg1)

theorem reshape_apply (kv : FVec Ideal S1024x2048 .f32) (b : Fin 4) (j : Fin 256) (n : Fin 2048) :
    shapeCast S4x256x2048 kv shapeCasts_S1024x2048_S4x256x2048 (ix3 b j n) = kv (ix2 ⟨256 * b.val + j.val, by omega⟩ n) :=
  shapeCast_apply _ _ _ (ix2 ⟨256 * b.val + j.val, by omega⟩ n) (by
    refine (Shape.rowMajor_val_two _).trans (Eq.trans ?_ (Shape.rowMajor_val_three _).symm)
    show (256 * b.val + j.val) * 2048 + n.val = (b.val * 256 + j.val) * 2048 + n.val; omega)
theorem v0_apply (b : Fin 4) (j : Fin 256) (n : Fin 2048) : V (F := Ideal) m c main_v0 (ix3 b j n) = (argKv m c (ix2 ⟨256 * b.val + j.val, by omega⟩ n) : EReal) := by
  entry_read; exact reshape_apply _ b j n

theorem idx : ∀ t : Fin cfg0.N, ((cfg0.win 0).index t 0 = t.val ∧ (cfg0.win 0).index t 1 = 12) ∧ ((cfg0.win 1).index t 0 = t.val / 2 ∧ (cfg0.win 1).index t 1 = 0 ∧ (cfg0.win 1).index t 2 = 0)
    ∧ ((cfg0.win 2).index t 0 = t.val / 2 ∧ (cfg0.win 2).index t 1 = 0 ∧ (cfg0.win 2).index t 2 = 1) ∧ ((cfg0.win 3).index t 0 = t.val ∧ (cfg0.win 3).index t 1 = 0) := by decide +kernel
theorem lt_N (t : Fin cfg0.N) : t.val < 8 := Nat.lt_of_lt_of_eq t.isLt N_0

theorem at3 {A B C : ℕ} (X : (⟨3, ![A, B, C]⟩ : Shape).Idx → EReal) (i : (⟨3, ![A, B, C]⟩ : Shape).Idx) (a : Fin A) (b : Fin B) (d : Fin C) (h0 : (i 0).val = a.val) (h1 : (i 1).val = b.val)
    (h2 : (i 2).val = d.val) : X i = X (ix3 a b d) := by
  rw [← ix3_eta i]
  exact congrArg X (by rw [show i 0 = a from Fin.ext h0, show i 1 = b from Fin.ext h1, show i 2 = d from Fin.ext h2])

theorem iblk0_apply (t : Fin cfg0.N) (r k : Fin 1024) (h) : iblk (F := Ideal) m c 0 t (ix2 r k) = (argP m c (ix2 ⟨1024 * t.val + r.val, h⟩ ⟨12288 + k.val, by omega⟩) : EReal) :=
  (congrFun (V_main_arg0 m c) _).trans (at2 (argP m c) _ _ _ (block_at (idx t).1.1 (Nat.mul_comm _ _)) (block_at (idx t).1.2 rfl))
theorem iblk1_apply (t : Fin cfg0.N) (j : Fin 256) (k : Fin 1024) (h) : iblk (F := Ideal) m c 1 t (ix3 0 j k) = (argKv m c (ix2 ⟨256 * (t.val / 2) + j.val, h⟩ ⟨k.val, by omega⟩) : EReal) :=
  (at3 (V (F := Ideal) m c main_v0) _ ⟨t.val / 2, by have := lt_N t; omega⟩ j ⟨k.val, by omega⟩ (block_at (idx t).2.1.1 (Nat.mul_one _)) (block_at_zero (idx t).2.1.2.1) (block_at_zero (idx t).2.1.2.2)).trans
    (v0_apply m c _ j _)
theorem iblk2_apply (t : Fin cfg0.N) (j : Fin 256) (k : Fin 1024) (h) : iblk (F := Ideal) m c 2 t (ix3 0 j k) = (argKv m c (ix2 ⟨256 * (t.val / 2) + j.val, h⟩ ⟨1024 + k.val, by omega⟩) : EReal) :=
  (at3 (V (F := Ideal) m c main_v0) _ ⟨t.val / 2, by have := lt_N t; omega⟩ j ⟨1024 + k.val, by omega⟩ (block_at (idx t).2.2.1.1 (Nat.mul_one _)) (block_at_zero (idx t).2.2.1.2.1)
    (block_at (idx t).2.2.1.2.2 rfl)).trans (v0_apply m c _ j _)

theorem block_apply (t : Fin cfg0.N) (r n : Fin 1024) (h) :
    out0_3 (F := Ideal) (iblk m c 0 t) (iblk m c 1 t) (iblk m c 2 t) (ix2 r n) = attended (argP m c) (argKv m c) ⟨1024 * t.val + r.val, h⟩ n := by
  have hb : (1024 * t.val + r.val) / 2048 = t.val / 2 := by omega
  have ht := lt_N t
  refine (out_apply _ _ _ r n).trans (attend_congr (fun d => iblk0_apply m c t r _ h) (fun j d => (iblk1_apply m c t j _ (by omega)).trans ?_) (fun j => (iblk2_apply m c t j n (by omega)).trans ?_)) <;>
    exact congrArg (argKv m c) (congrArg₂ ix2 (Fin.ext (by show 256 * (t.val / 2) + j.val = 256 * ((1024 * t.val + r.val) / 2048) + j.val; rw [hb])) rfl)

abbrev outM : S8192x1024.Idx → EReal := fun y => attended (argP m c) (argKv m c) (y 0) (y 1)

theorem final_out : (dats (F := Ideal) m 0 c).arrAt 3 cfg0.N = outM m c := by
  refine (dats (F := Ideal) m 0 c).arrAt_eq_of_covers 3 _ (by decide +kernel) fun t hf y => ?_
  have h0 : (y 0).val < 1024 := (y 0).isLt
  have h1 : (y 1).val < 1024 := (y 1).isLt
  have ht := lt_N t
  refine (congrFun (after0_3 m c t) _).trans (Eq.trans (congrArg (out0_3 (iblk m c 0 t) (iblk m c 1 t) (iblk m c 2 t)) (funext fun a => by fin_cases a <;> rfl))
    ((block_apply m c t ⟨(y 0).val, h0⟩ ⟨(y 1).val, h1⟩ (by dsimp only; omega)).trans ?_))
  exact congrArg₂ (attended (argP m c) (argKv m c)) (Fin.ext (block_at (idx t).2.2.2.1 (Nat.mul_comm _ _)).symm) (Fin.ext (block_at_zero (idx t).2.2.2.2).symm)

end Blocks

/-! ## The claims -/

theorem frame_kernel : Cert.quiescent_MemKernel := fun m ρ _ => Cert.MemKernel.Gen.frame m ρ
theorem frame_kernelIdeal : Cert.quiescent_MemKernelIdeal := fun m ρ _ => Cert.MemKernelIdeal.Gen.frame m ρ
theorem frame_reference : Cert.quiescent_MemReferenceIdeal := fun m ρ _ =>
  (θ_run Cert.MemReferenceIdeal.defs _ _).mono (fun r h => ⟨fun c => (h c).2, sem_eq_zero_of_no_sems (by decide) r.2⟩)
    (Cert.MemReferenceIdeal.Value.run (F := Ideal) m ρ)

theorem algebraic : Cert.algebraic_MemKernelIdeal_MemReferenceIdeal := fun m g m' g' _ hm =>
  ⟨fun c => outM m c,
    (θ_run Cert.MemKernelIdeal.defs _ _).mono (fun r h c => ⟨(h c).1.trans (final_out m c), (h c).2⟩) (Cert.MemKernelIdeal.Value.run_blocks (F := Ideal) m g),
    (θ_run Cert.MemReferenceIdeal.defs _ _).mono (fun r h c => by
      refine ⟨(h c).1.trans (funext fun y => ?_), (h c).2⟩
      rw [← ix2_eta y]
      refine (ref_apply _ _ (y 0) (y 1)).trans ?_
      rw [(hm c).1, (hm c).2]
      rfl)
      (Cert.MemReferenceIdeal.Value.run (F := Ideal) m' g')⟩

end Cert.MemKernelIdeal.Hand

end
-- ==== Proof.RnnScan.lean ====
/-
  Hand-written. The RG-LRU recurrence over the ideal values: what both programs compute of one
  sequence, and the facts about exponentials that make the two spellings of it one value.
-/
module

public import Idealize.ShloMosaic.Lib.Pointwise
public import Idealize.ShloMosaic.Lib.IdealHost

@[expose] public section

noncomputable section

namespace Cert.Hand.Rnn

open Idealize.ShloMosaic

/-- The weights of the branch, read at their indices. -/
structure Weights where
  conv : Fin 4 → Fin 1024 → EReal
  bias : Fin 1024 → EReal
  input : Fin 8 → Fin 128 → Fin 128 → EReal
  inputBias : Fin 1024 → EReal
  decay : Fin 8 → Fin 128 → Fin 128 → EReal
  decayBias : Fin 1024 → EReal
  lam : Fin 1024 → EReal

/-- The short convolution at step `t`: four entries of the window that begins three steps earlier. -/
def mixed (W : Weights) (X : ℕ → Fin 1024 → EReal) (t : ℕ) (c : Fin 1024) : EReal :=
  X (t + 3) c * W.conv 3 c + X (t + 2) c * W.conv 2 c + X (t + 1) c * W.conv 1 c + X t c * W.conv 0 c + W.bias c

/-- One block's product: the block of column `c` against that block's matrix. -/
def blockDot (w : Fin 8 → Fin 128 → Fin 128 → EReal) (x : Fin 1024 → EReal) (c : Fin 1024) : EReal :=
  ∑ k : Fin 128, x ⟨128 * (c.val / 128) + k.val, by omega⟩ * w ⟨c.val / 128, by omega⟩ k ⟨c.val % 128, by omega⟩

theorem blockDot_at (w : Fin 8 → Fin 128 → Fin 128 → EReal) (x : Fin 1024 → EReal) (n : Fin 8) (d : Fin 128) (c : Fin 1024) (hc : c.val = 128 * n.val + d.val) :
    blockDot w x c = ∑ k : Fin 128, x ⟨128 * n.val + k.val, by omega⟩ * w n k d := by
  have h1 : c.val / 128 = n.val := by omega
  have h2 : c.val % 128 = d.val := by omega
  refine Finset.sum_congr rfl fun k _ => ?_
  have e1 : (⟨c.val / 128, by omega⟩ : Fin 8) = n := Fin.ext h1
  have e2 : (⟨c.val % 128, by omega⟩ : Fin 128) = d := Fin.ext h2
  have e3 : (⟨128 * (c.val / 128) + k.val, by omega⟩ : Fin 1024) = ⟨128 * n.val + k.val, by omega⟩ := Fin.ext (by show 128 * (c.val / 128) + k.val = 128 * n.val + k.val; omega)
  rw [e1, e2, e3]

/-- The logarithm of the sigmoid, as the kernel writes it. -/
def logSigmoid (l : EReal) : EReal := 0 - (max (0 - l) 0 + Ideal.log1p (Ideal.exp (0 - max (0 - l) (-(0 - l)))))

/-- The literal both programs scale the decay by. -/
abbrev eight : EReal := Ideal.ofBits .f32 0x41000000#32

/-- The logarithm of the decay. -/
def logDecay (W : Weights) (X : ℕ → Fin 1024 → EReal) (t : ℕ) (c : Fin 1024) : EReal :=
  eight * Ideal.logistic (blockDot W.decay (mixed W X t) c + W.decayBias c) * logSigmoid (W.lam c)

/-- The input's weight beside a decay of logarithm `l`. -/
def keep (l : EReal) : EReal := Ideal.sqrt ((0 - Ideal.tanh l) * (Ideal.exp l * Ideal.exp l + 1))

/-- What step `t` adds to the state. -/
def added (W : Weights) (X : ℕ → Fin 1024 → EReal) (t : ℕ) (c : Fin 1024) : EReal :=
  keep (logDecay W X t c) * (Ideal.logistic (blockDot W.input (mixed W X t) c + W.inputBias c) * mixed W X t c)

/-- A linear recurrence. -/
def scan (a u : ℕ → EReal) : ℕ → EReal
  | 0 => u 0
  | t + 1 => a (t + 1) * scan a u t + u (t + 1)

/-- The additions with the initial state, decayed once, counted in the first. -/
def first (a u : ℕ → EReal) (h : EReal) (t : ℕ) : EReal := if t = 0 then a 0 * h + u 0 else u t

/-- The state after step `t`. -/
def state (W : Weights) (X : ℕ → Fin 1024 → EReal) (h : Fin 1024 → EReal) (t : ℕ) (c : Fin 1024) : EReal :=
  scan (fun t => Ideal.exp (logDecay W X t c)) (first (fun t => Ideal.exp (logDecay W X t c)) (fun t => added W X t c) (h c)) t

/-- The output's gate: the approximate gelu. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-! ## Signs and finiteness -/

/-- Nonnegative and finite: multiplication by such a value distributes over every sum. -/
def Tame (a : EReal) : Prop := 0 ≤ a ∧ a ≠ ⊤

theorem Tame.dist {a : EReal} (h : Tame a) (x y : EReal) : a * (x + y) = a * x + a * y := EReal.left_distrib_of_nonneg_of_ne_top h.1 h.2 x y

theorem exp_nonneg (x : EReal) : 0 ≤ Ideal.exp x := by
  induction x with
  | bot => exact le_rfl
  | top => exact le_top
  | coe r => exact EReal.coe_nonneg.2 (Real.exp_pos r).le

theorem exp_tame {x : EReal} (h : x ≤ 0) : Tame (Ideal.exp x) := by
  refine ⟨exp_nonneg x, ?_⟩
  induction x with
  | bot => exact EReal.zero_ne_top
  | top => exact absurd h (by simp)
  | coe r => exact EReal.coe_ne_top _

theorem logistic_nonneg (x : EReal) : 0 ≤ Ideal.logistic x := by
  have h1 : (1 : EReal) ≤ 1 + Ideal.exp (-x) := le_add_of_nonneg_right (exp_nonneg _)
  have h0 : (0 : EReal) ≤ 1 + Ideal.exp (-x) := le_trans zero_le_one h1
  unfold Ideal.logistic Ideal.div
  split_ifs with h
  · rw [h] at h1; exact absurd h1 (by norm_num)
  · exact absurd h1 (by simp_all)
  · rw [one_mul]; exact EReal.inv_nonneg_of_nonneg h0

theorem log1p_nonneg {x : EReal} (h : 0 ≤ x) : 0 ≤ Ideal.log1p x := by
  unfold Ideal.log1p
  induction x with
  | bot => exact absurd h (by simp)
  | top =>
    have e : (1 : EReal) + ⊤ = ⊤ := EReal.add_top_of_ne_bot (by decide)
    rw [e]
    exact le_top
  | coe r =>
    have hr : 0 ≤ r := EReal.coe_nonneg.1 h
    have e : (1 : EReal) + (r : EReal) = ((1 + r : ℝ) : EReal) := by norm_cast
    rw [e]
    show 0 ≤ (if 1 + r ≤ 0 then (⊥ : EReal) else ((Real.log (1 + r) : ℝ) : EReal))
    rw [if_neg (by linarith)]
    exact EReal.coe_nonneg.2 (Real.log_nonneg (by linarith))

theorem logSigmoid_nonpos (l : EReal) : logSigmoid l ≤ 0 := by
  unfold logSigmoid
  rw [zero_sub]
  exact EReal.neg_le_zero.2 (add_nonneg (le_max_right _ _) (log1p_nonneg (exp_nonneg _)))

theorem eight_nonneg : 0 ≤ eight := by
  have : eight = ((8 : ℝ) : EReal) := by simp [eight, Ideal.ofBits, Ideal.ieee, -EReal.coe_mul]; norm_num
  rw [this]; exact EReal.coe_nonneg.2 (by norm_num)

theorem two_eq : Ideal.ofBits .f32 0x40000000#32 = ((2 : ℝ) : EReal) := by
  simp [Ideal.ofBits, Ideal.ieee, -EReal.coe_mul]; norm_num

theorem logDecay_nonpos (W : Weights) (X : ℕ → Fin 1024 → EReal) (t : ℕ) (c : Fin 1024) : logDecay W X t c ≤ 0 :=
  EReal.mul_nonpos_iff.2 (Or.inl ⟨mul_nonneg eight_nonneg (logistic_nonneg _), logSigmoid_nonpos _⟩)

theorem decay_tame (W : Weights) (X : ℕ → Fin 1024 → EReal) (t : ℕ) (c : Fin 1024) : Tame (Ideal.exp (logDecay W X t c)) := exp_tame (logDecay_nonpos W X t c)

/-- One less the square of the decay, in the two spellings. -/
theorem keep_eq (l : EReal) : keep l = Ideal.sqrt (-(Ideal.expm1 (Ideal.ofBits .f32 0x40000000#32 * l))) := by
  rw [two_eq]
  unfold keep Ideal.expm1
  congr 1
  induction l with
  | bot =>
    rw [EReal.coe_mul_bot_of_pos (by norm_num)]
    show (0 - (-1 : EReal)) * (0 * 0 + 1) = -((0 : EReal) - 1)
    simp
  | top =>
    rw [EReal.coe_mul_top_of_pos (by norm_num)]
    show (0 - (1 : EReal)) * (⊤ * ⊤ + 1) = -((⊤ : EReal) - 1)
    have e : (⊤ : EReal) * ⊤ + 1 = ⊤ := by rw [EReal.top_mul_top]; exact EReal.top_add_of_ne_bot (by decide)
    have e' : (⊤ : EReal) - 1 = ⊤ := EReal.top_sub_coe 1
    have e2 : (0 : EReal) - 1 = ((-1 : ℝ) : EReal) := by norm_num
    rw [e, e', e2, EReal.coe_mul_top_of_neg (by norm_num)]
    rfl
  | coe r =>
    have e : ((2 : ℝ) : EReal) * (r : EReal) = ((2 * r : ℝ) : EReal) := (EReal.coe_mul 2 r).symm
    rw [e]
    show (0 - ((Real.tanh r : ℝ) : EReal)) * (((Real.exp r : ℝ) : EReal) * ((Real.exp r : ℝ) : EReal) + 1) = -(((Real.exp (2 * r) : ℝ) : EReal) - 1)
    have h : (0 - Real.tanh r) * (Real.exp r * Real.exp r + 1) = -(Real.exp (2 * r) - 1) := by
      have h2 : Real.exp (2 * r) = Real.exp r * Real.exp r := by rw [two_mul, Real.exp_add]
      have hp := Real.exp_pos r
      rw [h2, Real.tanh_eq_sinh_div_cosh, Real.sinh_eq, Real.cosh_eq, Real.exp_neg]
      field_simp
      ring
    exact_mod_cast congrArg (fun x : ℝ => (x : EReal)) h

/-- The logarithm of the sigmoid, as the reference writes it. -/
theorem logSigmoid_eq (l : EReal) : -(max (-l) 0 + Ideal.log1p (Ideal.exp (-(max (-l) (-(-l)))))) = logSigmoid l := by
  unfold logSigmoid
  simp only [zero_sub]

/-! ## The two ways of scanning eight steps -/

/-- The decays over the last `2 s` steps, from those over the last `s`. -/
def widenDecay (s : ℕ) (a : ℕ → EReal) (t : ℕ) : EReal := if s ≤ t then a t * a (t - s) else a t

/-- The additions over the last `2 s` steps, from those over the last `s`. -/
def widenAdded (s : ℕ) (a u : ℕ → EReal) (t : ℕ) : EReal := if s ≤ t then a t * u (t - s) + u t else u t

/-- The kernel's scan: windows of one, two, four and eight steps, then the initial state under the decay of all steps so far. -/
def doubled (a u : ℕ → EReal) (h : EReal) (t : ℕ) : EReal :=
  widenAdded 4 (widenDecay 2 (widenDecay 1 a)) (widenAdded 2 (widenDecay 1 a) (widenAdded 1 a u)) t + widenDecay 4 (widenDecay 2 (widenDecay 1 a)) t * h

theorem doubled_eq (a u : ℕ → EReal) (h : EReal) (ha : ∀ t, Tame (a t)) (t : ℕ) (ht : t < 8) : doubled a u h t = scan a (first a u h) t := by
  have hd : ∀ (t : ℕ) (x y : EReal), a t * (x + y) = a t * x + a t * y := fun t x y => (ha t).dist x y
  unfold doubled
  rw [add_comm]
  interval_cases t <;> simp [widenDecay, widenAdded, scan, first, hd, mul_assoc, add_assoc]

/-- The reference's scan: neighbours joined, the four joined steps scanned the same way, the rest filled in. -/
def pairDecay (a : ℕ → EReal) (k : ℕ) : EReal := a (2 * k) * a (2 * k + 1)

/-- The additions of two neighbours, joined. -/
def pairAdded (a u : ℕ → EReal) (k : ℕ) : EReal := a (2 * k + 1) * u (2 * k) + u (2 * k + 1)

/-- The even steps filled in: from the first addition, and from the joined steps before. -/
def fillIn (a u p : ℕ → EReal) (t : ℕ) : EReal := if t = 0 then u 0 else if t % 2 = 1 then p (t / 2) else a t * p (t / 2 - 1) + u t

/-- One joining and filling over a scan of the joined steps. -/
theorem fillIn_scan (a u : ℕ → EReal) (ha : ∀ t, Tame (a t)) (p : ℕ → EReal) (hp : ∀ k, p k = scan (pairDecay a) (pairAdded a u) k) (t : ℕ) : fillIn a u p t = scan a u t := by
  have hodd : ∀ k, scan (pairDecay a) (pairAdded a u) k = scan a u (2 * k + 1) := fun k => by
    induction k with
    | zero => rfl
    | succ k ih =>
      show pairDecay a (k + 1) * scan (pairDecay a) (pairAdded a u) k + pairAdded a u (k + 1) = a (2 * (k + 1) + 1) * (a (2 * k + 2) * scan a u (2 * k + 1) + u (2 * k + 2)) + u (2 * (k + 1) + 1)
      rw [ih, (ha _).dist]
      unfold pairDecay pairAdded
      rw [mul_comm (a (2 * (k + 1))), mul_assoc, add_assoc]
      rfl
  unfold fillIn
  split_ifs with h0 h1
  · rw [h0]; rfl
  · rw [hp, hodd]
    exact congrArg (scan a u) (by omega)
  · obtain ⟨k, rfl⟩ : ∃ k, t = 2 * k + 2 := ⟨t / 2 - 1, by omega⟩
    rw [hp, hodd, show (2 * k + 2) / 2 - 1 = k by omega]
    rfl

theorem pairDecay_tame (a : ℕ → EReal) (ha : ∀ t, Tame (a t)) (k : ℕ) : Tame (pairDecay a k) :=
  ⟨mul_nonneg (ha _).1 (ha _).1, EReal.mul_ne_top _ _ |>.2 ⟨Or.inl fun h => absurd (h ▸ (ha _).1) (by simp), Or.inl (ha _).1, Or.inl (ha _).2, Or.inr (ha _).2⟩⟩

end Cert.Hand.Rnn
-- ==== Proof.RnnBody.lean ====
/-
  Hand-written. The RG-LRU branch: the kernel's body at an index, at the ideal values.
-/
module

public import proofs.«01_k».proof.Proof.Gen.RnnKernelIdeal.Value
public import proofs.«01_k».proof.Proof.Loads
public import proofs.«01_k».proof.Proof.RnnScan
public import Idealize.ShloMosaic.Lib.Pipeline.ValueKit
public import Idealize.ShloMosaic.Lib.Pointwise

@[expose] public section

set_option maxRecDepth 16384

noncomputable section

namespace Cert.RnnKernelIdeal.Hand

open Cert.RnnKernelIdeal Cert.RnnKernelIdeal.Gen Cert.Hand Cert.Hand.Rnn
open Idealize.ShloMosaic Idealize.ShloMosaic.TcCoe Idealize.ShloMosaic.Tactic
open Idealize.SL.Sem

/-! ## The masks -/

theorem pick_yes {α : Type} (w : BitVec 1) (h : w = 1#1) (x y : α) : Scalar.select w x y = x := by rw [h]; rfl

theorem pick_no {α : Type} (w : BitVec 1) (h : w = 0#1) (x y : α) : Scalar.select w x y = y := by rw [h]; rfl

/-! ## The window and the convolution -/

/-- The window of sequence `q` of a block: the three entries carried in, then the eight tokens'. -/
def window (x0 : Vec Ideal S128x1024 .f32) (x2 : Vec Ideal S3x16x1024 .f32) (q : Fin 16) (j : ℕ) (c : Fin 1024) : EReal :=
  if j < 3 then x2 (ix3 (Fin.ofNat 3 j) q c) else x0 (ix2 ⟨q.val * 8 + (j - 3) % 8, by omega⟩ c)

/-- The weights as a block holds them. -/
def weights (x4 : Vec Ideal S4x1024 .f32) (x5 : Vec Ideal S1x1024 .f32) (x6 : Vec Ideal S8x128x256 .bf16) (x7 x8 x9 : Vec Ideal S1x1024 .f32) : Weights where
  conv j c := x4 (ix2 j c)
  bias c := x5 (ix2 0 c)
  input n k d := x6 (ix3 n k ⟨d.val, by omega⟩)
  inputBias c := x7 (ix2 0 c)
  decay n k d := x6 (ix3 n k ⟨128 + d.val, by omega⟩)
  decayBias c := x8 (ix2 0 c)
  lam c := x9 (ix2 0 c)

theorem mixed_block (x0 x1 : Vec Ideal S128x1024 .f32) (x2 : Vec Ideal S3x16x1024 .f32) (x3 : Vec Ideal S16x1x1024 .f32) (x4 : Vec Ideal S4x1024 .f32) (x5 : Vec Ideal S1x1024 .f32)
    (x6 : Vec Ideal S8x128x256 .bf16) (x7 x8 x9 : Vec Ideal S1x1024 .f32) (q : Fin 16) (t : Fin 8) (c : Fin 1024) :
    k0_pay11 (F := Ideal) (k0_pay43 x0 x1 x2 x3 x4 x5 x6 x7 x8 x9) (k0_pay44 x0 x1 x2 x3 x4 x5 x6 x7 x8 x9) (k0_pay42 (F := Ideal) x0 x1 x2 x3 x4 x5 x6 x7 x8 x9) (k0_pay45 x0 x1 x2 x3 x4 x5 x6 x7 x8 x9) (k0_pay46 (F := Ideal) x0 x1 x2 x3 x4 x5 x6 x7 x8 x9) (k0_pay47 x0 x1 x2 x3 x4 x5 x6 x7 x8 x9) (k0_pay48 x0 x1 x2 x3 x4 x5 x6 x7 x8 x9)
      (View.ld x4 r0_5) (View.ld x4 r0_6) (View.ld x4 r0_7) (View.ld x5 r0_8) (ix2 ⟨q.val * 8 + t.val, by omega⟩ c) = mixed (weights x4 x5 x6 x7 x8 x9) (window x0 x2 q) t.val c := by
  unfold k0_pay42 k0_pay43 k0_pay44 k0_pay45 k0_pay46 k0_pay47 k0_pay48
  pointwise [k0_pay11, k0_pay5, k0_pay6, k0_pay7, k0_pay8, k0_pay9, k0_pay10]
  unfold mixed weights window
  fin_cases t <;> rfl

/-! ## The gates -/

theorem firstInput_apply (v1 v27 v33 v36 v37 : FVec Ideal S16x8x1024 .f32) (v28 : IVec S16x8x1024 32) (v35 : IVec S16x8x1024 1) (v39 v50 v61 v67 : Vec Ideal S1x1024 .f32)
    (x6 : Vec Ideal S8x128x256 .bf16) (r d : Fin 128) :
    k0_pay14 (F := Ideal) v1 v27 v28 v33 v35 v36 v37 v39 v50 v61 v67 (View.ld x6 r0_9) (ix2 r d)
      = ∑ k : Fin 128, (k0_pay12 (F := Ideal) v1 v27 v28 v33 v35 v36 v37 v39 v50 v61 v67 (ix2 r ⟨k.val, by omega⟩) : EReal) * x6 (ix3 0 k ⟨d.val, by omega⟩) := by
  pointwise [k0_pay14, k0_pay13]

theorem firstDecay_apply (v1 v27 v33 v36 v37 : FVec Ideal S16x8x1024 .f32) (v28 : IVec S16x8x1024 32) (v35 : IVec S16x8x1024 1) (v39 v50 v61 v67 : Vec Ideal S1x1024 .f32)
    (x6 : Vec Ideal S8x128x256 .bf16) (r d : Fin 128) :
    k0_pay15 (F := Ideal) v1 v27 v28 v33 v35 v36 v37 v39 v50 v61 v67 (View.ld x6 r0_9) (ix2 r d)
      = ∑ k : Fin 128, (k0_pay12 (F := Ideal) v1 v27 v28 v33 v35 v36 v37 v39 v50 v61 v67 (ix2 r ⟨k.val, by omega⟩) : EReal) * x6 (ix3 0 k ⟨128 + d.val, by omega⟩) := by
  pointwise [k0_pay15, k0_pay13]

/-- The first block's product, read off a piece. -/
theorem blockDot_first (w : Fin 8 → Fin 128 → Fin 128 → EReal) (x : Fin 1024 → EReal) (d : Fin 128) (c : Fin 1024) (hc : c.val = d.val) {z : EReal}
    (hz : z = ∑ k : Fin 128, x ⟨k.val, by omega⟩ * w 0 k d) : z = blockDot w x c := by
  rw [hz, blockDot_at w x 0 d c (by show c.val = 128 * 0 + d.val; omega)]
  exact Finset.sum_congr rfl fun k _ => congrArg (fun e => x e * w 0 k d) (Fin.ext (by show k.val = 128 * 0 + k.val; omega))

/-- The eight blocks' products laid end to end, read at one column. -/
theorem blocks_apply (w : Fin 8 → Fin 128 → Fin 128 → EReal) (x : Fin 1024 → EReal) (z : Fin 8 → Fin 128 → EReal)
    (hz : ∀ (n : Fin 8) (d : Fin 128) (c : Fin 1024), c.val = 128 * n.val + d.val → z n d = blockDot w x c) (c : Fin 1024) :
    (if h : c.val < 128 then z 0 ⟨c.val, h⟩ else if h : c.val - 128 < 128 then z 1 ⟨c.val - 128, h⟩ else if h : c.val - 128 - 128 < 128 then z 2 ⟨c.val - 128 - 128, h⟩
      else if h : c.val - 128 - 128 - 128 < 128 then z 3 ⟨c.val - 128 - 128 - 128, h⟩ else if h : c.val - 128 - 128 - 128 - 128 < 128 then z 4 ⟨c.val - 128 - 128 - 128 - 128, h⟩
      else if h : c.val - 128 - 128 - 128 - 128 - 128 < 128 then z 5 ⟨c.val - 128 - 128 - 128 - 128 - 128, h⟩
      else if h : c.val - 128 - 128 - 128 - 128 - 128 - 128 < 128 then z 6 ⟨c.val - 128 - 128 - 128 - 128 - 128 - 128, h⟩
      else z 7 ⟨c.val - 128 - 128 - 128 - 128 - 128 - 128 - 128, by omega⟩) = blockDot w x c := by
  by_cases h0 : c.val < 128
  · rw [dif_pos h0]; exact hz 0 _ c (by show c.val = 128 * 0 + c.val; omega)
  rw [dif_neg h0]
  by_cases h1 : c.val - 128 < 128
  · rw [dif_pos h1]; exact hz 1 _ c (by show c.val = 128 * 1 + (c.val - 128); omega)
  rw [dif_neg h1]
  by_cases h2 : c.val - 128 - 128 < 128
  · rw [dif_pos h2]; exact hz 2 _ c (by show c.val = 128 * 2 + (c.val - 128 - 128); omega)
  rw [dif_neg h2]
  by_cases h3 : c.val - 128 - 128 - 128 < 128
  · rw [dif_pos h3]; exact hz 3 _ c (by show c.val = 128 * 3 + (c.val - 128 - 128 - 128); omega)
  rw [dif_neg h3]
  by_cases h4 : c.val - 128 - 128 - 128 - 128 < 128
  · rw [dif_pos h4]; exact hz 4 _ c (by show c.val = 128 * 4 + (c.val - 128 - 128 - 128 - 128); omega)
  rw [dif_neg h4]
  by_cases h5 : c.val - 128 - 128 - 128 - 128 - 128 < 128
  · rw [dif_pos h5]; exact hz 5 _ c (by show c.val = 128 * 5 + (c.val - 128 - 128 - 128 - 128 - 128); omega)
  rw [dif_neg h5]
  by_cases h6 : c.val - 128 - 128 - 128 - 128 - 128 - 128 < 128
  · rw [dif_pos h6]; exact hz 6 _ c (by show c.val = 128 * 6 + (c.val - 128 - 128 - 128 - 128 - 128 - 128); omega)
  rw [dif_neg h6]
  exact hz 7 _ c (by show c.val = 128 * 7 + (c.val - 128 - 128 - 128 - 128 - 128 - 128 - 128); omega)

/-- The pieces of a gate: the first as given, the rest as blocks of a product with `w`. -/
def pieces (w : Fin 8 → Fin 128 → Fin 128 → EReal) (x : Fin 1024 → EReal) (p : Fin 128 → EReal) : Fin 8 → Fin 128 → EReal
  | 0, d => p d
  | 1, d => ∑ k : Fin 128, x ⟨128 + k.val, by omega⟩ * w 1 k d
  | 2, d => ∑ k : Fin 128, x ⟨256 + k.val, by omega⟩ * w 2 k d
  | 3, d => ∑ k : Fin 128, x ⟨384 + k.val, by omega⟩ * w 3 k d
  | 4, d => ∑ k : Fin 128, x ⟨512 + k.val, by omega⟩ * w 4 k d
  | 5, d => ∑ k : Fin 128, x ⟨640 + k.val, by omega⟩ * w 5 k d
  | 6, d => ∑ k : Fin 128, x ⟨768 + k.val, by omega⟩ * w 6 k d
  | 7, d => ∑ k : Fin 128, x ⟨896 + k.val, by omega⟩ * w 7 k d

theorem pieces_apply (w : Fin 8 → Fin 128 → Fin 128 → EReal) (x : Fin 1024 → EReal) (p : Fin 128 → EReal) (hp : ∀ d : Fin 128, p d = ∑ k : Fin 128, x ⟨k.val, by omega⟩ * w 0 k d)
    (n : Fin 8) (d : Fin 128) (c : Fin 1024) (hc : c.val = 128 * n.val + d.val) : pieces w x p n d = blockDot w x c := by
  rw [blockDot_at w x n d c hc]
  fin_cases n
  · refine (hp d).trans (Finset.sum_congr rfl fun k _ => congrArg (fun e => x e * w 0 k d) (Fin.ext (by show k.val = 128 * 0 + k.val; omega)))
  all_goals rfl

theorem inputGate_apply (v : FVec Ideal S128x1024 .bf16) (p : FVec Ideal S128x128 .f32) (x6 : Vec Ideal S8x128x256 .bf16) (x7 : Vec Ideal S1x1024 .f32) (r : Fin 128) (c : Fin 1024)
    (hp : ∀ d : Fin 128, p (ix2 r d) = ∑ k : Fin 128, (v (ix2 r ⟨k.val, by omega⟩) : EReal) * x6 (ix3 0 k ⟨d.val, by omega⟩)) :
    k0_pay35 (F := Ideal) v p (k0_pay17 v (View.ld x6 r0_10)) (k0_pay20 v (View.ld x6 r0_11)) (k0_pay23 v (View.ld x6 r0_12)) (k0_pay26 v (View.ld x6 r0_13)) (k0_pay29 v (View.ld x6 r0_14))
        (k0_pay32 v (View.ld x6 r0_15)) (View.ld x6 r0_16) (View.ld x7 r0_8) (ix2 r c)
      = Ideal.logistic (blockDot (fun n k d => x6 (ix3 n k ⟨d.val, by omega⟩)) (fun c => v (ix2 r c)) c + x7 (ix2 0 c)) := by
  pointwise [k0_pay35, k0_pay34, k0_pay17, k0_pay16, k0_pay20, k0_pay19, k0_pay23, k0_pay22, k0_pay26, k0_pay25, k0_pay29, k0_pay28, k0_pay32, k0_pay31]
  rw [← blocks_apply _ _ _ (pieces_apply _ _ (fun d => p (ix2 r d)) hp) c]
  rfl

theorem logDecay_apply (v : FVec Ideal S128x1024 .bf16) (p : FVec Ideal S128x128 .f32) (x6 : Vec Ideal S8x128x256 .bf16) (x8 x9 : Vec Ideal S1x1024 .f32) (r : Fin 128) (c : Fin 1024)
    (hp : ∀ d : Fin 128, p (ix2 r d) = ∑ k : Fin 128, (v (ix2 r ⟨k.val, by omega⟩) : EReal) * x6 (ix3 0 k ⟨128 + d.val, by omega⟩)) :
    k0_pay36 (F := Ideal) v p (k0_pay18 v (View.ld x6 r0_10)) (k0_pay21 v (View.ld x6 r0_11)) (k0_pay24 v (View.ld x6 r0_12)) (k0_pay27 v (View.ld x6 r0_13)) (k0_pay30 v (View.ld x6 r0_14))
        (k0_pay33 v (View.ld x6 r0_15)) (View.ld x6 r0_16) (View.ld x8 r0_8) (View.ld x9 r0_8) (ix2 r c)
      = eight * Ideal.logistic (blockDot (fun n k d => x6 (ix3 n k ⟨128 + d.val, by omega⟩)) (fun c => v (ix2 r c)) c + x8 (ix2 0 c)) * logSigmoid (x9 (ix2 0 c)) := by
  pointwise [k0_pay36, k0_pay34, k0_pay18, k0_pay16, k0_pay21, k0_pay19, k0_pay24, k0_pay22, k0_pay27, k0_pay25, k0_pay30, k0_pay28, k0_pay33, k0_pay31]
  rw [← blocks_apply _ _ _ (pieces_apply _ _ (fun d => p (ix2 r d)) hp) c]
  rfl

/-! ## The scan -/

/-- The additions before the scan, at a row of a block. -/
abbrev addedAt (v72 v127 v155 v158 : FVec Ideal S128x1024 .f32) (q : Fin 16) (c : Fin 1024) (t : ℕ) : EReal :=
  Ideal.sqrt ((v155 (ix2 ⟨q.val * 8 + t % 8, by omega⟩ c) : EReal) * v158 (ix2 ⟨q.val * 8 + t % 8, by omega⟩ c)) * ((v127 (ix2 ⟨q.val * 8 + t % 8, by omega⟩ c) : EReal) * v72 (ix2 ⟨q.val * 8 + t % 8, by omega⟩ c))

theorem scan_apply (v72 v127 v152 v155 v158 : FVec Ideal S128x1024 .f32) (v193 : Vec Ideal S16x1x1024 .f32) (q : Fin 16) (t : Fin 8) (c : Fin 1024)
    (ha : ∀ r, Tame (v152 (ix2 r c))) :
    k0_pay40 (F := Ideal) v72 v127 v152 v155 v158 v193 (ix3 q t c)
      = scan (fun t => v152 (ix2 ⟨q.val * 8 + t % 8, by omega⟩ c)) (first (fun t => v152 (ix2 ⟨q.val * 8 + t % 8, by omega⟩ c)) (addedAt v72 v127 v155 v158 q c) (v193 (ix3 q 0 c))) t.val := by
  refine Eq.trans ?_ (doubled_eq _ _ _ (fun t => ha _) t.val t.isLt)
  fin_cases t <;> pointwise [k0_pay40] <;> rfl

/-! ## The state of a block -/

section Block
variable (x0 x1 : Vec Ideal S128x1024 .f32) (x2 : Vec Ideal S3x16x1024 .f32) (x3 : Vec Ideal S16x1x1024 .f32) (x4 : Vec Ideal S4x1024 .f32) (x5 : Vec Ideal S1x1024 .f32)
  (x6 : Vec Ideal S8x128x256 .bf16) (x7 x8 x9 : Vec Ideal S1x1024 .f32)

theorem mixedCast_block (q : Fin 16) (t : Fin 8) (c : Fin 1024) :
    k0_pay49 (F := Ideal) x0 x1 x2 x3 x4 x5 x6 x7 x8 x9 (ix2 ⟨q.val * 8 + t.val, by omega⟩ c) = mixed (weights x4 x5 x6 x7 x8 x9) (window x0 x2 q) t.val c :=
  mixed_block x0 x1 x2 x3 x4 x5 x6 x7 x8 x9 q t c

/-- The block's logarithm of the decay. -/
abbrev blockLog : FVec Ideal S128x1024 .f32 :=
  k0_pay36 (F := Ideal) (k0_pay49 x0 x1 x2 x3 x4 x5 x6 x7 x8 x9) (k0_pay50 x0 x1 x2 x3 x4 x5 x6 x7 x8 x9) (k0_pay18 (k0_pay49 x0 x1 x2 x3 x4 x5 x6 x7 x8 x9) (View.ld x6 r0_10))
    (k0_pay21 (k0_pay49 x0 x1 x2 x3 x4 x5 x6 x7 x8 x9) (View.ld x6 r0_11)) (k0_pay24 (k0_pay49 x0 x1 x2 x3 x4 x5 x6 x7 x8 x9) (View.ld x6 r0_12))
    (k0_pay27 (k0_pay49 x0 x1 x2 x3 x4 x5 x6 x7 x8 x9) (View.ld x6 r0_13)) (k0_pay30 (k0_pay49 x0 x1 x2 x3 x4 x5 x6 x7 x8 x9) (View.ld x6 r0_14))
    (k0_pay33 (k0_pay49 x0 x1 x2 x3 x4 x5 x6 x7 x8 x9) (View.ld x6 r0_15)) (View.ld x6 r0_16) (View.ld x8 r0_8) (View.ld x9 r0_8)

theorem blockLog_row (r : Fin 128) (c : Fin 1024) :
    blockLog x0 x1 x2 x3 x4 x5 x6 x7 x8 x9 (ix2 r c)
      = eight * Ideal.logistic (blockDot (weights x4 x5 x6 x7 x8 x9).decay (fun c => k0_pay49 (F := Ideal) x0 x1 x2 x3 x4 x5 x6 x7 x8 x9 (ix2 r c)) c + x8 (ix2 0 c)) * logSigmoid (x9 (ix2 0 c)) :=
  logDecay_apply _ _ x6 x8 x9 r c fun d => firstDecay_apply _ _ _ _ _ _ _ _ _ _ _ x6 r d

theorem blockLog_apply (q : Fin 16) (t : Fin 8) (c : Fin 1024) :
    blockLog x0 x1 x2 x3 x4 x5 x6 x7 x8 x9 (ix2 ⟨q.val * 8 + t.val, by omega⟩ c) = logDecay (weights x4 x5 x6 x7 x8 x9) (window x0 x2 q) t.val c := by
  rw [blockLog_row, funext fun c => mixedCast_block x0 x1 x2 x3 x4 x5 x6 x7 x8 x9 q t c]
  rfl

/-- The block's input gate. -/
abbrev blockGate : FVec Ideal S128x1024 .f32 :=
  k0_pay35 (F := Ideal) (k0_pay49 x0 x1 x2 x3 x4 x5 x6 x7 x8 x9)
    (k0_pay14 (k0_pay43 x0 x1 x2 x3 x4 x5 x6 x7 x8 x9) (k0_pay44 x0 x1 x2 x3 x4 x5 x6 x7 x8 x9) (k0_pay42 (F := Ideal) x0 x1 x2 x3 x4 x5 x6 x7 x8 x9) (k0_pay45 x0 x1 x2 x3 x4 x5 x6 x7 x8 x9) (k0_pay46 (F := Ideal) x0 x1 x2 x3 x4 x5 x6 x7 x8 x9)
      (k0_pay47 x0 x1 x2 x3 x4 x5 x6 x7 x8 x9) (k0_pay48 x0 x1 x2 x3 x4 x5 x6 x7 x8 x9) (View.ld x4 r0_5) (View.ld x4 r0_6) (View.ld x4 r0_7) (View.ld x5 r0_8) (View.ld x6 r0_9))
    (k0_pay17 (k0_pay49 x0 x1 x2 x3 x4 x5 x6 x7 x8 x9) (View.ld x6 r0_10))
    (k0_pay20 (k0_pay49 x0 x1 x2 x3 x4 x5 x6 x7 x8 x9) (View.ld x6 r0_11)) (k0_pay23 (k0_pay49 x0 x1 x2 x3 x4 x5 x6 x7 x8 x9) (View.ld x6 r0_12))
    (k0_pay26 (k0_pay49 x0 x1 x2 x3 x4 x5 x6 x7 x8 x9) (View.ld x6 r0_13)) (k0_pay29 (k0_pay49 x0 x1 x2 x3 x4 x5 x6 x7 x8 x9) (View.ld x6 r0_14))
    (k0_pay32 (k0_pay49 x0 x1 x2 x3 x4 x5 x6 x7 x8 x9) (View.ld x6 r0_15)) (View.ld x6 r0_16) (View.ld x7 r0_8)

theorem blockGate_row (r : Fin 128) (c : Fin 1024) :
    blockGate x0 x1 x2 x3 x4 x5 x6 x7 x8 x9 (ix2 r c)
      = Ideal.logistic (blockDot (weights x4 x5 x6 x7 x8 x9).input (fun c => k0_pay49 (F := Ideal) x0 x1 x2 x3 x4 x5 x6 x7 x8 x9 (ix2 r c)) c + x7 (ix2 0 c)) :=
  inputGate_apply _ _ x6 x7 r c fun d => firstInput_apply _ _ _ _ _ _ _ _ _ _ _ x6 r d

theorem blockGate_apply (q : Fin 16) (t : Fin 8) (c : Fin 1024) :
    blockGate x0 x1 x2 x3 x4 x5 x6 x7 x8 x9 (ix2 ⟨q.val * 8 + t.val, by omega⟩ c)
      = Ideal.logistic (blockDot (weights x4 x5 x6 x7 x8 x9).input (mixed (weights x4 x5 x6 x7 x8 x9) (window x0 x2 q) t.val) c + (weights x4 x5 x6 x7 x8 x9).inputBias c) := by
  rw [blockGate_row, funext fun c => mixedCast_block x0 x1 x2 x3 x4 x5 x6 x7 x8 x9 q t c]
  rfl

theorem fade_apply (v73 : FVec Ideal S128x1024 .bf16) (v79 v85 v91 v97 v103 v109 v115 : FVec Ideal S128x128 .f32) (v117 : Vec Ideal S1x128x256 .bf16) (v129 v134 : Vec Ideal S1x1024 .f32) (i : S128x1024.Idx) :
    k0_pay38 (F := Ideal) v73 v79 v85 v91 v97 v103 v109 v115 v117 v129 v134 i = 0 - Ideal.tanh (k0_pay36 (F := Ideal) v73 v79 v85 v91 v97 v103 v109 v115 v117 v129 v134 i) := by
  pointwise [k0_pay38]

theorem square_apply (v73 : FVec Ideal S128x1024 .bf16) (v79 v85 v91 v97 v103 v109 v115 : FVec Ideal S128x128 .f32) (v117 : Vec Ideal S1x128x256 .bf16) (v129 v134 : Vec Ideal S1x1024 .f32) (i : S128x1024.Idx) :
    k0_pay39 (F := Ideal) v73 v79 v85 v91 v97 v103 v109 v115 v117 v129 v134 i
      = Ideal.exp (k0_pay36 (F := Ideal) v73 v79 v85 v91 v97 v103 v109 v115 v117 v129 v134 i) * Ideal.exp (k0_pay36 (F := Ideal) v73 v79 v85 v91 v97 v103 v109 v115 v117 v129 v134 i) + 1 := by
  pointwise [k0_pay39, k0_pay37]

/-- What a step adds, over the values at its row. -/
theorem added_row {l l' g g' x x' p s : EReal} (hp : p = 0 - Ideal.tanh l) (hs : s = Ideal.exp l * Ideal.exp l + 1) (hl : l = l') (hg : g = g') (hx : x = x') :
    Ideal.sqrt (p * s) * (g * x) = keep l' * (g' * x') := by
  subst hl hg hx hp hs
  rfl

theorem blockAdded_apply (q : Fin 16) (t : Fin 8) (c : Fin 1024) :
    Ideal.sqrt ((k0_pay38 (F := Ideal) (k0_pay49 x0 x1 x2 x3 x4 x5 x6 x7 x8 x9) (k0_pay50 x0 x1 x2 x3 x4 x5 x6 x7 x8 x9) (k0_pay18 (k0_pay49 x0 x1 x2 x3 x4 x5 x6 x7 x8 x9) (View.ld x6 r0_10))
    (k0_pay21 (k0_pay49 x0 x1 x2 x3 x4 x5 x6 x7 x8 x9) (View.ld x6 r0_11)) (k0_pay24 (k0_pay49 x0 x1 x2 x3 x4 x5 x6 x7 x8 x9) (View.ld x6 r0_12))
    (k0_pay27 (k0_pay49 x0 x1 x2 x3 x4 x5 x6 x7 x8 x9) (View.ld x6 r0_13)) (k0_pay30 (k0_pay49 x0 x1 x2 x3 x4 x5 x6 x7 x8 x9) (View.ld x6 r0_14))
    (k0_pay33 (k0_pay49 x0 x1 x2 x3 x4 x5 x6 x7 x8 x9) (View.ld x6 r0_15)) (View.ld x6 r0_16) (View.ld x8 r0_8) (View.ld x9 r0_8) (ix2 ⟨q.val * 8 + t.val, by omega⟩ c) : EReal)
      * k0_pay39 (F := Ideal) (k0_pay49 x0 x1 x2 x3 x4 x5 x6 x7 x8 x9) (k0_pay50 x0 x1 x2 x3 x4 x5 x6 x7 x8 x9) (k0_pay18 (k0_pay49 x0 x1 x2 x3 x4 x5 x6 x7 x8 x9) (View.ld x6 r0_10))
    (k0_pay21 (k0_pay49 x0 x1 x2 x3 x4 x5 x6 x7 x8 x9) (View.ld x6 r0_11)) (k0_pay24 (k0_pay49 x0 x1 x2 x3 x4 x5 x6 x7 x8 x9) (View.ld x6 r0_12))
    (k0_pay27 (k0_pay49 x0 x1 x2 x3 x4 x5 x6 x7 x8 x9) (View.ld x6 r0_13)) (k0_pay30 (k0_pay49 x0 x1 x2 x3 x4 x5 x6 x7 x8 x9) (View.ld x6 r0_14))
    (k0_pay33 (k0_pay49 x0 x1 x2 x3 x4 x5 x6 x7 x8 x9) (View.ld x6 r0_15)) (View.ld x6 r0_16) (View.ld x8 r0_8) (View.ld x9 r0_8) (ix2 ⟨q.val * 8 + t.val, by omega⟩ c))
      * ((blockGate x0 x1 x2 x3 x4 x5 x6 x7 x8 x9 (ix2 ⟨q.val * 8 + t.val, by omega⟩ c) : EReal) * k0_pay49 (F := Ideal) x0 x1 x2 x3 x4 x5 x6 x7 x8 x9 (ix2 ⟨q.val * 8 + t.val, by omega⟩ c))
      = added (weights x4 x5 x6 x7 x8 x9) (window x0 x2 q) t.val c :=
  added_row (fade_apply _ _ _ _ _ _ _ _ _ _ _ _) (square_apply _ _ _ _ _ _ _ _ _ _ _ _) (blockLog_apply x0 x1 x2 x3 x4 x5 x6 x7 x8 x9 q t c)
    (blockGate_apply x0 x1 x2 x3 x4 x5 x6 x7 x8 x9 q t c) (mixedCast_block x0 x1 x2 x3 x4 x5 x6 x7 x8 x9 q t c)

theorem scan_congr {a a' u u' : ℕ → EReal} {h h' : EReal} (t : ℕ) (ha : ∀ k, k ≤ t → a k = a' k) (hu : ∀ k, k ≤ t → u k = u' k) (hh : h = h') : scan a (first a u h) t = scan a' (first a' u' h') t := by
  subst hh
  have hf : ∀ k, k ≤ t → first a u h k = first a' u' h k := fun k hk => by
    unfold first
    rw [ha 0 (by omega), hu 0 (by omega), hu k hk]
  induction t with
  | zero => exact hf 0 le_rfl
  | succ t ih =>
    show a (t + 1) * scan a (first a u h) t + first a u h (t + 1) = a' (t + 1) * scan a' (first a' u' h) t + first a' u' h (t + 1)
    rw [ha (t + 1) le_rfl, hf (t + 1) le_rfl, ih (fun k hk => ha k (by omega)) (fun k hk => hu k (by omega)) fun k hk => hf k (by omega)]

theorem state_block (q : Fin 16) (t : Fin 8) (c : Fin 1024) :
    k0_pay57 (F := Ideal) x0 x1 x2 x3 x4 x5 x6 x7 x8 x9 (ix3 q t c) = state (weights x4 x5 x6 x7 x8 x9) (window x0 x2 q) (fun c => x3 (ix3 q 0 c)) t.val c := by
  refine (scan_apply _ (blockGate x0 x1 x2 x3 x4 x5 x6 x7 x8 x9) (fun i => Ideal.exp (blockLog x0 x1 x2 x3 x4 x5 x6 x7 x8 x9 i)) _ _ _ q t c fun r => exp_tame ?_).trans ?_
  · rw [blockLog_row]
    exact EReal.mul_nonpos_iff.2 (Or.inl ⟨mul_nonneg eight_nonneg (logistic_nonneg _), logSigmoid_nonpos _⟩)
  · refine scan_congr t.val (fun k hk => ?_) (fun k hk => ?_) ?_
    · exact congrArg Ideal.exp (blockLog_apply x0 x1 x2 x3 x4 x5 x6 x7 x8 x9 q ⟨k % 8, by omega⟩ c |>.trans (congrArg (fun j => logDecay (weights x4 x5 x6 x7 x8 x9) (window x0 x2 q) j c) (Nat.mod_eq_of_lt (by omega))))
    · exact (blockAdded_apply x0 x1 x2 x3 x4 x5 x6 x7 x8 x9 q ⟨k % 8, by omega⟩ c).trans (congrArg (fun j => added (weights x4 x5 x6 x7 x8 x9) (window x0 x2 q) j c) (Nat.mod_eq_of_lt (by omega)))
    · exact congrArg x3 (funext fun a => Fin.ext (by fin_cases a <;> (try rfl) <;> (show 0 + 1 * _ = _; simp)))

/-! ## What the body leaves in the output windows -/

theorem last_apply (h : FVec Ideal S16x8x1024 .f32) (i : S16x1x1024.Idx) : k0_pay3 (F := Ideal) h i = h (ix3 (i 0) 7 (i 2)) := by
  pointwise [k0_pay3]

theorem outState_apply (q : Fin 16) (c : Fin 1024) : out0_12 (F := Ideal) x0 x1 x2 x3 x4 x5 x6 x7 x8 x9 (ix3 q 0 c) = state (weights x4 x5 x6 x7 x8 x9) (window x0 x2 q) (fun c => x3 (ix3 q 0 c)) 7 c := by
  refine Eq.trans ?_ (state_block x0 x1 x2 x3 x4 x5 x6 x7 x8 x9 q 7 c)
  unfold out0_12
  generalize k0_pay57 (F := Ideal) x0 x1 x2 x3 x4 x5 x6 x7 x8 x9 = h
  refine (View.canon_apply_of_pieces (Val := Elt Ideal) (S := S16x1x1024) (e := .f32) (fun y : S16x1x1024.Idx => h (ix3 (y 0) 7 (y 2))) _ ?_ (ix3 q 0 c) (cover0_12 _ _)).trans rfl
  simp only [List.forall_mem_cons, List.not_mem_nil, false_implies, implies_true, and_true]
  exact fun i => (last_apply h i).trans (congrArg h (funext fun a => Fin.ext (by
    fin_cases a
    · show (i 0).val = 0 + 1 * (i 0).val; omega
    · rfl
    · show (i 2).val = 0 + 1 * (i 2).val; omega)))

/-- A row of the tokens, as the carried window holds it. -/
theorem carried_apply (v : FVec Ideal S16x8x1024 .f32) (i : S1x16x1024.Idx) :
    k0_pay41 (F := Ideal) v i = v (ix3 (i 1) 5 (i 2)) ∧ k0_pay1 (F := Ideal) v i = v (ix3 (i 1) 6 (i 2)) ∧ k0_pay2 (F := Ideal) v i = v (ix3 (i 1) 7 (i 2)) := by
  refine ⟨?_, ?_, ?_⟩ <;> pointwise [k0_pay1, k0_pay2, k0_pay41]

theorem tokens_apply (q : Fin 16) (t : Fin 8) (c : Fin 1024) : k0_pay43 (F := Ideal) x0 x1 x2 x3 x4 x5 x6 x7 x8 x9 (ix3 q t c) = x0 (ix2 ⟨q.val * 8 + t.val, by omega⟩ c) := by
  pointwise [k0_pay43, k0_pay5]

theorem outWindow_apply (q : Fin 16) (j : Fin 3) (c : Fin 1024) : out0_11 (F := Ideal) x0 x1 x2 x3 x4 x5 x6 x7 x8 x9 (ix3 j q c) = x0 (ix2 ⟨q.val * 8 + (5 + j.val), by omega⟩ c) := by
  refine Eq.trans ?_ (tokens_apply x0 x1 x2 x3 x4 x5 x6 x7 x8 x9 q ⟨5 + j.val, by omega⟩ c)
  unfold out0_11
  generalize k0_pay43 (F := Ideal) x0 x1 x2 x3 x4 x5 x6 x7 x8 x9 = v
  refine (View.canon_apply_of_pieces (Val := Elt Ideal) (S := S3x16x1024) (e := .f32)
    (fun y : S3x16x1024.Idx => v (ix3 (y 1) ⟨5 + (y 0).val, by have h0 : (y 0).val < 3 := (y 0).isLt; omega⟩ (y 2))) _ ?_ (ix3 j q c) (cover0_11 _ _ _ _)).trans rfl
  simp only [List.forall_mem_cons, List.not_mem_nil, false_implies, implies_true, and_true]
  have hrow : ∀ (o : ℕ) (ho : o < 3) (hX : ∀ a, (![o, 0, 0] : Fin 3 → ℕ) a + S1x16x1024.size a ≤ S3x16x1024.size a) (i : S1x16x1024.Idx),
      v (ix3 (i 1) ⟨5 + o, by omega⟩ (i 2)) = v (ix3 ((Rect.unit (s := S3x16x1024) ![o, 0, 0] S1x16x1024.size hX).emb i 1)
        ⟨5 + ((Rect.unit (s := S3x16x1024) ![o, 0, 0] S1x16x1024.size hX).emb i 0).val, by have h0 : (i 0).val < 1 := (i 0).isLt; show 5 + (o + 1 * (i 0).val) < 8; omega⟩ ((Rect.unit (s := S3x16x1024) ![o, 0, 0] S1x16x1024.size hX).emb i 2)) :=
    fun o ho hX i => congrArg v (funext fun a => Fin.ext (by
      have h0 : (i 0).val < 1 := (i 0).isLt
      fin_cases a
      · show (i 1).val = 0 + 1 * (i 1).val; omega
      · show 5 + o = 5 + (o + 1 * (i 0).val); omega
      · show (i 2).val = 0 + 1 * (i 2).val; omega))
  exact ⟨fun i => ((carried_apply v i).2.2).trans (hrow 2 (by omega) _ i), fun i => ((carried_apply v i).2.1).trans (hrow 1 (by omega) _ i), fun i => ((carried_apply v i).1).trans (hrow 0 (by omega) _ i)⟩

theorem gated_apply (h : FVec Ideal S16x8x1024 .f32) (g : Vec Ideal S128x1024 .f32) (q : Fin 16) (t : Fin 8) (c : Fin 1024) :
    k0_pay4 (F := Ideal) h g (ix2 ⟨q.val * 8 + t.val, by omega⟩ c) = h (ix3 q t c) * gelu (g (ix2 ⟨q.val * 8 + t.val, by omega⟩ c)) := by
  unfold gelu
  pointwise [k0_pay4]
  simp only [mul_assoc]

theorem outGated_apply (q : Fin 16) (t : Fin 8) (c : Fin 1024) :
    out0_10 (F := Ideal) x0 x1 x2 x3 x4 x5 x6 x7 x8 x9 (ix2 ⟨q.val * 8 + t.val, by omega⟩ c)
      = state (weights x4 x5 x6 x7 x8 x9) (window x0 x2 q) (fun c => x3 (ix3 q 0 c)) t.val c * gelu (x1 (ix2 ⟨q.val * 8 + t.val, by omega⟩ c)) := by
  rw [← state_block x0 x1 x2 x3 x4 x5 x6 x7 x8 x9 q t c]
  unfold out0_10
  generalize k0_pay57 (F := Ideal) x0 x1 x2 x3 x4 x5 x6 x7 x8 x9 = h
  have hl : View.ld x1 r0_0 = x1 := funext fun i => congrArg x1 (funext fun a => Fin.ext (by
    fin_cases a
    · show 0 + 1 * (i 0).val = (i 0).val; omega
    · show 0 + 1 * (i 1).val = (i 1).val; omega))
  refine Eq.trans ?_ (gated_apply h x1 q t c)
  rw [hl]
  refine View.canon_apply_of_pieces (Val := Elt Ideal) (S := S128x1024) (e := .bf16) (k0_pay4 (F := Ideal) h x1) _ ?_ _ (cover0_10 _ _)
  simp only [List.forall_mem_cons, List.not_mem_nil, false_implies, implies_true, and_true]
  exact fun i => congrArg (k0_pay4 (F := Ideal) h x1) (funext fun a => Fin.ext (by
    fin_cases a
    · show (i 0).val = 0 + 1 * (i 0).val; omega
    · show (i 1).val = 0 + 1 * (i 1).val; omega))

end Block

end Cert.RnnKernelIdeal.Hand
-- ==== Proof.RnnReference.lean ====
/-
  Hand-written. The RG-LRU branch: the reference's named values at an index, at the ideal values.
-/
module

public import proofs.«01_k».proof.Proof.Gen.RnnReferenceIdeal.Run
public import proofs.«01_k».proof.Proof.Loads
public import proofs.«01_k».proof.Proof.RnnScan
public import Idealize.ShloMosaic.Lib.Routing.OpsPair
public import Idealize.ShloMosaic.Lib.Pointwise

@[expose] public section

set_option maxRecDepth 16384

noncomputable section

namespace Cert.RnnReferenceIdeal.Hand

open Cert.RnnReferenceIdeal Cert.RnnReferenceIdeal.Gen Cert.RnnReferenceIdeal.Value Cert.Hand Cert.Hand.Rnn
open Idealize.ShloMosaic Idealize.ShloMosaic.TcCoe Idealize.ShloMosaic.Tactic
open Idealize.SL.Sem

variable (V0 : Valuation τ sig (Elt Ideal))

/-- The window of sequence `s`: the three entries carried in, then the eight tokens' columns of the projection. -/
def window (s : Fin 128) (j : ℕ) (c : Fin 1024) : EReal :=
  if j < 3 then V0 (Proc.devRef .tc main_arg1) (ix3 s (Fin.ofNat 3 j) c) else V0 (Proc.devRef .tc main_arg0) (ix2 ⟨s.val * 8 + (j - 3) % 8, by omega⟩ ⟨6144 + c.val, by omega⟩)

/-- The weights as the arguments hold them. -/
def weights : Weights where
  conv j c := V0 (Proc.devRef .tc main_arg3) (ix3 0 j c)
  bias c := V0 (Proc.devRef .tc main_arg4) (ix2 0 c)
  input n k d := V0 (Proc.devRef .tc main_arg5) (ix4 0 n k d)
  inputBias c := V0 (Proc.devRef .tc main_arg6) (ix2 0 c)
  decay n k d := V0 (Proc.devRef .tc main_arg7) (ix4 0 n k d)
  decayBias c := V0 (Proc.devRef .tc main_arg8) (ix2 0 c)
  lam c := V0 (Proc.devRef .tc main_arg9) (ix2 0 c)

theorem window_apply (s : Fin 128) (j : Fin 11) (c : Fin 1024) : res_main_v4 (F := Ideal) V0 (ix3 s j c) = window V0 s j.val c := by
  pointwise [res_main_v4]
  unfold window
  fin_cases j <;> rfl

theorem mixed_apply (s : Fin 128) (t : Fin 8) (c : Fin 1024) : res_main_v41 (F := Ideal) V0 (ix3 s t c) = mixed (weights V0) (window V0 s) t.val c := by
  pointwise [res_main_v41]
  simp only [window_apply]
  have e : ∀ k : ℕ, window V0 s (k + t.val) c = window V0 s (t.val + k) c := fun k => congrArg (window V0 s · c) (Nat.add_comm _ _)
  rw [e 1, e 2, e 3]
  show _ = window V0 s (t.val + 3) c * V0 (Proc.devRef .tc main_arg3) (ix3 0 3 c) + window V0 s (t.val + 2) c * V0 (Proc.devRef .tc main_arg3) (ix3 0 2 c)
    + window V0 s (t.val + 1) c * V0 (Proc.devRef .tc main_arg3) (ix3 0 1 c) + window V0 s t.val c * V0 (Proc.devRef .tc main_arg3) (ix3 0 0 c) + V0 (Proc.devRef .tc main_arg4) (ix2 0 c)
  refine congrArg (· + V0 (Proc.devRef .tc main_arg4) (ix2 0 c)) ?_
  abel

theorem split_apply (s : Fin 128) (t n : Fin 8) (k : Fin 128) : res_main_v42 (F := Ideal) V0 (ix4 s t n k) = mixed (weights V0) (window V0 s) t.val ⟨128 * n.val + k.val, by omega⟩ := by
  refine Eq.trans ?_ (mixed_apply V0 s t _)
  pointwise [res_main_v42]
  exact congrArg (fun e => res_main_v41 (F := Ideal) V0 (ix3 s t e)) (Fin.ext (by show n.val * 128 + k.val = 128 * n.val + k.val; omega))

theorem dot_apply (w : FVec Ideal S1x8x128x128 .f32) (s : Fin 128) (t : Fin 8) (c : Fin 1024) :
    (∑ k : Fin 128, (w (ix4 0 ⟨c.val / 128, by omega⟩ k ⟨c.val % 128, by omega⟩) : EReal) * res_main_v42 (F := Ideal) V0 (ix4 s t ⟨c.val / 128, by omega⟩ k))
      = blockDot (fun n k d => w (ix4 0 n k d)) (mixed (weights V0) (window V0 s) t.val) c := by
  refine Finset.sum_congr rfl fun k _ => ?_
  rw [split_apply]
  exact mul_comm _ _

theorem logSigmoid_apply (l : EReal) :
    (-if -l ≠ -l then -l else max (-l) 0 + Ideal.log1p (Ideal.exp (-(max (-l) (-(-l)))))) = logSigmoid l := by
  rw [if_neg (not_not.2 rfl), logSigmoid_eq]

theorem log_apply (s : Fin 128) (t : Fin 8) (c : Fin 1024) : res_main_v77 (F := Ideal) V0 (ix3 s t c) = logDecay (weights V0) (window V0 s) t.val c := by
  pointwise [res_main_v77, res_main_call0_v0, res_main_call0_call0_cst, res_main_call0_call0_v3]
  unfold logDecay
  rw [dot_apply]
  exact congrArg (eight * Ideal.logistic (_ + V0 (Proc.devRef .tc main_arg8) (ix2 0 c)) * ·) (logSigmoid_apply _)

theorem decay_apply (s : Fin 128) (t : Fin 8) (c : Fin 1024) : res_main_v78 (F := Ideal) V0 (ix3 s t c) = Ideal.exp (logDecay (weights V0) (window V0 s) t.val c) :=
  congrArg Ideal.exp (log_apply V0 s t c)

/-! ## The first addition -/

/-- A fold that acts at exactly one place acts once. -/
theorem foldl_once {ι β : Type} (g : β → ι → β) (P : ι → Prop) [DecidablePred P] (i0 : ι) (hP : ∀ i, P i ↔ i = i0) (l : List ι) (hn : l.Nodup) (h : i0 ∈ l) (b : β) :
    l.foldl (fun b i => if P i then g b i else b) b = g b i0 := by
  have hnot : ∀ (l : List ι), i0 ∉ l → ∀ b, l.foldl (fun b i => if P i then g b i else b) b = b := fun l => by
    induction l with
    | nil => exact fun _ _ => rfl
    | cons x l ih =>
      intro hx b
      rw [List.foldl_cons, if_neg fun hp => hx ((hP x).1 hp ▸ List.mem_cons_self), ih fun hm => hx (List.mem_cons_of_mem _ hm)]
  induction l generalizing b with
  | nil => exact absurd h List.not_mem_nil
  | cons x l ih =>
    rw [List.foldl_cons]
    by_cases hx : x = i0
    · subst hx
      rw [if_pos ((hP x).2 rfl), hnot l (List.nodup_cons.1 hn).1]
    · rw [if_neg fun hp => hx ((hP x).1 hp), ih (List.nodup_cons.1 hn).2 ((List.mem_cons.1 h).resolve_left fun e => hx e.symm)]

/-! ## The scan -/

theorem fillEight_apply (a u : FVec Ideal S128x8x1024 .f32) (p : FVec Ideal S128x4x1024 .f32) (s : Fin 128) (t : Fin 8) (c : Fin 1024) :
    (addf (pad S128x8x1024 ![0, 0, 0] ![0, 1, 0] ![0, 1, 0] (concatenate S128x4x1024 1 [⟨S128x1x1024, (extractStridedSlice S128x1x1024 ![0, 0, 0] u slices_S128x8x1024_S128x1x1024_0_0_0)⟩, ⟨S128x3x1024, (addf (mulf (Host.slice S128x3x1024 ![0, 2, 0] ![1, 2, 1] a slicesBy_S128x8x1024_S128x3x1024_0s1_2s2_0s1) (extractStridedSlice S128x3x1024 ![0, 0, 0] p slices_S128x4x1024_S128x3x1024_0_0_0)) (Host.slice S128x3x1024 ![0, 2, 0] ![1, 2, 1] u slicesBy_S128x8x1024_S128x3x1024_0s1_2s2_0s1))⟩] concatenates_S128x1x1024_S128x3x1024_S128x4x1024_d1) (constant S_ .f32 0x00000000#32) pads_S128x4x1024_S128x8x1024_000_011_000 h_S_) (pad S128x8x1024 ![0, 1, 0] ![0, 0, 0] ![0, 1, 0] p (constant S_ .f32 0x00000000#32) pads_S128x4x1024_S128x8x1024_000_101_000 h_S_) : FVec Ideal S128x8x1024 .f32) (ix3 s t c)
      = fillIn (fun t => a (ix3 s ⟨t % 8, by omega⟩ c)) (fun t => u (ix3 s ⟨t % 8, by omega⟩ c)) (fun k => p (ix3 s ⟨k % 4, by omega⟩ c)) t.val := by
  fin_cases t <;> pointwise <;> rfl

theorem fillFour_apply (a u : FVec Ideal S128x4x1024 .f32) (p : FVec Ideal S128x2x1024 .f32) (s : Fin 128) (t : Fin 4) (c : Fin 1024) :
    (addf (pad S128x4x1024 ![0, 0, 0] ![0, 1, 0] ![0, 1, 0] (concatenate S128x2x1024 1 [⟨S128x1x1024, (extractStridedSlice S128x1x1024 ![0, 0, 0] u slices_S128x4x1024_S128x1x1024_0_0_0)⟩, ⟨S128x1x1024, (addf (mulf (Host.slice S128x1x1024 ![0, 2, 0] ![1, 2, 1] a slicesBy_S128x4x1024_S128x1x1024_0s1_2s2_0s1) (extractStridedSlice S128x1x1024 ![0, 0, 0] p slices_S128x2x1024_S128x1x1024_0_0_0)) (Host.slice S128x1x1024 ![0, 2, 0] ![1, 2, 1] u slicesBy_S128x4x1024_S128x1x1024_0s1_2s2_0s1))⟩] concatenates_S128x1x1024_S128x1x1024_S128x2x1024_d1) (constant S_ .f32 0x00000000#32) pads_S128x2x1024_S128x4x1024_000_011_000 h_S_) (pad S128x4x1024 ![0, 1, 0] ![0, 0, 0] ![0, 1, 0] p (constant S_ .f32 0x00000000#32) pads_S128x2x1024_S128x4x1024_000_101_000 h_S_) : FVec Ideal S128x4x1024 .f32) (ix3 s t c)
      = fillIn (fun t => a (ix3 s ⟨t % 4, by omega⟩ c)) (fun t => u (ix3 s ⟨t % 4, by omega⟩ c)) (fun k => p (ix3 s ⟨k % 2, by omega⟩ c)) t.val := by
  fin_cases t <;> pointwise <;> rfl

theorem fillTwo_apply (a u : FVec Ideal S128x2x1024 .f32) (z : FVec Ideal S128x0x1024 .f32) (p : FVec Ideal S128x1x1024 .f32) (s : Fin 128) (t : Fin 2) (c : Fin 1024) :
    (addf (pad S128x2x1024 ![0, 0, 0] ![0, 1, 0] ![0, 1, 0] (concatenate S128x1x1024 1 [⟨S128x1x1024, (extractStridedSlice S128x1x1024 ![0, 0, 0] u slices_S128x2x1024_S128x1x1024_0_0_0)⟩, ⟨S128x0x1024, z⟩] concatenates_S128x1x1024_S128x0x1024_S128x1x1024_d1) (constant S_ .f32 0x00000000#32) pads_S128x1x1024_S128x2x1024_000_011_000 h_S_) (pad S128x2x1024 ![0, 1, 0] ![0, 0, 0] ![0, 1, 0] p (constant S_ .f32 0x00000000#32) pads_S128x1x1024_S128x2x1024_000_101_000 h_S_) : FVec Ideal S128x2x1024 .f32) (ix3 s t c)
      = fillIn (fun t => a (ix3 s ⟨t % 2, by omega⟩ c)) (fun t => u (ix3 s ⟨t % 2, by omega⟩ c)) (fun k => p (ix3 s 0 c)) t.val := by
  fin_cases t <;> pointwise <;> rfl

theorem joinEight_apply (a u : FVec Ideal S128x8x1024 .f32) (s : Fin 128) (k : Fin 4) (c : Fin 1024) :
    (mulf (Host.slice S128x4x1024 ![0, 0, 0] ![1, 2, 1] a slicesBy_S128x8x1024_S128x4x1024_0s1_0s2_0s1) (Host.slice S128x4x1024 ![0, 1, 0] ![1, 2, 1] a slicesBy_S128x8x1024_S128x4x1024_0s1_1s2_0s1) : FVec Ideal S128x4x1024 .f32) (ix3 s k c)
        = pairDecay (fun t => a (ix3 s ⟨t % 8, by omega⟩ c)) k.val
      ∧ (addf (mulf (Host.slice S128x4x1024 ![0, 1, 0] ![1, 2, 1] a slicesBy_S128x8x1024_S128x4x1024_0s1_1s2_0s1) (Host.slice S128x4x1024 ![0, 0, 0] ![1, 2, 1] u slicesBy_S128x8x1024_S128x4x1024_0s1_0s2_0s1)) (Host.slice S128x4x1024 ![0, 1, 0] ![1, 2, 1] u slicesBy_S128x8x1024_S128x4x1024_0s1_1s2_0s1) : FVec Ideal S128x4x1024 .f32) (ix3 s k c)
        = pairAdded (fun t => a (ix3 s ⟨t % 8, by omega⟩ c)) (fun t => u (ix3 s ⟨t % 8, by omega⟩ c)) k.val := by
  constructor <;> fin_cases k <;> pointwise <;> rfl

theorem joinFour_apply (a u : FVec Ideal S128x4x1024 .f32) (s : Fin 128) (k : Fin 2) (c : Fin 1024) :
    (mulf (Host.slice S128x2x1024 ![0, 0, 0] ![1, 2, 1] a slicesBy_S128x4x1024_S128x2x1024_0s1_0s2_0s1) (Host.slice S128x2x1024 ![0, 1, 0] ![1, 2, 1] a slicesBy_S128x4x1024_S128x2x1024_0s1_1s2_0s1) : FVec Ideal S128x2x1024 .f32) (ix3 s k c)
        = pairDecay (fun t => a (ix3 s ⟨t % 4, by omega⟩ c)) k.val
      ∧ (addf (mulf (Host.slice S128x2x1024 ![0, 1, 0] ![1, 2, 1] a slicesBy_S128x4x1024_S128x2x1024_0s1_1s2_0s1) (Host.slice S128x2x1024 ![0, 0, 0] ![1, 2, 1] u slicesBy_S128x4x1024_S128x2x1024_0s1_0s2_0s1)) (Host.slice S128x2x1024 ![0, 1, 0] ![1, 2, 1] u slicesBy_S128x4x1024_S128x2x1024_0s1_1s2_0s1) : FVec Ideal S128x2x1024 .f32) (ix3 s k c)
        = pairAdded (fun t => a (ix3 s ⟨t % 4, by omega⟩ c)) (fun t => u (ix3 s ⟨t % 4, by omega⟩ c)) k.val := by
  constructor <;> fin_cases k <;> pointwise <;> rfl

theorem joinTwo_apply (a u : FVec Ideal S128x2x1024 .f32) (s : Fin 128) (c : Fin 1024) :
    (addf (mulf (Host.slice S128x1x1024 ![0, 1, 0] ![1, 2, 1] a slicesBy_S128x2x1024_S128x1x1024_0s1_1s2_0s1) (Host.slice S128x1x1024 ![0, 0, 0] ![1, 2, 1] u slicesBy_S128x2x1024_S128x1x1024_0s1_0s2_0s1)) (Host.slice S128x1x1024 ![0, 1, 0] ![1, 2, 1] u slicesBy_S128x2x1024_S128x1x1024_0s1_1s2_0s1) : FVec Ideal S128x1x1024 .f32) (ix3 s 0 c)
        = pairAdded (fun t => a (ix3 s ⟨t % 2, by omega⟩ c)) (fun t => u (ix3 s ⟨t % 2, by omega⟩ c)) 0 := by
  pointwise
  rfl

/-! ## The first addition, read off the scatter -/

theorem lands (s' s : Fin 128) (c' c : Fin 1024) (t : Fin 8) (idx : IVec S1 32) (hidx : ∀ i, idx i = 0#32) :
    scatter_S128x8x1024_S1_S128x1024_01_1_1_0.resultIdx? (ix2 s' c') idx = some (ix3 s t c) ↔ s' = s ∧ c' = c ∧ t = 0 := by
  have w0 : scatter_S128x8x1024_S1_S128x1024_01_1_1_0.window (ix2 s' c') 0 = s'.val := rfl
  have w1 : scatter_S128x8x1024_S1_S128x1024_01_1_1_0.window (ix2 s' c') 1 = 0 := rfl
  have w2 : scatter_S128x8x1024_S1_S128x1024_01_1_1_0.window (ix2 s' c') 2 = c'.val := rfl
  have b : ∀ a, scatter_S128x8x1024_S1_S128x1024_01_1_1_0.start (ix2 s' c') idx a = 0 := fun a => by
    unfold ScatterDims.start
    split
    · rw [hidx]; rfl
    · rfl
  have inside : ∀ a, 0 ≤ scatter_S128x8x1024_S1_S128x1024_01_1_1_0.start (ix2 s' c') idx a + scatter_S128x8x1024_S1_S128x1024_01_1_1_0.window (ix2 s' c') a
      ∧ scatter_S128x8x1024_S1_S128x1024_01_1_1_0.start (ix2 s' c') idx a + scatter_S128x8x1024_S1_S128x1024_01_1_1_0.window (ix2 s' c') a < S128x8x1024.size a := fun a => by
    rw [b a]
    fin_cases a
    · show 0 ≤ (0 : Int) + (s'.val : Int) ∧ (0 : Int) + (s'.val : Int) < 128
      omega
    · show 0 ≤ (0 : Int) + ((0 : ℕ) : Int) ∧ (0 : Int) + ((0 : ℕ) : Int) < 8
      omega
    · show 0 ≤ (0 : Int) + (c'.val : Int) ∧ (0 : Int) + (c'.val : Int) < 1024
      omega
  have there : scatter_S128x8x1024_S1_S128x1024_01_1_1_0.resultIdx? (ix2 s' c') idx = some (ix3 s' 0 c') := by
    unfold ScatterDims.resultIdx?
    rw [dif_pos inside]
    refine congrArg some (funext fun a => Fin.ext ?_)
    show (scatter_S128x8x1024_S1_S128x1024_01_1_1_0.start (ix2 s' c') idx a + scatter_S128x8x1024_S1_S128x1024_01_1_1_0.window (ix2 s' c') a).toNat = _
    rw [b a]
    fin_cases a
    · show ((0 : Int) + (s'.val : Int)).toNat = s'.val
      omega
    · rfl
    · show ((0 : Int) + (c'.val : Int)).toNat = c'.val
      omega
  rw [there]
  constructor
  · intro h
    have h := Option.some.inj h
    exact ⟨congrFun h 0, congrFun h 2, (congrFun h 1).symm⟩
  · rintro ⟨rfl, rfl, rfl⟩
    rfl

theorem scatter_first (x : FVec Ideal S128x8x1024 .f32) (idx : IVec S1 32) (hidx : ∀ i, idx i = 0#32) (upd : FVec Ideal S128x1024 .f32) (s : Fin 128) (t : Fin 8) (c : Fin 1024) :
    Host.scatter scatter_S128x8x1024_S1_S128x1024_01_1_1_0 (FloatOps.addf (F := Ideal) (φ := .f32)) x idx upd (ix3 s t c) = if t = 0 then (x (ix3 s t c) : EReal) + upd (ix2 s c) else x (ix3 s t c) := by
  rw [Routing.scatter_at]
  have hl : ∀ n : Fin S128x1024.numel, scatter_S128x8x1024_S1_S128x1024_01_1_1_0.resultIdx? (S128x1024.rowMajor.symm n) idx = some (ix3 s t c) ↔ t = 0 ∧ S128x1024.rowMajor.symm n = ix2 s c := fun n => by
    generalize S128x1024.rowMajor.symm n = j
    obtain ⟨j0, j1, rfl⟩ : ∃ j0 j1, j = ix2 j0 j1 := ⟨j 0, j 1, funext fun a => by fin_cases a <;> rfl⟩
    rw [lands j0 s j1 c t idx hidx]
    constructor
    · rintro ⟨rfl, rfl, rfl⟩
      exact ⟨rfl, rfl⟩
    · rintro ⟨ht, h⟩
      exact ⟨congrFun h 0, congrFun h 1, ht⟩
  by_cases ht : t = 0
  · rw [if_pos ht]
    refine (foldl_once (fun b n => FloatOps.addf (F := Ideal) (φ := .f32) b (upd (S128x1024.rowMajor.symm n))) _ (S128x1024.rowMajor (ix2 s c)) (fun n => ?_) _ (List.nodup_finRange _) (List.mem_finRange _) _).trans ?_
    · rw [hl n, Equiv.symm_apply_eq]
      exact ⟨fun h => h.2, fun h => ⟨ht, h⟩⟩
    · show (x (ix3 s t c) : EReal) + upd (S128x1024.rowMajor.symm (S128x1024.rowMajor (ix2 s c))) = _
      rw [Equiv.symm_apply_apply]
  · rw [if_neg ht]
    generalize x (ix3 s t c) = b
    induction List.finRange S128x1024.numel with
    | nil => rfl
    | cons n l ih =>
      rw [List.foldl_cons, if_neg fun h => ht ((hl n).1 h).1]
      exact ih

/-- The additions before the initial state is counted in. -/
def operand : FVec Ideal S128x8x1024 .f32 :=
  (mulf (Host.sqrt (Host.negf (Host.expm1 (mulf (broadcastInDim S128x8x1024 ![] bcast_S_S128x8x1024 (constant S_ .f32 0x40000000#32)) (res_main_v77 (F := Ideal) V0))))) (mulf (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (addf (shapeCast _ (transpose S128x8x8x128 [2, 3, 0, 1] (Host.dotGeneral (F := Ideal) (φ₁ := .f32) (φ₂ := .f32) dot_S8x128x128_S128x8x8x128_S8x128x128x8_1_3_2_01_0_2 none (shapeCast _ (V0 (Proc.devRef .tc main_arg5) : FVec Ideal S1x8x128x128 .f32) shapeCasts_S1x8x128x128_S8x128x128) (res_main_v42 (F := Ideal) V0)) transposes_S8x128x128x8_S128x8x8x128_2_3_0_1) shapeCasts_S128x8x8x128_S128x8x1024) (broadcastInDim S128x8x1024 ![0, 1, 2] bcast_S1x1x1024_S128x8x1024_0_1_2 (broadcastInDim S1x1x1024 ![2] bcast_S1024_S1x1x1024_2 (shapeCast _ (V0 (Proc.devRef .tc main_arg6) : FVec Ideal S1x1024 .f32) shapeCasts_S1x1024_S1024)))))))) (res_main_v41 (F := Ideal) V0)))

/-- What the initial state adds to the first. -/
def update : FVec Ideal S128x1024 .f32 :=
  (mulf (shapeCast _ (extractStridedSlice S128x1x1024 ![0, 0, 0] (res_main_v78 (F := Ideal) V0) slices_S128x8x1024_S128x1x1024_0_0_0) shapeCasts_S128x1x1024_S128x1024) (V0 (Proc.devRef .tc main_arg2) : FVec Ideal S128x1024 .f32))

theorem operand_apply (s : Fin 128) (t : Fin 8) (c : Fin 1024) : operand V0 (ix3 s t c) = added (weights V0) (window V0 s) t.val c := by
  pointwise [operand]
  unfold added
  rw [dot_apply, log_apply, mixed_apply, keep_eq]
  rfl

theorem update_apply (s : Fin 128) (c : Fin 1024) : update V0 (ix2 s c) = Ideal.exp (logDecay (weights V0) (window V0 s) 0 c) * V0 (Proc.devRef .tc main_arg2) (ix2 s c) := by
  refine Eq.trans ?_ (congrArg (· * V0 (Proc.devRef .tc main_arg2) (ix2 s c)) (decay_apply V0 s 0 c))
  pointwise [update]

theorem added_apply (s : Fin 128) (t : Fin 8) (c : Fin 1024) : res_main_v90 (F := Ideal) V0 (ix3 s t c)
      = first (fun t => Ideal.exp (logDecay (weights V0) (window V0 s) t c)) (fun t => added (weights V0) (window V0 s) t c) (V0 (Proc.devRef .tc main_arg2) (ix2 s c)) t.val := by
  refine (scatter_first (operand V0) (broadcastInDim S1 ![] bcast_S_S1 (constantI S_ 32 0#32)) (fun i => rfl) (update V0) s t c).trans ?_
  unfold first
  by_cases ht : t = 0
  · subst ht
    rw [if_pos rfl, if_pos (show (0 : Fin 8).val = 0 from rfl), operand_apply, update_apply]
    exact add_comm _ _
  · rw [if_neg ht, if_neg (show ¬ t.val = 0 from fun h => ht (Fin.ext h)), operand_apply]

/-! ## The scan, folded back -/

theorem scan_below {a a' u u' : ℕ → EReal} (t : ℕ) (ha : ∀ k, k ≤ t → a k = a' k) (hu : ∀ k, k ≤ t → u k = u' k) : scan a u t = scan a' u' t := by
  induction t with
  | zero => exact hu 0 le_rfl
  | succ t ih =>
    show a (t + 1) * scan a u t + u (t + 1) = a' (t + 1) * scan a' u' t + u' (t + 1)
    rw [ih (fun k hk => ha k (by omega)) (fun k hk => hu k (by omega)), ha _ le_rfl, hu _ le_rfl]

theorem fill_below (a u : ℕ → EReal) (ha : ∀ t, Tame (a t)) (p : ℕ → EReal) (n : ℕ) (hp : ∀ k, 2 * k + 1 < n → p k = scan (pairDecay a) (pairAdded a u) k) (t : ℕ) (ht : t < n) (hn : n % 2 = 0) :
    fillIn a u p t = scan a u t := by
  refine Eq.trans ?_ (fillIn_scan a u ha (scan (pairDecay a) (pairAdded a u)) (fun _ => rfl) t)
  unfold fillIn
  split_ifs with h0 h1
  · rfl
  · exact hp _ (by omega)
  · rw [hp _ (by omega)]

section levels

variable (s : Fin 128) (c : Fin 1024)

/-- The decays and additions of sequence `s` in column `c`, step by step, then joined by twos, then by fours. -/
def a8 (t : ℕ) : EReal := res_main_v78 (F := Ideal) V0 (ix3 s ⟨t % 8, by omega⟩ c)
def u8 (t : ℕ) : EReal := res_main_v90 (F := Ideal) V0 (ix3 s ⟨t % 8, by omega⟩ c)
def a4 (t : ℕ) : EReal := res_main_v95 (F := Ideal) V0 (ix3 s ⟨t % 4, by omega⟩ c)
def u4 (t : ℕ) : EReal := res_main_v97 (F := Ideal) V0 (ix3 s ⟨t % 4, by omega⟩ c)
def a2 (t : ℕ) : EReal := res_main_v102 (F := Ideal) V0 (ix3 s ⟨t % 2, by omega⟩ c)
def u2 (t : ℕ) : EReal := res_main_v104 (F := Ideal) V0 (ix3 s ⟨t % 2, by omega⟩ c)

theorem four_joined (k : ℕ) : a4 V0 s c k = pairDecay (a8 V0 s c) (k % 4) ∧ u4 V0 s c k = pairAdded (a8 V0 s c) (u8 V0 s c) (k % 4) :=
  joinEight_apply (res_main_v78 (F := Ideal) V0) (res_main_v90 (F := Ideal) V0) s ⟨k % 4, by omega⟩ c

theorem two_joined (k : ℕ) : a2 V0 s c k = pairDecay (a4 V0 s c) (k % 2) ∧ u2 V0 s c k = pairAdded (a4 V0 s c) (u4 V0 s c) (k % 2) :=
  joinFour_apply (res_main_v95 (F := Ideal) V0) (res_main_v97 (F := Ideal) V0) s ⟨k % 2, by omega⟩ c

theorem eight_tame (t : ℕ) : Tame (a8 V0 s c t) := by
  unfold a8
  rw [decay_apply]
  exact decay_tame _ _ _ _

theorem four_tame (t : ℕ) : Tame (a4 V0 s c t) := by
  rw [(four_joined V0 s c t).1]
  exact pairDecay_tame _ (eight_tame V0 s c) _

theorem two_tame (t : ℕ) : Tame (a2 V0 s c t) := by
  rw [(two_joined V0 s c t).1]
  exact pairDecay_tame _ (four_tame V0 s c) _

theorem two_filled (t : Fin 2) : res_main_v128 (F := Ideal) V0 (ix3 s t c) = scan (a2 V0 s c) (u2 V0 s c) t.val :=
  (fillTwo_apply (res_main_v102 (F := Ideal) V0) (res_main_v104 (F := Ideal) V0) _ (res_main_v111 (F := Ideal) V0) s t c).trans
    (fill_below (a2 V0 s c) (u2 V0 s c) (two_tame V0 s c) _ 2 (fun k hk => by
      obtain rfl : k = 0 := by omega
      exact joinTwo_apply (res_main_v102 (F := Ideal) V0) (res_main_v104 (F := Ideal) V0) s c) t.val t.isLt rfl)

theorem four_filled (t : Fin 4) : res_main_v145 (F := Ideal) V0 (ix3 s t c) = scan (a4 V0 s c) (u4 V0 s c) t.val :=
  (fillFour_apply (res_main_v95 (F := Ideal) V0) (res_main_v97 (F := Ideal) V0) (res_main_v128 (F := Ideal) V0) s t c).trans
    (fill_below (a4 V0 s c) (u4 V0 s c) (four_tame V0 s c) _ 4 (fun k hk => (two_filled V0 s c ⟨k % 2, by omega⟩).trans (by
      show Rnn.scan _ _ (k % 2) = _
      rw [Nat.mod_eq_of_lt (by omega)]
      exact scan_below k (fun j hj => by rw [(two_joined V0 s c j).1, Nat.mod_eq_of_lt (by omega)]) (fun j hj => by rw [(two_joined V0 s c j).2, Nat.mod_eq_of_lt (by omega)]))) t.val t.isLt rfl)

theorem eight_filled (t : Fin 8) : res_main_v162 (F := Ideal) V0 (ix3 s t c) = scan (a8 V0 s c) (u8 V0 s c) t.val :=
  (fillEight_apply (res_main_v78 (F := Ideal) V0) (res_main_v90 (F := Ideal) V0) (res_main_v145 (F := Ideal) V0) s t c).trans
    (fill_below (a8 V0 s c) (u8 V0 s c) (eight_tame V0 s c) _ 8 (fun k hk => (four_filled V0 s c ⟨k % 4, by omega⟩).trans (by
      show Rnn.scan _ _ (k % 4) = _
      rw [Nat.mod_eq_of_lt (by omega)]
      exact scan_below k (fun j hj => by rw [(four_joined V0 s c j).1, Nat.mod_eq_of_lt (by omega)]) (fun j hj => by rw [(four_joined V0 s c j).2, Nat.mod_eq_of_lt (by omega)]))) t.val t.isLt rfl)

theorem state_apply (t : Fin 8) : res_main_v162 (F := Ideal) V0 (ix3 s t c) = state (weights V0) (window V0 s) (fun c => V0 (Proc.devRef .tc main_arg2) (ix2 s c)) t.val c := by
  rw [eight_filled]
  refine scan_below t.val (fun k hk => ?_) (fun k hk => ?_)
  · refine (decay_apply V0 s ⟨k % 8, by omega⟩ c).trans ?_
    show Ideal.exp (logDecay _ _ (k % 8) c) = _
    rw [Nat.mod_eq_of_lt (by omega)]
  · refine (added_apply V0 s ⟨k % 8, by omega⟩ c).trans ?_
    show first _ _ _ (k % 8) = _
    rw [Nat.mod_eq_of_lt (by omega)]

end levels

/-! ## The results -/

theorem gate_apply (h x : FVec Ideal S128x8x1024 .f32) (r d : Fin 1024) :
    (truncf .bf16 (shapeCast S1024x1024 (mulf h (mulf x (mulf (broadcastInDim S128x8x1024 ![] bcast_S_S128x8x1024 (constant S_ .f32 0x3F000000#32)) (addf (broadcastInDim S128x8x1024 ![] bcast_S_S128x8x1024 (constant S_ .f32 0x3F800000#32)) (Host.tanh (mulf (broadcastInDim S128x8x1024 ![] bcast_S_S128x8x1024 (constant S_ .f32 0x3F4C422A#32)) (addf x (mulf (broadcastInDim S128x8x1024 ![] bcast_S_S128x8x1024 (constant S_ .f32 0x3D372713#32)) (mulf (mulf x x) x))))))))) shapeCasts_S128x8x1024_S1024x1024) bitsLt_bf16_f32 : FVec Ideal S1024x1024 .bf16) (ix2 r d)
      = h (ix3 ⟨r.val / 8, by omega⟩ ⟨r.val % 8, by omega⟩ d) * gelu (x (ix3 ⟨r.val / 8, by omega⟩ ⟨r.val % 8, by omega⟩ d)) := by
  pointwise
  rfl

theorem gateInput_apply (s : Fin 128) (t : Fin 8) (d : Fin 1024) : res_main_v3 (F := Ideal) V0 (ix3 s t d) = V0 (Proc.devRef .tc main_arg0) (ix2 ⟨s.val * 8 + t.val, by omega⟩ ⟨7168 + d.val, by omega⟩) := by
  pointwise [res_main_v3]

theorem carried_apply (j : Fin 3) (s : Fin 128) (d : Fin 1024) :
    transpose S3x128x1024 [1, 0, 2] (extractStridedSlice S128x3x1024 ![0, 8, 0] (res_main_v4 (F := Ideal) V0) slices_S128x11x1024_S128x3x1024_0_8_0) transposes_S128x3x1024_S3x128x1024_1_0_2 (ix3 j s d)
      = window V0 s (8 + j.val) d := by
  refine Eq.trans ?_ (window_apply V0 s ⟨8 + j.val, by omega⟩ d)
  pointwise

theorem last_apply (h : FVec Ideal S128x8x1024 .f32) (s : Fin 128) (d : Fin 1024) :
    shapeCast S128x1x1024 (shapeCast S128x1024 (extractStridedSlice S128x1x1024 ![0, 7, 0] h slices_S128x8x1024_S128x1x1024_0_7_0) shapeCasts_S128x1x1024_S128x1024) shapeCasts_S128x1024_S128x1x1024 (ix3 s 0 d)
      = h (ix3 s 7 d) := by
  pointwise

end Cert.RnnReferenceIdeal.Hand
-- ==== Proof.RnnFinal.lean ====
/-
  Hand-written. The RG-LRU branch at the sample's shapes: its values at the ideal values, and the claims.
-/
module

public import proofs.«01_k».proof.Proof.Gen.RnnKernelIdeal.Value
public import proofs.«01_k».proof.Proof.Gen.RnnKernel.Frame
public import proofs.«01_k».proof.Proof.RnnBody
public import proofs.«01_k».proof.Proof.RnnReference
public import proofs.«01_k».proof.Proof.MemFinal
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.RnnKernelIdeal.Hand

open Cert.RnnKernelIdeal Cert.RnnKernelIdeal.Gen Cert.Hand Cert.Hand.Rnn
open Idealize.ShloMosaic Idealize.ShloMosaic.TcCoe Idealize.ShloMosaic.Tactic
open Idealize.SL.Sem
open Cert.MergeKernelIdeal.Hand (at2 block_at block_at_zero)
open Cert.MemKernelIdeal.Hand (at3)

/-! ## The arrays of the whole call, from its arguments -/

section Whole

variable (p : FVec Ideal S1024x13312 .f32) (carried : FVec Ideal S128x3x1024 .f32) (conv : FVec Ideal S1x4x1024 .f32) (wi wa : FVec Ideal S1x8x128x128 .f32) (bias bi ba lam : FVec Ideal S1x1024 .f32)
  (h0 : FVec Ideal S128x1024 .f32)

/-- Sequence `s`'s window: the three entries carried in, then its eight tokens. -/
def wholeWindow (s : Fin 128) (j : ℕ) (c : Fin 1024) : EReal :=
  if j < 3 then carried (ix3 s (Fin.ofNat 3 j) c) else p (ix2 ⟨s.val * 8 + (j - 3) % 8, by omega⟩ ⟨6144 + c.val, by omega⟩)

/-- The weights. -/
def wholeWeights : Weights where
  conv j c := conv (ix3 0 j c)
  bias c := bias (ix2 0 c)
  input n k d := wi (ix4 0 n k d)
  inputBias c := bi (ix2 0 c)
  decay n k d := wa (ix4 0 n k d)
  decayBias c := ba (ix2 0 c)
  lam c := lam (ix2 0 c)

/-- Sequence `s`'s state after step `t`. -/
def wholeState (s : Fin 128) (t : ℕ) (c : Fin 1024) : EReal :=
  state (wholeWeights conv wi wa bias bi ba lam) (wholeWindow p carried s) (fun c => h0 (ix2 s c)) t c

/-- The gated output. -/
def wholeGated (y : S1024x1024.Idx) : EReal :=
  wholeState p carried conv wi wa bias bi ba lam h0 ⟨(y 0).val / 8, by have h : (y 0).val < 1024 := (y 0).isLt; omega⟩ ((y 0).val % 8) (y 1)
    * gelu (p (ix2 (y 0) ⟨7168 + (y 1).val, by have h : (y 1).val < 1024 := (y 1).isLt; omega⟩))

/-- The last three tokens' columns. -/
def wholeCarried (y : S3x128x1024.Idx) : EReal :=
  p (ix2 ⟨(y 1).val * 8 + (5 + (y 0).val), by have h : (y 1).val < 128 := (y 1).isLt; have h' : (y 0).val < 3 := (y 0).isLt; omega⟩ ⟨6144 + (y 2).val, by have h : (y 2).val < 1024 := (y 2).isLt; omega⟩)

/-- The last state. -/
def wholeLast (y : S128x1x1024.Idx) : EReal := wholeState p carried conv wi wa bias bi ba lam h0 (y 0) 7 (y 2)

theorem gated_at (y : S1024x1024.Idx) (s : Fin 128) (k : ℕ) (d r : Fin 1024) (hk : k < 8) (hs : (y 0).val = s.val * 8 + k) (hr : (y 0).val = r.val) (hd : (y 1).val = d.val) :
    wholeState p carried conv wi wa bias bi ba lam h0 s k d * gelu (p (ix2 r ⟨7168 + d.val, by omega⟩)) = wholeGated p carried conv wi wa bias bi ba lam h0 y := by
  unfold wholeGated
  have e : wholeState p carried conv wi wa bias bi ba lam h0 s k d = wholeState p carried conv wi wa bias bi ba lam h0 ⟨(y 0).val / 8, by have h : (y 0).val < 1024 := (y 0).isLt; omega⟩ ((y 0).val % 8) (y 1) := by
    rw [show s = ⟨(y 0).val / 8, by have h : (y 0).val < 1024 := (y 0).isLt; omega⟩ from Fin.ext (by show s.val = (y 0).val / 8; omega), show k = (y 0).val % 8 by omega, show d = y 1 from Fin.ext hd.symm]
  rw [e]
  exact congrArg (fun x => _ * gelu (p x)) (congrArg₂ ix2 (Fin.ext hr.symm) (Fin.ext (by show 7168 + d.val = 7168 + (y 1).val; omega)))

end Whole

/-! ## The kernel's blocks -/

section Blocks
variable (m : (ℓ : Loc nD τ sig) → Buf (Elt Ideal) ℓ) (c : Dev nD)

abbrev arg0 : FVec Ideal S1024x13312 .f32 := m ((c.tc : Thread nD τ).loc main_arg0)
abbrev arg1 : FVec Ideal S128x3x1024 .f32 := m ((c.tc : Thread nD τ).loc main_arg1)
abbrev arg2 : FVec Ideal S128x1024 .f32 := m ((c.tc : Thread nD τ).loc main_arg2)
abbrev arg3 : FVec Ideal S1x4x1024 .f32 := m ((c.tc : Thread nD τ).loc main_arg3)
abbrev arg4 : FVec Ideal S1x1024 .f32 := m ((c.tc : Thread nD τ).loc main_arg4)
abbrev arg5 : FVec Ideal S1x8x128x128 .f32 := m ((c.tc : Thread nD τ).loc main_arg5)
abbrev arg6 : FVec Ideal S1x1024 .f32 := m ((c.tc : Thread nD τ).loc main_arg6)
abbrev arg7 : FVec Ideal S1x8x128x128 .f32 := m ((c.tc : Thread nD τ).loc main_arg7)
abbrev arg8 : FVec Ideal S1x1024 .f32 := m ((c.tc : Thread nD τ).loc main_arg8)
abbrev arg9 : FVec Ideal S1x1024 .f32 := m ((c.tc : Thread nD τ).loc main_arg9)

theorem turned_apply (x : FVec Ideal S128x3x1024 .f32) (j : Fin 3) (s : Fin 128) (d : Fin 1024) : transpose S3x128x1024 [1, 0, 2] x transposes_S128x3x1024_S3x128x1024_1_0_2 (ix3 j s d) = x (ix3 s j d) := by
  pointwise
theorem lifted_apply (x : FVec Ideal S128x1024 .f32) (s : Fin 128) (d : Fin 1024) : shapeCast S128x1x1024 x shapeCasts_S128x1024_S128x1x1024 (ix3 s 0 d) = x (ix2 s d) := by
  pointwise
theorem lowered_apply (x : FVec Ideal S1x4x1024 .f32) (j : Fin 4) (d : Fin 1024) : shapeCast S4x1024 x shapeCasts_S1x4x1024_S4x1024 (ix2 j d) = x (ix3 0 j d) := by
  pointwise
theorem row_apply (x : FVec Ideal S1x1024 .f32) (d : Fin 1024) : shapeCast S1x1024 (shapeCast S1024 x shapeCasts_S1x1024_S1024) shapeCasts_S1024_S1x1024 (ix2 0 d) = x (ix2 0 d) := by
  pointwise
theorem pair_apply (x y : FVec Ideal S1x8x128x128 .f32) (n : Fin 8) (k d : Fin 128) :
    (truncf .bf16 (concatenate S8x128x256 2 [⟨S8x128x128, shapeCast S8x128x128 x shapeCasts_S1x8x128x128_S8x128x128⟩, ⟨S8x128x128, shapeCast S8x128x128 y shapeCasts_S1x8x128x128_S8x128x128⟩] concatenates_S8x128x128_S8x128x128_S8x128x256_d2) bitsLt_bf16_f32 : FVec Ideal S8x128x256 .bf16) (ix3 n k ⟨d.val, by omega⟩) = x (ix4 0 n k d)
    ∧ (truncf .bf16 (concatenate S8x128x256 2 [⟨S8x128x128, shapeCast S8x128x128 x shapeCasts_S1x8x128x128_S8x128x128⟩, ⟨S8x128x128, shapeCast S8x128x128 y shapeCasts_S1x8x128x128_S8x128x128⟩] concatenates_S8x128x128_S8x128x128_S8x128x256_d2) bitsLt_bf16_f32 : FVec Ideal S8x128x256 .bf16) (ix3 n k ⟨128 + d.val, by omega⟩) = y (ix4 0 n k d) := by
  constructor
  · pointwise
  · pointwise

theorem v4_apply (j : Fin 3) (s : Fin 128) (d : Fin 1024) : V (F := Ideal) m c main_v4 (ix3 j s d) = (arg1 m c (ix3 s j d) : EReal) := by
  entry_read; exact turned_apply _ j s d
theorem v5_apply (s : Fin 128) (d : Fin 1024) : V (F := Ideal) m c main_v5 (ix3 s 0 d) = (arg2 m c (ix2 s d) : EReal) := by
  entry_read; exact lifted_apply _ s d
theorem v6_apply (j : Fin 4) (d : Fin 1024) : V (F := Ideal) m c main_v6 (ix2 j d) = (arg3 m c (ix3 0 j d) : EReal) := by
  entry_read; exact lowered_apply _ j d
theorem v11_apply (d : Fin 1024) : V (F := Ideal) m c main_v11 (ix2 0 d) = (arg4 m c (ix2 0 d) : EReal) := by
  entry_read; exact row_apply _ d
theorem v12_apply (d : Fin 1024) : V (F := Ideal) m c main_v12 (ix2 0 d) = (arg6 m c (ix2 0 d) : EReal) := by
  entry_read; exact row_apply _ d
theorem v13_apply (d : Fin 1024) : V (F := Ideal) m c main_v13 (ix2 0 d) = (arg8 m c (ix2 0 d) : EReal) := by
  entry_read; exact row_apply _ d
theorem v14_apply (d : Fin 1024) : V (F := Ideal) m c main_v14 (ix2 0 d) = (arg9 m c (ix2 0 d) : EReal) := by
  entry_read; exact row_apply _ d
theorem v3_input (n : Fin 8) (k d : Fin 128) : V (F := Ideal) m c main_v3 (ix3 n k ⟨d.val, by omega⟩) = (arg5 m c (ix4 0 n k d) : EReal) := by
  entry_read; exact (pair_apply _ _ n k d).1
theorem v3_decay (n : Fin 8) (k d : Fin 128) : V (F := Ideal) m c main_v3 (ix3 n k ⟨128 + d.val, by omega⟩) = (arg7 m c (ix4 0 n k d) : EReal) := by
  entry_read; exact (pair_apply _ _ n k d).2

theorem idx : ∀ t : Fin cfg0.N, ((cfg0.win 0).index t 0 = t.val ∧ (cfg0.win 0).index t 1 = 6) ∧ ((cfg0.win 1).index t 0 = t.val ∧ (cfg0.win 1).index t 1 = 7)
    ∧ ((cfg0.win 2).index t 0 = 0 ∧ (cfg0.win 2).index t 1 = t.val ∧ (cfg0.win 2).index t 2 = 0) ∧ ((cfg0.win 3).index t 0 = t.val ∧ (cfg0.win 3).index t 1 = 0 ∧ (cfg0.win 3).index t 2 = 0)
    ∧ ((cfg0.win 10).index t 0 = t.val ∧ (cfg0.win 10).index t 1 = 0) ∧ ((cfg0.win 11).index t 0 = 0 ∧ (cfg0.win 11).index t 1 = t.val ∧ (cfg0.win 11).index t 2 = 0)
    ∧ ((cfg0.win 12).index t 0 = t.val ∧ (cfg0.win 12).index t 1 = 0 ∧ (cfg0.win 12).index t 2 = 0) := by decide +kernel
theorem idxWeights : ∀ t : Fin cfg0.N, ((cfg0.win 4).index t 0 = 0 ∧ (cfg0.win 4).index t 1 = 0) ∧ ((cfg0.win 5).index t 0 = 0 ∧ (cfg0.win 5).index t 1 = 0)
    ∧ ((cfg0.win 6).index t 0 = 0 ∧ (cfg0.win 6).index t 1 = 0 ∧ (cfg0.win 6).index t 2 = 0) ∧ ((cfg0.win 7).index t 0 = 0 ∧ (cfg0.win 7).index t 1 = 0)
    ∧ ((cfg0.win 8).index t 0 = 0 ∧ (cfg0.win 8).index t 1 = 0) ∧ ((cfg0.win 9).index t 0 = 0 ∧ (cfg0.win 9).index t 1 = 0) := by decide +kernel
theorem lt_N (t : Fin cfg0.N) : t.val < 8 := Nat.lt_of_lt_of_eq t.isLt N_0

theorem iblk0_apply (t : Fin cfg0.N) (r : Fin 128) (k : Fin 1024) (h) : iblk (F := Ideal) m c 0 t (ix2 r k) = (arg0 m c (ix2 ⟨128 * t.val + r.val, h⟩ ⟨6144 + k.val, by omega⟩) : EReal) :=
  (congrFun (V_main_arg0 m c) _).trans (at2 (arg0 m c) _ _ _ (block_at (idx t).1.1 (Nat.mul_comm _ _)) (block_at (idx t).1.2 rfl))
theorem iblk1_apply (t : Fin cfg0.N) (r : Fin 128) (k : Fin 1024) (h) : iblk (F := Ideal) m c 1 t (ix2 r k) = (arg0 m c (ix2 ⟨128 * t.val + r.val, h⟩ ⟨7168 + k.val, by omega⟩) : EReal) :=
  (congrFun (V_main_arg0 m c) _).trans (at2 (arg0 m c) _ _ _ (block_at (idx t).2.1.1 (Nat.mul_comm _ _)) (block_at (idx t).2.1.2 rfl))
theorem iblk2_apply (t : Fin cfg0.N) (j : Fin 3) (q : Fin 16) (k : Fin 1024) (h) : iblk (F := Ideal) m c 2 t (ix3 j q k) = (arg1 m c (ix3 ⟨16 * t.val + q.val, h⟩ j k) : EReal) :=
  (at3 (V (F := Ideal) m c main_v4) _ j ⟨16 * t.val + q.val, h⟩ k (block_at_zero (idx t).2.2.1.1) (block_at (idx t).2.2.1.2.1 (Nat.mul_comm _ _)) (block_at_zero (idx t).2.2.1.2.2)).trans (v4_apply m c j _ k)
theorem iblk3_apply (t : Fin cfg0.N) (q : Fin 16) (k : Fin 1024) (h) : iblk (F := Ideal) m c 3 t (ix3 q 0 k) = (arg2 m c (ix2 ⟨16 * t.val + q.val, h⟩ k) : EReal) :=
  (at3 (V (F := Ideal) m c main_v5) _ ⟨16 * t.val + q.val, h⟩ 0 k (block_at (idx t).2.2.2.1.1 (Nat.mul_comm _ _)) (block_at_zero (idx t).2.2.2.1.2.1) (block_at_zero (idx t).2.2.2.1.2.2)).trans (v5_apply m c _ k)

theorem weights_eq (t : Fin cfg0.N) : weights (iblk (F := Ideal) m c 4 t) (iblk m c 5 t) (iblk m c 6 t) (iblk m c 7 t) (iblk m c 8 t) (iblk m c 9 t)
    = wholeWeights (arg3 m c) (arg5 m c) (arg7 m c) (arg4 m c) (arg6 m c) (arg8 m c) (arg9 m c) := by
  unfold weights wholeWeights
  simp only [Weights.mk.injEq]
  refine ⟨funext fun j => funext fun d => ?_, funext fun d => ?_, funext fun n => funext fun k => funext fun d => ?_, funext fun d => ?_, funext fun n => funext fun k => funext fun d => ?_, funext fun d => ?_, funext fun d => ?_⟩
  · exact (at2 (V (F := Ideal) m c main_v6) _ j d (block_at_zero (idxWeights t).1.1) (block_at_zero (idxWeights t).1.2)).trans (v6_apply m c j d)
  · exact (at2 (V (F := Ideal) m c main_v11) _ 0 d (block_at_zero (idxWeights t).2.1.1) (block_at_zero (idxWeights t).2.1.2)).trans (v11_apply m c d)
  · exact (at3 (V (F := Ideal) m c main_v3) _ n k ⟨d.val, by omega⟩ (block_at_zero (idxWeights t).2.2.1.1) (block_at_zero (idxWeights t).2.2.1.2.1) (block_at_zero (idxWeights t).2.2.1.2.2)).trans (v3_input m c n k d)
  · exact (at2 (V (F := Ideal) m c main_v12) _ 0 d (block_at_zero (idxWeights t).2.2.2.1.1) (block_at_zero (idxWeights t).2.2.2.1.2)).trans (v12_apply m c d)
  · exact (at3 (V (F := Ideal) m c main_v3) _ n k ⟨128 + d.val, by omega⟩ (block_at_zero (idxWeights t).2.2.1.1) (block_at_zero (idxWeights t).2.2.1.2.1) (block_at_zero (idxWeights t).2.2.1.2.2)).trans (v3_decay m c n k d)
  · exact (at2 (V (F := Ideal) m c main_v13) _ 0 d (block_at_zero (idxWeights t).2.2.2.2.1.1) (block_at_zero (idxWeights t).2.2.2.2.1.2)).trans (v13_apply m c d)
  · exact (at2 (V (F := Ideal) m c main_v14) _ 0 d (block_at_zero (idxWeights t).2.2.2.2.2.1) (block_at_zero (idxWeights t).2.2.2.2.2.2)).trans (v14_apply m c d)

theorem window_eq (t : Fin cfg0.N) (q : Fin 16) (h) : window (iblk (F := Ideal) m c 0 t) (iblk m c 2 t) q = wholeWindow (arg0 m c) (arg1 m c) ⟨16 * t.val + q.val, h⟩ := by
  funext j d
  have ht := lt_N t
  unfold window wholeWindow
  split
  · exact iblk2_apply m c t _ q d h
  · refine (iblk0_apply m c t _ d (by dsimp only; omega)).trans (congrArg (arg0 m c) (congrArg₂ ix2 (Fin.ext ?_) rfl))
    show 128 * t.val + (q.val * 8 + (j - 3) % 8) = (16 * t.val + q.val) * 8 + (j - 3) % 8
    omega

abbrev stateM (s : Fin 128) (t : ℕ) (d : Fin 1024) : EReal := wholeState (arg0 m c) (arg1 m c) (arg3 m c) (arg5 m c) (arg7 m c) (arg4 m c) (arg6 m c) (arg8 m c) (arg9 m c) (arg2 m c) s t d
abbrev gatedM : S1024x1024.Idx → EReal := wholeGated (arg0 m c) (arg1 m c) (arg3 m c) (arg5 m c) (arg7 m c) (arg4 m c) (arg6 m c) (arg8 m c) (arg9 m c) (arg2 m c)
abbrev carriedM : S3x128x1024.Idx → EReal := wholeCarried (arg0 m c)
abbrev lastM : S128x1x1024.Idx → EReal := wholeLast (arg0 m c) (arg1 m c) (arg3 m c) (arg5 m c) (arg7 m c) (arg4 m c) (arg6 m c) (arg8 m c) (arg9 m c) (arg2 m c)

theorem state_eq (t : Fin cfg0.N) (q : Fin 16) (h) (k : ℕ) (d : Fin 1024) :
    state (weights (iblk (F := Ideal) m c 4 t) (iblk m c 5 t) (iblk m c 6 t) (iblk m c 7 t) (iblk m c 8 t) (iblk m c 9 t)) (window (iblk (F := Ideal) m c 0 t) (iblk m c 2 t) q) (fun c' => iblk (F := Ideal) m c 3 t (ix3 q 0 c')) k d
      = stateM m c ⟨16 * t.val + q.val, h⟩ k d := by
  rw [weights_eq, window_eq m c t q h]
  exact congrArg (fun f => state _ _ f k d) (funext fun d => iblk3_apply m c t q d h)

theorem final_gated : (dats (F := Ideal) m 0 c).arrAt 10 cfg0.N = gatedM m c := by
  refine (dats (F := Ideal) m 0 c).arrAt_eq_of_covers 10 _ (by decide +kernel) fun t hf y => ?_
  have h0 : (y 0).val < 128 := (y 0).isLt
  have h1 : (y 1).val < 1024 := (y 1).isLt
  have ht := lt_N t
  refine (congrFun (after0_10 m c t) _).trans (Eq.trans (congrArg (out0_10 (iblk m c 0 t) (iblk m c 1 t) (iblk m c 2 t) (iblk m c 3 t) (iblk m c 4 t) (iblk m c 5 t) (iblk m c 6 t) (iblk m c 7 t) (iblk m c 8 t) (iblk m c 9 t)) (funext fun a => by
      fin_cases a
      · exact Fin.ext (by show (y 0).val = (y 0).val / 8 * 8 + (y 0).val % 8; omega)
      · rfl))
    ((outGated_apply _ _ _ _ _ _ _ _ _ _ ⟨(y 0).val / 8, by omega⟩ ⟨(y 0).val % 8, by omega⟩ ⟨(y 1).val, h1⟩).trans ?_))
  refine (congrArg₂ (· * ·) (state_eq m c t ⟨(y 0).val / 8, by omega⟩ (by dsimp only; omega) ((y 0).val % 8) ⟨(y 1).val, h1⟩) (congrArg gelu (iblk1_apply m c t _ ⟨(y 1).val, h1⟩ (by dsimp only; omega)))).trans ?_
  exact gated_at _ _ _ _ _ _ _ _ _ _ _ _ _ _ _ (by omega) (Eq.trans (block_at (idx t).2.2.2.2.1.1 (Nat.mul_comm _ _)) (by show 128 * t.val + (y 0).val = (16 * t.val + (y 0).val / 8) * 8 + (y 0).val % 8; omega))
    (Eq.trans (block_at (idx t).2.2.2.2.1.1 (Nat.mul_comm _ _)) (by show 128 * t.val + (y 0).val = 128 * t.val + ((y 0).val / 8 * 8 + (y 0).val % 8); omega)) (block_at_zero (idx t).2.2.2.2.1.2)

theorem final_carried : (dats (F := Ideal) m 0 c).arrAt 11 cfg0.N = carriedM m c := by
  refine (dats (F := Ideal) m 0 c).arrAt_eq_of_covers 11 _ (by decide +kernel) fun t hf y => ?_
  have h0 : (y 0).val < 3 := (y 0).isLt
  have h1 : (y 1).val < 16 := (y 1).isLt
  have h2 : (y 2).val < 1024 := (y 2).isLt
  have ht := lt_N t
  refine (congrFun (after0_11 m c t) _).trans (Eq.trans (congrArg (out0_11 (iblk m c 0 t) (iblk m c 1 t) (iblk m c 2 t) (iblk m c 3 t) (iblk m c 4 t) (iblk m c 5 t) (iblk m c 6 t) (iblk m c 7 t) (iblk m c 8 t) (iblk m c 9 t)) (funext fun a => by
      fin_cases a <;> rfl))
    ((outWindow_apply _ _ _ _ _ _ _ _ _ _ ⟨(y 1).val, h1⟩ ⟨(y 0).val, h0⟩ ⟨(y 2).val, h2⟩).trans ((iblk0_apply m c t _ ⟨(y 2).val, h2⟩ (by dsimp only; omega)).trans ?_)))
  refine congrArg (arg0 m c) (congrArg₂ ix2 (Fin.ext ?_) (Fin.ext ?_))
  · show 128 * t.val + ((y 1).val * 8 + (5 + (y 0).val)) = ((cfg0.win 11).index t 1 * 16 + 1 * (y 1).val) * 8 + (5 + ((cfg0.win 11).index t 0 * 3 + 1 * (y 0).val))
    rw [(idx t).2.2.2.2.2.1.1, (idx t).2.2.2.2.2.1.2.1]
    omega
  · show 6144 + (y 2).val = 6144 + ((cfg0.win 11).index t 2 * 1024 + 1 * (y 2).val)
    rw [(idx t).2.2.2.2.2.1.2.2]
    omega

theorem final_last : (dats (F := Ideal) m 0 c).arrAt 12 cfg0.N = lastM m c := by
  refine (dats (F := Ideal) m 0 c).arrAt_eq_of_covers 12 _ (by decide +kernel) fun t hf y => ?_
  have h0 : (y 0).val < 16 := (y 0).isLt
  have h1 : (y 1).val < 1 := (y 1).isLt
  have h2 : (y 2).val < 1024 := (y 2).isLt
  have ht := lt_N t
  refine (congrFun (after0_12 m c t) _).trans (Eq.trans (congrArg (out0_12 (iblk m c 0 t) (iblk m c 1 t) (iblk m c 2 t) (iblk m c 3 t) (iblk m c 4 t) (iblk m c 5 t) (iblk m c 6 t) (iblk m c 7 t) (iblk m c 8 t) (iblk m c 9 t)) (funext fun a => by
      fin_cases a
      · rfl
      · exact Fin.ext (by show (y 1).val = 0; omega)
      · rfl))
    ((outState_apply _ _ _ _ _ _ _ _ _ _ ⟨(y 0).val, h0⟩ ⟨(y 2).val, h2⟩).trans ((state_eq m c t ⟨(y 0).val, h0⟩ (by dsimp only; omega) 7 ⟨(y 2).val, h2⟩).trans ?_)))
  exact congrArg₂ (fun s d => stateM m c s 7 d) (Fin.ext (block_at (idx t).2.2.2.2.2.2.1 (Nat.mul_comm _ _)).symm) (Fin.ext (block_at_zero (idx t).2.2.2.2.2.2.2.2).symm)

end Blocks

/-! ## The reference's results -/

section Reference
variable (m : (ℓ : Loc Cert.RnnReferenceIdeal.nD Cert.RnnReferenceIdeal.τ Cert.RnnReferenceIdeal.sig) → Buf (Elt Ideal) ℓ) (c : Dev Cert.RnnReferenceIdeal.nD)

abbrev ref0 : FVec Ideal S1024x13312 .f32 := m ((c.tc : Thread Cert.RnnReferenceIdeal.nD Cert.RnnReferenceIdeal.τ).loc Cert.RnnReferenceIdeal.main_arg0)
abbrev ref1 : FVec Ideal S128x3x1024 .f32 := m ((c.tc : Thread Cert.RnnReferenceIdeal.nD Cert.RnnReferenceIdeal.τ).loc Cert.RnnReferenceIdeal.main_arg1)
abbrev ref2 : FVec Ideal S128x1024 .f32 := m ((c.tc : Thread Cert.RnnReferenceIdeal.nD Cert.RnnReferenceIdeal.τ).loc Cert.RnnReferenceIdeal.main_arg2)
abbrev ref3 : FVec Ideal S1x4x1024 .f32 := m ((c.tc : Thread Cert.RnnReferenceIdeal.nD Cert.RnnReferenceIdeal.τ).loc Cert.RnnReferenceIdeal.main_arg3)
abbrev ref4 : FVec Ideal S1x1024 .f32 := m ((c.tc : Thread Cert.RnnReferenceIdeal.nD Cert.RnnReferenceIdeal.τ).loc Cert.RnnReferenceIdeal.main_arg4)
abbrev ref5 : FVec Ideal S1x8x128x128 .f32 := m ((c.tc : Thread Cert.RnnReferenceIdeal.nD Cert.RnnReferenceIdeal.τ).loc Cert.RnnReferenceIdeal.main_arg5)
abbrev ref6 : FVec Ideal S1x1024 .f32 := m ((c.tc : Thread Cert.RnnReferenceIdeal.nD Cert.RnnReferenceIdeal.τ).loc Cert.RnnReferenceIdeal.main_arg6)
abbrev ref7 : FVec Ideal S1x8x128x128 .f32 := m ((c.tc : Thread Cert.RnnReferenceIdeal.nD Cert.RnnReferenceIdeal.τ).loc Cert.RnnReferenceIdeal.main_arg7)
abbrev ref8 : FVec Ideal S1x1024 .f32 := m ((c.tc : Thread Cert.RnnReferenceIdeal.nD Cert.RnnReferenceIdeal.τ).loc Cert.RnnReferenceIdeal.main_arg8)
abbrev ref9 : FVec Ideal S1x1024 .f32 := m ((c.tc : Thread Cert.RnnReferenceIdeal.nD Cert.RnnReferenceIdeal.τ).loc Cert.RnnReferenceIdeal.main_arg9)

theorem ref_state (s : Fin 128) (t : Fin 8) (d : Fin 1024) : Cert.RnnReferenceIdeal.Value.res_main_v162 (F := Ideal) (StableHlo.launchContents m c) (ix3 s t d)
      = wholeState (ref0 m c) (ref1 m c) (ref3 m c) (ref5 m c) (ref7 m c) (ref4 m c) (ref6 m c) (ref8 m c) (ref9 m c) (ref2 m c) s t.val d :=
  (Cert.RnnReferenceIdeal.Hand.state_apply (StableHlo.launchContents m c) s d t).trans rfl

theorem ref_gated (y : S1024x1024.Idx) (f : S1024x1024.Idx → EReal) (h x : FVec Ideal Cert.RnnReferenceIdeal.S128x8x1024 .f32)
    (hf : ∀ r d : Fin 1024, f (ix2 r d) = h (ix3 ⟨r.val / 8, by omega⟩ ⟨r.val % 8, by omega⟩ d) * gelu (x (ix3 ⟨r.val / 8, by omega⟩ ⟨r.val % 8, by omega⟩ d)))
    (hh : ∀ (s : Fin 128) (t : Fin 8) (d : Fin 1024), h (ix3 s t d) = wholeState (ref0 m c) (ref1 m c) (ref3 m c) (ref5 m c) (ref7 m c) (ref4 m c) (ref6 m c) (ref8 m c) (ref9 m c) (ref2 m c) s t.val d)
    (hx : ∀ (s : Fin 128) (t : Fin 8) (d : Fin 1024), x (ix3 s t d) = ref0 m c (ix2 ⟨s.val * 8 + t.val, by omega⟩ ⟨7168 + d.val, by omega⟩)) :
    f y = wholeGated (ref0 m c) (ref1 m c) (ref3 m c) (ref5 m c) (ref7 m c) (ref4 m c) (ref6 m c) (ref8 m c) (ref9 m c) (ref2 m c) y := by
  obtain ⟨r, d, rfl⟩ : ∃ (r d : Fin 1024), y = ix2 r d := ⟨y 0, y 1, (ix2_eta y).symm⟩
  refine (hf r d).trans ((congrArg₂ (· * ·) (hh _ _ d) (congrArg gelu (hx _ _ d))).trans ?_)
  exact gated_at (ref0 m c) (ref1 m c) (ref3 m c) (ref5 m c) (ref7 m c) (ref4 m c) (ref6 m c) (ref8 m c) (ref9 m c) (ref2 m c) (ix2 r d) ⟨r.val / 8, by omega⟩ (r.val % 8) d
    ⟨r.val / 8 * 8 + r.val % 8, by omega⟩ (by omega) (by show r.val = r.val / 8 * 8 + r.val % 8; omega) (by show r.val = r.val / 8 * 8 + r.val % 8; omega) rfl

theorem ref_carried (j : Fin 3) (s : Fin 128) (d : Fin 1024) : Cert.RnnReferenceIdeal.Hand.window (StableHlo.launchContents m c) s (8 + j.val) d = wholeCarried (ref0 m c) (ix3 j s d) := by
  unfold Cert.RnnReferenceIdeal.Hand.window
  rw [if_neg (by omega)]
  exact congrArg (ref0 m c) (congrArg₂ ix2 (Fin.ext (by show s.val * 8 + (8 + j.val - 3) % 8 = s.val * 8 + (5 + j.val); omega)) rfl)

end Reference

/-- The arrays of the whole call, of equal arguments. -/
theorem args_eq (m : (ℓ : Loc nD τ sig) → Buf (Elt Ideal) ℓ) (c : Dev nD) (m' : (ℓ : Loc Cert.RnnReferenceIdeal.nD Cert.RnnReferenceIdeal.τ Cert.RnnReferenceIdeal.sig) → Buf (Elt Ideal) ℓ)
    (m0 : ref0 m' c = arg0 m c) (m1 : ref1 m' c = arg1 m c) (m2 : ref2 m' c = arg2 m c) (m3 : ref3 m' c = arg3 m c) (m4 : ref4 m' c = arg4 m c) (m5 : ref5 m' c = arg5 m c) (m6 : ref6 m' c = arg6 m c)
    (m7 : ref7 m' c = arg7 m c) (m8 : ref8 m' c = arg8 m c) (m9 : ref9 m' c = arg9 m c) (y : S1024x1024.Idx) (s : Fin 128) (t : ℕ) (d : Fin 1024) (z : S3x128x1024.Idx) :
    wholeGated (ref0 m' c) (ref1 m' c) (ref3 m' c) (ref5 m' c) (ref7 m' c) (ref4 m' c) (ref6 m' c) (ref8 m' c) (ref9 m' c) (ref2 m' c) y = gatedM m c y
      ∧ wholeCarried (ref0 m' c) z = carriedM m c z
      ∧ wholeState (ref0 m' c) (ref1 m' c) (ref3 m' c) (ref5 m' c) (ref7 m' c) (ref4 m' c) (ref6 m' c) (ref8 m' c) (ref9 m' c) (ref2 m' c) s t d = stateM m c s t d := by
  rw [m0, m1, m2, m3, m4, m5, m6, m7, m8, m9]
  exact ⟨rfl, rfl, rfl⟩

/-! ## The claims -/

theorem frame_kernel : Cert.quiescent_RnnKernel := fun m ρ _ => Cert.RnnKernel.Gen.frame m ρ
theorem frame_kernelIdeal : Cert.quiescent_RnnKernelIdeal := fun m ρ _ => Cert.RnnKernelIdeal.Gen.frame m ρ
theorem frame_reference : Cert.quiescent_RnnReferenceIdeal := fun m ρ _ =>
  (θ_run Cert.RnnReferenceIdeal.defs _ _).mono (fun r h => ⟨fun c => (h c).2.2.2, sem_eq_zero_of_no_sems (by decide) r.2⟩)
    (Cert.RnnReferenceIdeal.Value.run (F := Ideal) m ρ)

theorem algebraic : Cert.algebraic_RnnKernelIdeal_RnnReferenceIdeal := fun m g m' g' _ hm =>
  ⟨fun c => gatedM m c, fun c => carriedM m c, fun c => lastM m c,
    (θ_run Cert.RnnKernelIdeal.defs _ _).mono (fun r h c => ⟨(h c).1.trans (final_gated m c), (h c).2.1.trans (final_carried m c), (h c).2.2.1.trans (final_last m c), (h c).2.2.2⟩) (Cert.RnnKernelIdeal.Value.run_blocks (F := Ideal) m g),
    (θ_run Cert.RnnReferenceIdeal.defs _ _).mono (fun r h c => by
      obtain ⟨m0, m1, m2, m3, m4, m5, m6, m7, m8, m9⟩ := hm c
      refine ⟨(h c).1.trans (funext fun y => ?_), (h c).2.1.trans (funext fun y => ?_), (h c).2.2.1.trans (funext fun y => ?_), (h c).2.2.2⟩
      · exact (ref_gated m' c y _ _ _ (fun r d => Cert.RnnReferenceIdeal.Hand.gate_apply _ _ r d) (ref_state m' c) (Cert.RnnReferenceIdeal.Hand.gateInput_apply (StableHlo.launchContents m' c))).trans (args_eq m c m' m0 m1 m2 m3 m4 m5 m6 m7 m8 m9 y 0 0 0 (ix3 0 0 0)).1
      · obtain ⟨j, s, d, rfl⟩ : ∃ (j : Fin 3) (s : Fin 128) (d : Fin 1024), y = ix3 j s d := ⟨y 0, y 1, y 2, (ix3_eta y).symm⟩
        exact (Cert.RnnReferenceIdeal.Hand.carried_apply _ j s d).trans ((ref_carried m' c j s d).trans (args_eq m c m' m0 m1 m2 m3 m4 m5 m6 m7 m8 m9 (ix2 0 0) 0 0 0 (ix3 j s d)).2.1)
      · obtain ⟨s, j, d, rfl⟩ : ∃ (s : Fin 128) (j : Fin 1) (d : Fin 1024), y = ix3 s j d := ⟨y 0, y 1, y 2, (ix3_eta y).symm⟩
        obtain rfl : j = 0 := Subsingleton.elim _ _
        exact (Cert.RnnReferenceIdeal.Hand.last_apply _ s d).trans ((ref_state m' c s 7 d).trans (args_eq m c m' m0 m1 m2 m3 m4 m5 m6 m7 m8 m9 (ix2 0 0) s 7 d (ix3 0 0 0)).2.2))
      (Cert.RnnReferenceIdeal.Value.run (F := Ideal) m' g')⟩

end Cert.RnnKernelIdeal.Hand

end
-- ==== Proof.GdnBody.lean ====
/-
  Hand-written. The gated DeltaNet branch at the sample's shapes: the block of the carried window that its body leaves.
-/
module

public import proofs.«01_k».proof.Proof.Gen.GdnKernelIdeal.Frame
public import Idealize.ShloMosaic.Lib.Pipeline.ValueKit
public import Idealize.ShloMosaic.Lib.Pointwise

@[expose] public section

set_option maxRecDepth 16384

noncomputable section

namespace Cert.GdnKernelIdeal.Hand

open Cert.GdnKernelIdeal Cert.GdnKernelIdeal.Gen
open Idealize.ShloMosaic Idealize.ShloMosaic.TcCoe Idealize.ShloMosaic.Tactic

/-! ## The last three tokens of a block's columns, as the body stores them -/

theorem row61 (x : FVec Ideal S128x1024 .f32) (i : S1x16x1024.Idx) : k0_pay61 (F := Ideal) (k0_pay57 x) i = x (ix2 ⟨(i 1).val * 8 + 7, by have h : (i 1).val < 16 := (i 1).isLt; omega⟩ (i 2)) := by
  pointwise [k0_pay61, k0_pay57]
theorem row60 (x : FVec Ideal S128x1024 .f32) (i : S1x16x1024.Idx) : k0_pay60 (F := Ideal) (k0_pay57 x) i = x (ix2 ⟨(i 1).val * 8 + 6, by have h : (i 1).val < 16 := (i 1).isLt; omega⟩ (i 2)) := by
  pointwise [k0_pay60, k0_pay57]
theorem row59 (x : FVec Ideal S128x1024 .f32) (i : S1x16x1024.Idx) : k0_pay59 (F := Ideal) x i = x (ix2 ⟨(i 1).val * 8 + 5, by have h : (i 1).val < 16 := (i 1).isLt; omega⟩ (i 2)) := by
  pointwise [k0_pay59, k0_pay57]
theorem row39 (x : FVec Ideal S128x1024 .f32) (i : S1x16x1024.Idx) : k0_pay39 (F := Ideal) (k0_pay34 x) i = x (ix2 ⟨(i 1).val * 8 + 7, by have h : (i 1).val < 16 := (i 1).isLt; omega⟩ (i 2)) := by
  pointwise [k0_pay39, k0_pay34]
theorem row38 (x : FVec Ideal S128x1024 .f32) (i : S1x16x1024.Idx) : k0_pay38 (F := Ideal) (k0_pay34 x) i = x (ix2 ⟨(i 1).val * 8 + 6, by have h : (i 1).val < 16 := (i 1).isLt; omega⟩ (i 2)) := by
  pointwise [k0_pay38, k0_pay34]
theorem row37 (x : FVec Ideal S128x1024 .f32) (i : S1x16x1024.Idx) : k0_pay37 (F := Ideal) (k0_pay36 x) i = x (ix2 ⟨(i 1).val * 8 + 5, by have h : (i 1).val < 16 := (i 1).isLt; omega⟩ (i 2)) := by
  pointwise [k0_pay37, k0_pay36, k0_pay34]
theorem row18 (x : FVec Ideal S128x1024 .f32) (i : S1x16x1024.Idx) : k0_pay18 (F := Ideal) (k0_pay17 (k0_pay13 x)) i = x (ix2 ⟨(i 1).val * 8 + 7, by have h : (i 1).val < 16 := (i 1).isLt; omega⟩ (i 2)) := by
  pointwise [k0_pay18, k0_pay17, k0_pay13]
theorem row16 (x : FVec Ideal S128x1024 .f32) (i : S1x16x1024.Idx) : k0_pay16 (F := Ideal) (k0_pay13 x) i = x (ix2 ⟨(i 1).val * 8 + 6, by have h : (i 1).val < 16 := (i 1).isLt; omega⟩ (i 2)) := by
  pointwise [k0_pay16, k0_pay13]
theorem row15 (x : FVec Ideal S128x1024 .f32) (i : S1x16x1024.Idx) : k0_pay15 (F := Ideal) (k0_pay13 x) i = x (ix2 ⟨(i 1).val * 8 + 5, by have h : (i 1).val < 16 := (i 1).isLt; omega⟩ (i 2)) := by
  pointwise [k0_pay15, k0_pay13]

/-- The three column blocks of the projection, by number. -/
def columns (x0 x1 x2 : FVec Ideal S128x1024 .f32) (k : ℕ) : FVec Ideal S128x1024 .f32 := if k = 0 then x0 else if k = 1 then x1 else x2

/-- A block of the carried window: its entry of token `5 + j`, sequence `q`, and column. -/
def carriedBlock (x0 x1 x2 : FVec Ideal S128x1024 .f32) (y : S3x16x3072.Idx) : EReal :=
  columns x0 x1 x2 ((y 2).val / 1024) (ix2 ⟨(y 1).val * 8 + (5 + (y 0).val), by have h : (y 1).val < 16 := (y 1).isLt; have h' : (y 0).val < 3 := (y 0).isLt; omega⟩ ⟨(y 2).val % 1024, by omega⟩)

theorem carriedBlock_at (x0 x1 x2 : FVec Ideal S128x1024 .f32) (o k p : ℕ) (ho : o < 3) (hk : k < 3) (hp : p = 1024 * k)
    (hX : ∀ a, (![o, 0, p] : Fin 3 → ℕ) a + S1x16x1024.size a ≤ S3x16x3072.size a) (i : S1x16x1024.Idx) :
    columns x0 x1 x2 k (ix2 ⟨(i 1).val * 8 + (5 + o), by have h : (i 1).val < 16 := (i 1).isLt; omega⟩ (i 2))
      = carriedBlock x0 x1 x2 ((Rect.unit (s := S3x16x3072) ![o, 0, p] S1x16x1024.size hX).emb i) := by
  have h0 : (i 0).val < 1 := (i 0).isLt
  have h2 : (i 2).val < 1024 := (i 2).isLt
  have e0 : ((Rect.unit (s := S3x16x3072) ![o, 0, p] S1x16x1024.size hX).emb i 0).val = o := by show o + 1 * (i 0).val = o; omega
  have e1 : ((Rect.unit (s := S3x16x3072) ![o, 0, p] S1x16x1024.size hX).emb i 1).val = (i 1).val := by show 0 + 1 * (i 1).val = (i 1).val; omega
  have e2 : ((Rect.unit (s := S3x16x3072) ![o, 0, p] S1x16x1024.size hX).emb i 2).val = 1024 * k + (i 2).val := by show p + 1 * (i 2).val = 1024 * k + (i 2).val; omega
  unfold carriedBlock
  rw [show ((Rect.unit (s := S3x16x3072) ![o, 0, p] S1x16x1024.size hX).emb i 2).val / 1024 = k by omega]
  exact congrArg (columns x0 x1 x2 k) (congrArg₂ ix2 (Fin.ext (by show (i 1).val * 8 + (5 + o) = _ * 8 + (5 + _); omega)) (Fin.ext (by show (i 2).val = _ % 1024; omega)))

theorem offsets_zero : (![0, 0] : Fin 2 → ℕ) = fun _ => 0 := funext fun a => by fin_cases a <;> rfl

theorem outWindow_apply (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S3x16x3072 .f32) (harg7 : arg7.IsWhole) (arg8 : Memref sig .tc .vmem S4x3072 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S16x8x128x128 .f32) (harg12 : arg12.IsWhole) (arg13 : Memref sig .tc .vmem S128x1024 .bf16) (harg13 : arg13.IsWhole) (arg14 : Memref sig .tc .vmem S16x8x128x128 .f32) (harg14 : arg14.IsWhole) (arg15 : Memref sig .tc .vmem S3x16x3072 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole)
    (x0 : Vec Ideal S128x1024 .f32) (x1 : Vec Ideal S128x1024 .f32) (x2 : Vec Ideal S128x1024 .f32) (x3 : Vec Ideal S128x1024 .f32) (x4 : Vec Ideal S128x128 .f32) (x5 : Vec Ideal S3x16x3072 .f32) (x6 : Vec Ideal S4x3072 .f32) (x7 : Vec Ideal S1x128 .f32) (x8 : Vec Ideal S1x128 .f32) (x9 : Vec Ideal S1x128 .f32) (x10 : Vec Ideal S16x8x128x128 .f32) (y : S3x16x3072.Idx) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y = carriedBlock x0 x1 x2 y := by
  have hrow := carriedBlock_at x0 x1 x2
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  generalize cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = hcov
  revert hcov
  unfold kernelRun0_A
  dsimp only
  sl_unfold_words
  simp only [View.readAt_eq_ld, harg2.read_unread, harg3.read_unread, harg4.read_unread, View.ld_unit_zero (S := S128x1024) offsets_zero]
  intro hcov
  refine View.canon_apply_of_pieces (Val := Elt Ideal) (S := S3x16x3072) (e := .f32) (carriedBlock x0 x1 x2) _ ?_ y (hcov y)
  simp only [List.forall_mem_cons, List.not_mem_nil, false_implies, implies_true, and_true]
  exact ⟨fun i => (row61 x2 i).trans (hrow 2 2 2048 (by omega) (by omega) rfl _ i),
    fun i => (row60 x2 i).trans (hrow 1 2 2048 (by omega) (by omega) rfl _ i),
    fun i => (row59 x2 i).trans (hrow 0 2 2048 (by omega) (by omega) rfl _ i),
    fun i => (row39 x1 i).trans (hrow 2 1 1024 (by omega) (by omega) rfl _ i),
    fun i => (row38 x1 i).trans (hrow 1 1 1024 (by omega) (by omega) rfl _ i),
    fun i => (row37 x1 i).trans (hrow 0 1 1024 (by omega) (by omega) rfl _ i),
    fun i => (row18 x0 i).trans (hrow 2 0 0 (by omega) (by omega) rfl _ i),
    fun i => (row16 x0 i).trans (hrow 1 0 0 (by omega) (by omega) rfl _ i),
    fun i => (row15 x0 i).trans (hrow 0 0 0 (by omega) (by omega) rfl _ i)⟩

end Cert.GdnKernelIdeal.Hand

end
-- ==== Proof.GdnFinal.lean ====
/-
  Hand-written. The gated DeltaNet branch at the sample's shapes: the carried window at the ideal values, and the claims.
-/
module

public import proofs.«01_k».proof.Proof.Gen.GdnKernelIdeal.Value
public import proofs.«01_k».proof.Proof.Gen.GdnKernel.Frame
public import proofs.«01_k».proof.Proof.Gen.GdnReferenceIdeal.Run
public import proofs.«01_k».proof.Proof.GdnBody
public import proofs.«01_k».proof.Proof.MergeFinal
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.GdnKernelIdeal.Hand

open Cert.GdnKernelIdeal Cert.GdnKernelIdeal.Gen
open Idealize.ShloMosaic Idealize.ShloMosaic.TcCoe Idealize.ShloMosaic.Tactic
open Idealize.SL.Sem
open Cert.MergeKernelIdeal.Hand (at2 block_at block_at_zero)

/-- The carried window: the last three tokens of each sequence, columns 8192 to 11264 of the projection. -/
def wholeCarried (p : FVec Ideal S1024x13312 .f32) (y : S3x128x3072.Idx) : EReal :=
  p (ix2 ⟨(y 1).val * 8 + (5 + (y 0).val), by have h : (y 1).val < 128 := (y 1).isLt; have h' : (y 0).val < 3 := (y 0).isLt; omega⟩ ⟨8192 + (y 2).val, by have h : (y 2).val < 3072 := (y 2).isLt; omega⟩)

/-! ## The kernel's blocks -/

section Blocks
variable (m : (ℓ : Loc nD τ sig) → Buf (Elt Ideal) ℓ) (c : Dev nD)

abbrev arg0 : FVec Ideal S1024x13312 .f32 := m ((c.tc : Thread nD τ).loc main_arg0)

theorem idx : ∀ t : Fin cfg0.N, ((cfg0.win 0).index t 0 = t.val ∧ (cfg0.win 0).index t 1 = 8) ∧ ((cfg0.win 1).index t 0 = t.val ∧ (cfg0.win 1).index t 1 = 9)
    ∧ ((cfg0.win 2).index t 0 = t.val ∧ (cfg0.win 2).index t 1 = 10)
    ∧ ((cfg0.win 13).index t 0 = 0 ∧ (cfg0.win 13).index t 1 = t.val ∧ (cfg0.win 13).index t 2 = 0) := by decide +kernel
theorem lt_N (t : Fin cfg0.N) : t.val < 8 := Nat.lt_of_lt_of_eq t.isLt N_0

theorem iblk0_apply (t : Fin cfg0.N) (r : Fin 128) (k : Fin 1024) (h) : iblk (F := Ideal) m c 0 t (ix2 r k) = (arg0 m c (ix2 ⟨128 * t.val + r.val, h⟩ ⟨8192 + k.val, by omega⟩) : EReal) :=
  (congrFun (V_main_arg0 m c) _).trans (at2 (arg0 m c) _ _ _ (block_at (idx t).1.1 (Nat.mul_comm _ _)) (block_at (idx t).1.2 rfl))
theorem iblk1_apply (t : Fin cfg0.N) (r : Fin 128) (k : Fin 1024) (h) : iblk (F := Ideal) m c 1 t (ix2 r k) = (arg0 m c (ix2 ⟨128 * t.val + r.val, h⟩ ⟨9216 + k.val, by omega⟩) : EReal) :=
  (congrFun (V_main_arg0 m c) _).trans (at2 (arg0 m c) _ _ _ (block_at (idx t).2.1.1 (Nat.mul_comm _ _)) (block_at (idx t).2.1.2 rfl))
theorem iblk2_apply (t : Fin cfg0.N) (r : Fin 128) (k : Fin 1024) (h) : iblk (F := Ideal) m c 2 t (ix2 r k) = (arg0 m c (ix2 ⟨128 * t.val + r.val, h⟩ ⟨10240 + k.val, by omega⟩) : EReal) :=
  (congrFun (V_main_arg0 m c) _).trans (at2 (arg0 m c) _ _ _ (block_at (idx t).2.2.1.1 (Nat.mul_comm _ _)) (block_at (idx t).2.2.1.2 rfl))

/-- The three blocks are the columns from 8192 on. -/
theorem columns_apply (t : Fin cfg0.N) (d : Fin 3072) (r : Fin 128) (h) :
    columns (iblk (F := Ideal) m c 0 t) (iblk (F := Ideal) m c 1 t) (iblk (F := Ideal) m c 2 t) (d.val / 1024) (ix2 r ⟨d.val % 1024, by omega⟩)
      = (arg0 m c (ix2 ⟨128 * t.val + r.val, h⟩ ⟨8192 + d.val, by omega⟩) : EReal) := by
  have hd := d.isLt
  unfold columns
  by_cases h0 : d.val / 1024 = 0
  · rw [if_pos h0]
    exact (iblk0_apply m c t r _ h).trans (congrArg (arg0 m c) (congrArg₂ ix2 rfl (Fin.ext (by show 8192 + d.val % 1024 = 8192 + d.val; omega))))
  · rw [if_neg h0]
    by_cases h1 : d.val / 1024 = 1
    · rw [if_pos h1]
      exact (iblk1_apply m c t r _ h).trans (congrArg (arg0 m c) (congrArg₂ ix2 rfl (Fin.ext (by show 9216 + d.val % 1024 = 8192 + d.val; omega))))
    · rw [if_neg h1]
      exact (iblk2_apply m c t r _ h).trans (congrArg (arg0 m c) (congrArg₂ ix2 rfl (Fin.ext (by show 10240 + d.val % 1024 = 8192 + d.val; omega))))

theorem carriedBlock_eq (t : Fin cfg0.N) (y : S3x16x3072.Idx) (z : S3x128x3072.Idx) (h0 : (z 0).val = (y 0).val) (h1 : (z 1).val = t.val * 16 + (y 1).val) (h2 : (z 2).val = (y 2).val) :
    carriedBlock (iblk (F := Ideal) m c 0 t) (iblk (F := Ideal) m c 1 t) (iblk (F := Ideal) m c 2 t) y = wholeCarried (arg0 m c) z := by
  have y0 : (y 0).val < 3 := (y 0).isLt
  have y1 : (y 1).val < 16 := (y 1).isLt
  have ht := lt_N t
  refine (columns_apply m c t (y 2) ⟨(y 1).val * 8 + (5 + (y 0).val), by omega⟩ (by dsimp only; omega)).trans ?_
  exact congrArg (arg0 m c) (congrArg₂ ix2 (Fin.ext (by show 128 * t.val + ((y 1).val * 8 + (5 + (y 0).val)) = (z 1).val * 8 + (5 + (z 0).val); omega))
    (Fin.ext (by show 8192 + (y 2).val = 8192 + (z 2).val; omega)))

theorem outsAt_eq (t : Fin cfg0.N) : (outsAt0 (F := Ideal) m c t).2.2 = carriedBlock (iblk (F := Ideal) m c 0 t) (iblk (F := Ideal) m c 1 t) (iblk (F := Ideal) m c 2 t) := by
  unfold outsAt0
  dsimp only
  funext y
  rw [outWindow_apply]

theorem final_carried : (dats (F := Ideal) m 0 c).arrAt 13 cfg0.N = wholeCarried (arg0 m c) := by
  refine (dats (F := Ideal) m 0 c).arrAt_eq_of_covers 13 _ (by decide +kernel) fun t hf y => ?_
  refine (congrFun ((after0_13 m c t).trans (outsAt_eq m c t)) _).trans (Eq.trans (congrArg (carriedBlock (iblk (F := Ideal) m c 0 t) (iblk (F := Ideal) m c 1 t) (iblk (F := Ideal) m c 2 t)) (funext fun a => by fin_cases a <;> rfl : _ = (y : S3x16x3072.Idx))) ?_)
  exact carriedBlock_eq m c t y _ (block_at_zero (idx t).2.2.2.1) (block_at (idx t).2.2.2.2.1 rfl) (block_at_zero (idx t).2.2.2.2.2)

end Blocks

/-! ## The reference's result -/

theorem reference_apply (p : FVec Ideal S1024x13312 .f32) (b : FVec Ideal S128x3x3072 .f32) (h1 h2 h3 h4 h5) (j : Fin 3) (s : Fin 128) (d : Fin 3072) :
    transpose Cert.GdnReferenceIdeal.S3x128x3072 [1, 0, 2] (extractStridedSlice Cert.GdnReferenceIdeal.S128x3x3072 ![0, 8, 0] (concatenate Cert.GdnReferenceIdeal.S128x11x3072 1 [⟨Cert.GdnReferenceIdeal.S128x3x3072, b⟩,
      ⟨Cert.GdnReferenceIdeal.S128x8x3072, shapeCast Cert.GdnReferenceIdeal.S128x8x3072 (extractStridedSlice Cert.GdnReferenceIdeal.S1024x3072 ![0, 8192] p h1) h2⟩] h3) h4) h5 (ix3 j s d) = wholeCarried p (ix3 j s d) := by
  have hs := s.isLt
  have hj := j.isLt
  have hd := d.isLt
  refine Eq.trans (b := p (ix2 ⟨s.val * 8 + (5 + j.val), by omega⟩ ⟨8192 + d.val, by omega⟩)) ?_ rfl
  pointwise
  rw [dif_neg (by omega)]
  exact congrArg p (congrArg₂ ix2 (Fin.ext (by show s.val * 8 + (8 + j.val - 3) = s.val * 8 + (5 + j.val); omega)) rfl)

/-! ## The claims -/

theorem frame_kernel : Cert.quiescent_GdnKernel := fun m ρ _ => Cert.GdnKernel.Gen.frame m ρ
theorem frame_kernelIdeal : Cert.quiescent_GdnKernelIdeal := fun m ρ _ => Cert.GdnKernelIdeal.Gen.frame m ρ
theorem frame_reference : Cert.quiescent_GdnReferenceIdeal := fun m ρ _ =>
  (θ_run Cert.GdnReferenceIdeal.defs _ _).mono (fun r h => ⟨fun c => (h c).2, sem_eq_zero_of_no_sems (by decide) r.2⟩)
    (Cert.GdnReferenceIdeal.Value.run (F := Ideal) m ρ)

theorem algebraic : Cert.algebraic_GdnKernelIdeal_GdnReferenceIdeal := fun m g m' g' _ hm =>
  ⟨fun c => wholeCarried (arg0 m c),
    (θ_run Cert.GdnKernelIdeal.defs _ _).mono (fun r h c => ⟨(h c).2.2.1.trans (final_carried m c), (h c).2.2.2⟩) (Cert.GdnKernelIdeal.Value.run_blocks (F := Ideal) m g),
    (θ_run Cert.GdnReferenceIdeal.defs _ _).mono (fun r h c => by
      obtain ⟨m0, -⟩ := hm c
      refine ⟨(h c).1.trans (funext fun y => ?_), (h c).2⟩
      obtain ⟨j, s, d, rfl⟩ : ∃ (j : Fin 3) (s : Fin 128) (d : Fin 3072), y = ix3 j s d := ⟨y 0, y 1, y 2, (ix3_eta y).symm⟩
      exact (reference_apply _ _ _ _ _ _ _ j s d).trans (congrArg (fun p => wholeCarried p (ix3 j s d)) m0))
      (Cert.GdnReferenceIdeal.Value.run (F := Ideal) m' g')⟩

end Cert.GdnKernelIdeal.Hand

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Final
public import proofs.«01_k».proof.Proof.MlpFinal
public import proofs.«01_k».proof.Proof.OutFinal
public import proofs.«01_k».proof.Proof.MergeFinal
public import proofs.«01_k».proof.Proof.KvFinal
public import proofs.«01_k».proof.Proof.MemFinal
public import proofs.«01_k».proof.Proof.RnnFinal
public import proofs.«01_k».proof.Proof.GdnFinal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.MlpKernel.Gen.facts, Cert.MlpKernelIdeal.Gen.facts, Cert.MlpReferenceIdeal.Gen.facts, Cert.KvKernel.Gen.facts, Cert.KvKernelIdeal.Gen.facts, Cert.KvReferenceIdeal.Gen.facts, Cert.OutKernel.Gen.facts, Cert.OutKernelIdeal.Gen.facts, Cert.OutReferenceIdeal.Gen.facts, Cert.MergeKernel.Gen.facts, Cert.MergeKernelIdeal.Gen.facts, Cert.MergeReferenceIdeal.Gen.facts, Cert.MemKernel.Gen.facts, Cert.MemKernelIdeal.Gen.facts, Cert.MemReferenceIdeal.Gen.facts, Cert.RnnKernel.Gen.facts, Cert.RnnKernelIdeal.Gen.facts, Cert.RnnReferenceIdeal.Gen.facts, Cert.GdnKernel.Gen.facts, Cert.GdnKernelIdeal.Gen.facts, Cert.GdnReferenceIdeal.Gen.facts,
  Cert.KernelIdeal.Hand.frame_kernel, Cert.KernelIdeal.Hand.frame_kernelIdeal, Cert.KernelIdeal.Hand.frame_reference,
  Cert.MlpKernelIdeal.Hand.frame_kernel, Cert.MlpKernelIdeal.Hand.frame_kernelIdeal, Cert.MlpKernelIdeal.Hand.frame_reference,
  Cert.KvKernelIdeal.Hand.frame_kernel, Cert.KvKernelIdeal.Hand.frame_kernelIdeal, Cert.KvKernelIdeal.Hand.frame_reference,
  Cert.OutKernelIdeal.Hand.frame_kernel, Cert.OutKernelIdeal.Hand.frame_kernelIdeal, Cert.OutKernelIdeal.Hand.frame_reference,
  Cert.MergeKernelIdeal.Hand.frame_kernel, Cert.MergeKernelIdeal.Hand.frame_kernelIdeal, Cert.MergeKernelIdeal.Hand.frame_reference,
  Cert.MemKernelIdeal.Hand.frame_kernel, Cert.MemKernelIdeal.Hand.frame_kernelIdeal, Cert.MemKernelIdeal.Hand.frame_reference,
  Cert.RnnKernelIdeal.Hand.frame_kernel, Cert.RnnKernelIdeal.Hand.frame_kernelIdeal, Cert.RnnKernelIdeal.Hand.frame_reference,
  Cert.GdnKernelIdeal.Hand.frame_kernel, Cert.GdnKernelIdeal.Hand.frame_kernelIdeal, Cert.GdnKernelIdeal.Hand.frame_reference,
  trivial, Cert.KernelIdeal.Hand.algebraic,
  trivial, Cert.MlpKernelIdeal.Hand.algebraic,
  trivial, Cert.KvKernelIdeal.Hand.algebraic,
  trivial, Cert.OutKernelIdeal.Hand.algebraic,
  trivial, Cert.MergeKernelIdeal.Hand.algebraic,
  trivial, Cert.MemKernelIdeal.Hand.algebraic,
  trivial, Cert.RnnKernelIdeal.Hand.algebraic,
  trivial, Cert.GdnKernelIdeal.Hand.algebraic⟩

end Cert.Proof

end
